-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_and_inputs_finite_KernelIdeal [hPre_tables_and_inputs_finite_KernelIdeal : Cert.Pre_tables_and_inputs_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tables_and_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_and_inputs_finite_ReferenceIdeal [hPre_tables_and_inputs_finite_ReferenceIdeal : Cert.Pre_tables_and_inputs_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_and_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attention_inputs_finite [hPre_attention_inputs_finite : Cert.Pre_attention_inputs_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_inputs_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_attention_inputs_finite [hPre_attention_inputs_finite : Cert.Pre_attention_inputs_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_attention_inputs_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4)) (m ((c.tc : Thread Cert.AttentionReferenceIdeal.nD Cert.AttentionReferenceIdeal.τ).loc Cert.AttentionReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tables_and_inputs_finite_KernelIdeal [hKernelIdeal : Cert.KernelIdeal.Facts] [hPre_tables_and_inputs_finite_KernelIdeal : Cert.Pre_tables_and_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_and_inputs_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_and_inputs_finite_ReferenceIdeal [hReferenceIdeal : Cert.ReferenceIdeal.Facts] [hPre_tables_and_inputs_finite_ReferenceIdeal : Cert.Pre_tables_and_inputs_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_and_inputs_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ r.2.sem = fun _ => 0)

def quiescent_AttentionIdeal_pre_attention_inputs_finite [hAttentionIdeal : Cert.AttentionIdeal.Facts] [hPre_attention_inputs_finite : Cert.Pre_attention_inputs_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_inputs_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5))
      ∧ r.2.sem = fun _ => 0)

def quiescent_AttentionReferenceIdeal_pre_attention_inputs_finite [hAttentionReferenceIdeal : Cert.AttentionReferenceIdeal.Facts] [hPre_attention_inputs_finite : Cert.Pre_attention_inputs_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_attention_inputs_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5))
      ∧ r.2.sem = fun _ => 0)

def preserves_Kernel_KernelIdeal : Prop :=
  True

def algebraic_KernelIdeal_ReferenceIdeal_pre_tables_and_inputs_finite_KernelIdeal [hKernelIdeal : Cert.KernelIdeal.Facts] [hReferenceIdeal : Cert.ReferenceIdeal.Facts] [hPre_tables_and_inputs_finite_KernelIdeal : Cert.Pre_tables_and_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_and_inputs_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)) →
    ∃ (v0 : Buf (Elt Ideal) (((0 : Dev Cert.ReferenceIdeal.nD).tc : Thread Cert.ReferenceIdeal.nD Cert.ReferenceIdeal.τ).loc Cert.ReferenceIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v56) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def preserves_Attention_AttentionIdeal : Prop :=
  True

def algebraic_AttentionIdeal_AttentionReferenceIdeal_pre_attention_inputs_finite [hAttentionIdeal : Cert.AttentionIdeal.Facts] [hAttentionReferenceIdeal : Cert.AttentionReferenceIdeal.Facts] [hPre_attention_inputs_finite : Cert.Pre_attention_inputs_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_attention_inputs_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)
      ∧ m' ((c.tc : Thread Cert.AttentionReferenceIdeal.nD Cert.AttentionReferenceIdeal.τ).loc Cert.AttentionReferenceIdeal.main_arg5) = m ((c.tc : Thread Cert.AttentionIdeal.nD Cert.AttentionIdeal.τ).loc Cert.AttentionIdeal.main_arg5)) →
    ∃ (v0 : (c : Dev Cert.AttentionIdeal.nD) → Buf (Elt Ideal) ((c.tc : Thread Cert.AttentionIdeal.nD Cert.AttentionIdeal.τ).loc Cert.AttentionIdeal.main_v2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v2) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v54) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4)
          ∧ r.2.mem ((c.tc : Thread Cert.AttentionReferenceIdeal.nD Cert.AttentionReferenceIdeal.τ).loc Cert.AttentionReferenceIdeal.main_arg5) = m' ((c.tc : Thread Cert.AttentionReferenceIdeal.nD Cert.AttentionReferenceIdeal.τ).loc Cert.AttentionReferenceIdeal.main_arg5))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionReferenceIdeal : Cert.AttentionReferenceIdeal.Facts) (hPre_tables_and_inputs_finite_KernelIdeal : Cert.Pre_tables_and_inputs_finite_KernelIdeal.Facts) (hPre_tables_and_inputs_finite_ReferenceIdeal : Cert.Pre_tables_and_inputs_finite_ReferenceIdeal.Facts) (hPre_attention_inputs_finite : Cert.Pre_attention_inputs_finite.Facts),
    quiescent_Kernel (hKernel := hKernel)
    ∧ quiescent_KernelIdeal (hKernelIdeal := hKernelIdeal)
    ∧ quiescent_KernelIdeal_pre_tables_and_inputs_finite_KernelIdeal (hKernelIdeal := hKernelIdeal) (hPre_tables_and_inputs_finite_KernelIdeal := hPre_tables_and_inputs_finite_KernelIdeal)
    ∧ quiescent_ReferenceIdeal (hReferenceIdeal := hReferenceIdeal)
    ∧ quiescent_ReferenceIdeal_pre_tables_and_inputs_finite_ReferenceIdeal (hReferenceIdeal := hReferenceIdeal) (hPre_tables_and_inputs_finite_ReferenceIdeal := hPre_tables_and_inputs_finite_ReferenceIdeal)
    ∧ quiescent_Attention (hAttention := hAttention)
    ∧ quiescent_AttentionIdeal (hAttentionIdeal := hAttentionIdeal)
    ∧ quiescent_AttentionIdeal_pre_attention_inputs_finite (hAttentionIdeal := hAttentionIdeal) (hPre_attention_inputs_finite := hPre_attention_inputs_finite)
    ∧ quiescent_AttentionReferenceIdeal (hAttentionReferenceIdeal := hAttentionReferenceIdeal)
    ∧ quiescent_AttentionReferenceIdeal_pre_attention_inputs_finite (hAttentionReferenceIdeal := hAttentionReferenceIdeal) (hPre_attention_inputs_finite := hPre_attention_inputs_finite)
    ∧ preserves_Kernel_KernelIdeal
    ∧ algebraic_KernelIdeal_ReferenceIdeal_pre_tables_and_inputs_finite_KernelIdeal (hKernelIdeal := hKernelIdeal) (hReferenceIdeal := hReferenceIdeal) (hPre_tables_and_inputs_finite_KernelIdeal := hPre_tables_and_inputs_finite_KernelIdeal)
    ∧ preserves_Attention_AttentionIdeal
    ∧ algebraic_AttentionIdeal_AttentionReferenceIdeal_pre_attention_inputs_finite (hAttentionIdeal := hAttentionIdeal) (hAttentionReferenceIdeal := hAttentionReferenceIdeal) (hPre_attention_inputs_finite := hPre_attention_inputs_finite)
-- ==== Pre_attention_inputs_finite.lean ====
abbrev S1x2048x1024 : Shape := ⟨3, ![1, 2048, 1024]⟩
abbrev S1024x1024 : Shape := ⟨2, ![1024, 1024]⟩
abbrev S2048x128 : Shape := ⟨2, ![2048, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg5 : FVec F S2048x128 .f32) (main_v3 : IVec S_ 1) (main_v7 : IVec S_ 1) (main_v11 : IVec S_ 1) (main_v15 : IVec S_ 1) : IVec S_ 1 :=
  let main_v16 : FVec F S2048x128 .f32 := Host.absf main_arg5
  let main_cst_6 : FVec F S_ .f32 := constant S_ .f32 0x7F800000#32
  let main_v17 : FVec F S2048x128 .f32 := broadcastInDim S2048x128 ![] bcast_S_S2048x128 main_cst_6
  let main_v18 : IVec S2048x128 1 := cmpf .olt main_v16 main_v17
  let main_c_7 : IVec S_ 1 := constantI S_ 1 1#1
  let main_v19 : IVec S_ 1 := (fun x v => Host.reduce IntOp.andi x v reducesTo_S2048x128_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S2048x128 .f32) (main_arg5 : FVec F S2048x128 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S2048x128 .f32 := Host.absf main_arg4
  let main_cst_4 : FVec F S_ .f32 := constant S_ .f32 0x7F800000#32
  let main_v13 : FVec F S2048x128 .f32 := broadcastInDim S2048x128 ![] bcast_S_S2048x128 main_cst_4
  let main_v14 : IVec S2048x128 1 := cmpf .olt main_v12 main_v13
  let main_c_5 : IVec S_ 1 := constantI S_ 1 1#1
  let main_v15 : IVec S_ 1 := (fun x v => Host.reduce IntOp.andi x v reducesTo_S2048x128_S_d0_1 h_S_) main_v14 main_c_5
  fn_part1 (F := F) main_arg5 main_v3 main_v7 main_v11 main_v15
-- ==== Pre_tables_and_inputs_finite_KernelIdeal.lean ====
abbrev S1x2048x1024 : Shape := ⟨3, ![1, 2048, 1024]⟩
abbrev S1024x1024 : Shape := ⟨2, ![1024, 1024]⟩
abbrev S2048x128 : Shape := ⟨2, ![2048, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg6 : FVec F S2048x128 .f32) (main_v3 : IVec S_ 1) (main_v7 : IVec S_ 1) (main_v11 : IVec S_ 1) (main_v15 : IVec S_ 1) : IVec S_ 1 :=
  let main_v16 : FVec F S2048x128 .f32 := Host.absf main_arg6
  let main_cst_6 : FVec F S_ .f32 := constant S_ .f32 0x7F800000#32
  let main_v17 : FVec F S2048x128 .f32 := broadcastInDim S2048x128 ![] bcast_S_S2048x128 main_cst_6
  let main_v18 : IVec S2048x128 1 := cmpf .olt main_v16 main_v17
  let main_c_7 : IVec S_ 1 := constantI S_ 1 1#1
  let main_v19 : IVec S_ 1 := (fun x v => Host.reduce IntOp.andi x v reducesTo_S2048x128_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S1024x1024 .f32) (main_arg5 : FVec F S2048x128 .f32) (main_arg6 : FVec F S2048x128 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S2048x128 .f32 := Host.absf main_arg5
  let main_cst_4 : FVec F S_ .f32 := constant S_ .f32 0x7F800000#32
  let main_v13 : FVec F S2048x128 .f32 := broadcastInDim S2048x128 ![] bcast_S_S2048x128 main_cst_4
  let main_v14 : IVec S2048x128 1 := cmpf .olt main_v12 main_v13
  let main_c_5 : IVec S_ 1 := constantI S_ 1 1#1
  let main_v15 : IVec S_ 1 := (fun x v => Host.reduce IntOp.andi x v reducesTo_S2048x128_S_d0_1 h_S_) main_v14 main_c_5
  fn_part1 (F := F) main_arg6 main_v3 main_v7 main_v11 main_v15
-- ==== Pre_tables_and_inputs_finite_ReferenceIdeal.lean ====
abbrev S1x2048x1024 : Shape := ⟨3, ![1, 2048, 1024]⟩
abbrev S1024x8192 : Shape := ⟨2, ![1024, 8192]⟩
abbrev S8192x1024 : Shape := ⟨2, ![8192, 1024]⟩
abbrev S2048x128 : Shape := ⟨2, ![2048, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg6 : FVec F S2048x128 .f32) (main_v3 : IVec S_ 1) (main_v7 : IVec S_ 1) (main_v11 : IVec S_ 1) (main_v15 : IVec S_ 1) : IVec S_ 1 :=
  let main_v16 : FVec F S2048x128 .f32 := Host.absf main_arg6
  let main_cst_6 : FVec F S_ .f32 := constant S_ .f32 0x7F800000#32
  let main_v17 : FVec F S2048x128 .f32 := broadcastInDim S2048x128 ![] bcast_S_S2048x128 main_cst_6
  let main_v18 : IVec S2048x128 1 := cmpf .olt main_v16 main_v17
  let main_c_7 : IVec S_ 1 := constantI S_ 1 1#1
  let main_v19 : IVec S_ 1 := (fun x v => Host.reduce IntOp.andi x v reducesTo_S2048x128_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x2048x1024 .f32) (main_arg1 : FVec F S1024x8192 .f32) (main_arg2 : FVec F S1024x8192 .f32) (main_arg3 : FVec F S1024x8192 .f32) (main_arg4 : FVec F S8192x1024 .f32) (main_arg5 : FVec F S2048x128 .f32) (main_arg6 : FVec F S2048x128 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : FVec F S1024x8192 .f32 := Host.absf main_arg2
  let main_cst_2 : FVec F S_ .f32 := constant S_ .f32 0x7F800000#32
  let main_v9 : FVec F S1024x8192 .f32 := broadcastInDim S1024x8192 ![] bcast_S_S1024x8192 main_cst_2
  let main_v10 : IVec S1024x8192 1 := cmpf .olt main_v8 main_v9
  let main_c_3 : IVec S_ 1 := constantI S_ 1 1#1
  let main_v11 : IVec S_ 1 := (fun x v => Host.reduce IntOp.andi x v reducesTo_S1024x8192_S_d0_1 h_S_) main_v10 main_c_3
  let main_v12 : FVec F S2048x128 .f32 := Host.absf main_arg5
  let main_cst_4 : FVec F S_ .f32 := constant S_ .f32 0x7F800000#32
  let main_v13 : FVec F S2048x128 .f32 := broadcastInDim S2048x128 ![] bcast_S_S2048x128 main_cst_4
  let main_v14 : IVec S2048x128 1 := cmpf .olt main_v12 main_v13
  let main_c_5 : IVec S_ 1 := constantI S_ 1 1#1
  let main_v15 : IVec S_ 1 := (fun x v => Host.reduce IntOp.andi x v reducesTo_S2048x128_S_d0_1 h_S_) main_v14 main_c_5
  fn_part1 (F := F) main_arg6 main_v3 main_v7 main_v11 main_v15
-- ==== Kernel.lean ====
abbrev S1x2048x1024 : Shape := ⟨3, ![1, 2048, 1024]⟩
abbrev S1024x1024 : Shape := ⟨2, ![1024, 1024]⟩
abbrev S2048x128 : Shape := ⟨2, ![2048, 128]⟩
abbrev S128x128 : Shape := ⟨2, ![128, 128]⟩
abbrev S2048x1024 : Shape := ⟨2, ![2048, 1024]⟩
abbrev S1024x128 : Shape := ⟨2, ![1024, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S8x256x1024 : Shape := ⟨3, ![8, 256, 1024]⟩
abbrev S2x14x256x512 : Shape := ⟨4, ![2, 14, 256, 512]⟩
abbrev S2x8x256x512 : Shape := ⟨4, ![2, 8, 256, 512]⟩
abbrev S2x14 : Shape := ⟨2, ![2, 14]⟩
abbrev S_ : Shape := ⟨0, ![]⟩
abbrev S256x1024 : Shape := ⟨2, ![256, 1024]⟩
abbrev S1x256x1024 : Shape := ⟨3, ![1, 256, 1024]⟩
abbrev S256x512 : Shape := ⟨2, ![256, 512]⟩
abbrev S1x1x256x512 : Shape := ⟨4, ![1, 1, 256, 512]⟩
abbrev S1x1 : Shape := ⟨2, ![1, 1]⟩
abbrev S1x256x512 : Shape := ⟨3, ![1, 256, 512]⟩

abbrev nBuf : Space → Nat
  | .hbm => 12
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x128, .f32⟩
  | .hbm, ⟨6, _⟩ => ⟨S2048x128, .f32⟩
  | .hbm, ⟨7, _⟩ => ⟨S128x128, .f32⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S8x256x1024, .f32⟩
  | .local _ .vmem, ⟨0, _⟩ => ⟨S2048x1024, .bf16⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S2048x128, .f32⟩
  | .local _ .vmem, ⟨8, _⟩ => ⟨S2048x128, .f32⟩
  | .local _ .vmem, ⟨9, _⟩ => ⟨S128x128, .f32⟩
  | .local _ .vmem, ⟨10, _⟩ => ⟨S2048x128, .f32⟩
  | .local _ .vmem, ⟨11, _⟩ => ⟨S2048x128, .f32⟩
  | .local _ .vmem, ⟨12, _⟩ => ⟨S2048x1024, .f32⟩
  | .local _ .vmem, ⟨13, _⟩ => ⟨S1024x1024, .f32⟩
  | .local _ .vmem, ⟨14, _⟩ => ⟨S8x256x1024, .f32⟩
  | .local _ .vmem, ⟨15, _⟩ => ⟨S2x14x256x512, .bf16⟩
  | .local _ .vmem, ⟨16, _⟩ => ⟨S2x8x256x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev barrier0 : Sem sig := 0

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k1_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k1_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k1_cond1 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c0_i32_27 : BitVec 32 := 0#32
  let v38 : BitVec 1 := Scalar.cmpi .eq v14 c0_i32_27
  let v39 : BitVec 32 := Scalar.extui v38
  let c0_i32_28 : BitVec 32 := 0#32
  let v40 : BitVec 1 := Scalar.cmpi .ne v39 c0_i32_28
  v40

def k1_dev4 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond2 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c0_i32_29 : BitVec 32 := 0#32
  let v41 : BitVec 1 := Scalar.cmpi .eq v17 c0_i32_29
  let v42 : BitVec 32 := Scalar.extui v41
  let c0_i32_30 : BitVec 32 := 0#32
  let v43 : BitVec 1 := Scalar.cmpi .ne v42 c0_i32_30
  v43

def k1_dev5 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_cond3 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c1_i32_44 : BitVec 32 := 1#32
  let v61 : BitVec 1 := Scalar.cmpi .eq v14 c1_i32_44
  let v62 : BitVec 32 := Scalar.extui v61
  let c0_i32_45 : BitVec 32 := 0#32
  let v63 : BitVec 1 := Scalar.cmpi .ne v62 c0_i32_45
  v63

def k1_dev6 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond4 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c0_i32_46 : BitVec 32 := 0#32
  let v64 : BitVec 1 := Scalar.cmpi .eq v17 c0_i32_46
  let v65 : BitVec 32 := Scalar.extui v64
  let c0_i32_47 : BitVec 32 := 0#32
  let v66 : BitVec 1 := Scalar.cmpi .ne v65 c0_i32_47
  v66

def k1_dev7 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_cond5 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c0_i32_60 : BitVec 32 := 0#32
  let v84 : BitVec 1 := Scalar.cmpi .eq v14 c0_i32_60
  let v85 : BitVec 32 := Scalar.extui v84
  let c0_i32_61 : BitVec 32 := 0#32
  let v86 : BitVec 1 := Scalar.cmpi .ne v85 c0_i32_61
  v86

def k1_dev8 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond6 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c0_i32_62 : BitVec 32 := 0#32
  let v87 : BitVec 1 := Scalar.cmpi .eq v17 c0_i32_62
  let v88 : BitVec 32 := Scalar.extui v87
  let c0_i32_63 : BitVec 32 := 0#32
  let v89 : BitVec 1 := Scalar.cmpi .ne v88 c0_i32_63
  v89

def k1_dev9 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_cond7 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c1_i32_76 : BitVec 32 := 1#32
  let v107 : BitVec 1 := Scalar.cmpi .eq v14 c1_i32_76
  let v108 : BitVec 32 := Scalar.extui v107
  let c0_i32_77 : BitVec 32 := 0#32
  let v109 : BitVec 1 := Scalar.cmpi .ne v108 c0_i32_77
  v109

def k1_dev10 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond8 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c0_i32_78 : BitVec 32 := 0#32
  let v110 : BitVec 1 := Scalar.cmpi .eq v17 c0_i32_78
  let v111 : BitVec 32 := Scalar.extui v110
  let c0_i32_79 : BitVec 32 := 0#32
  let v112 : BitVec 1 := Scalar.cmpi .ne v111 c0_i32_79
  v112

def k1_dev11 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_cond9 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c0_i32_92 : BitVec 32 := 0#32
  let v130 : BitVec 1 := Scalar.cmpi .eq v14 c0_i32_92
  let v131 : BitVec 32 := Scalar.extui v130
  let c0_i32_93 : BitVec 32 := 0#32
  let v132 : BitVec 1 := Scalar.cmpi .ne v131 c0_i32_93
  v132

def k1_dev12 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond10 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c1_i32_94 : BitVec 32 := 1#32
  let v133 : BitVec 1 := Scalar.cmpi .eq v17 c1_i32_94
  let v134 : BitVec 32 := Scalar.extui v133
  let c0_i32_95 : BitVec 32 := 0#32
  let v135 : BitVec 1 := Scalar.cmpi .ne v134 c0_i32_95
  v135

def k1_dev13 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_cond11 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c1_i32_108 : BitVec 32 := 1#32
  let v153 : BitVec 1 := Scalar.cmpi .eq v14 c1_i32_108
  let v154 : BitVec 32 := Scalar.extui v153
  let c0_i32_109 : BitVec 32 := 0#32
  let v155 : BitVec 1 := Scalar.cmpi .ne v154 c0_i32_109
  v155

def k1_dev14 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond12 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c1_i32_110 : BitVec 32 := 1#32
  let v156 : BitVec 1 := Scalar.cmpi .eq v17 c1_i32_110
  let v157 : BitVec 32 := Scalar.extui v156
  let c0_i32_111 : BitVec 32 := 0#32
  let v158 : BitVec 1 := Scalar.cmpi .ne v157 c0_i32_111
  v158

def k1_dev15 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_cond13 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c0_i32_124 : BitVec 32 := 0#32
  let v176 : BitVec 1 := Scalar.cmpi .eq v14 c0_i32_124
  let v177 : BitVec 32 := Scalar.extui v176
  let c0_i32_125 : BitVec 32 := 0#32
  let v178 : BitVec 1 := Scalar.cmpi .ne v177 c0_i32_125
  v178

def k1_dev16 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond14 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c1_i32_126 : BitVec 32 := 1#32
  let v179 : BitVec 1 := Scalar.cmpi .eq v17 c1_i32_126
  let v180 : BitVec 32 := Scalar.extui v179
  let c0_i32_127 : BitVec 32 := 0#32
  let v181 : BitVec 1 := Scalar.cmpi .ne v180 c0_i32_127
  v181

def k1_dev17 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_cond15 (d0 : Dev nD) : BitVec 1 :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.andi v2 c1_i32_9
  let v14 : BitVec 32 := Scalar.subi c1_i32_10 v13
  let c1_i32_140 : BitVec 32 := 1#32
  let v199 : BitVec 1 := Scalar.cmpi .eq v14 c1_i32_140
  let v200 : BitVec 32 := Scalar.extui v199
  let c0_i32_141 : BitVec 32 := 0#32
  let v201 : BitVec 1 := Scalar.cmpi .ne v200 c0_i32_141
  v201

def k1_dev18 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1634 : BitVec 32 := 1#32
  let v1453 : BitVec 32 := Scalar.xori v2 c1_i32_1634
  let c1_i32_1643 : BitVec 32 := 1#32
  let v1454 : BitVec 32 := Scalar.muli v1453 c1_i32_1643
  let v1455 : BitVec 32 := Scalar.addi c0_i32_1644 v1454
  v1455.toNat
def k1_cond16 (d0 : Dev nD) : BitVec 1 :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v15 : BitVec 32 := Scalar.shrsi v2 c2_i32_11
  let c1_i32_12 : BitVec 32 := 1#32
  let v16 : BitVec 32 := Scalar.andi v15 c1_i32_12
  let v17 : BitVec 32 := Scalar.subi c1_i32_13 v16
  let c1_i32_142 : BitVec 32 := 1#32
  let v202 : BitVec 1 := Scalar.cmpi .eq v17 c1_i32_142
  let v203 : BitVec 32 := Scalar.extui v202
  let c0_i32_143 : BitVec 32 := 0#32
  let v204 : BitVec 1 := Scalar.cmpi .ne v203 c0_i32_143
  v204

def k1_dev19 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1634 : BitVec 32 := 4#32
  let v1453 : BitVec 32 := Scalar.xori v2 c4_i32_1634
  let c1_i32_1643 : BitVec 32 := 1#32
  let v1454 : BitVec 32 := Scalar.muli v1453 c1_i32_1643
  let v1455 : BitVec 32 := Scalar.addi c0_i32_1644 v1454
  v1455.toNat
def k1_off1 (d0 : Dev nD) (c0_i32_149 : BitVec 32) (c0_i32_144 : BitVec 32) (c0_i32_148 : BitVec 32) (c0_i32_147 : BitVec 32) : Fin 4 → Nat :=
  let c0_i32_169 : BitVec 32 := 0#32
  let c1_i32_146 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.shrsi v2 c0_i32_144
  let c1_i32_145 : BitVec 32 := 1#32
  let v206 : BitVec 32 := Scalar.andi v205 c1_i32_145
  let v207 : BitVec 32 := Scalar.subi c1_i32_146 v206
  let v209 : BitVec 32 := Scalar.shli v207 c0_i32_148
  let v210 : BitVec 32 := Scalar.ori c0_i32_149 v209
  let v208 : BitVec 32 := Scalar.andi v2 c0_i32_147
  let v211 : BitVec 32 := Scalar.ori v210 v208
  let c0_i32_175 : BitVec 32 := 0#32
  let c0_i32_176 : BitVec 32 := 0#32
  ![0, v211.toNat, 0, 0]
def k1_off1_at (r : Fin 7) : BitVec 32 × BitVec 32 × BitVec 32 × BitVec 32 :=
  if r.val < 3 then
    if r.val < 1 then
      (0#32, 0#32, 0#32, 0#32)
    else
      if r.val < 2 then
        (2#32, 0#32, 0#32, 0#32)
      else
        (4#32, 0#32, 0#32, 0#32)
  else
    if r.val < 5 then
      if r.val < 4 then
        (6#32, 0#32, 0#32, 0#32)
      else
        (0#32, 1#32, 1#32, 1#32)
    else
      if r.val < 6 then
        (4#32, 1#32, 1#32, 1#32)
      else
        (0#32, 2#32, 2#32, 3#32)
def k1_off2 (d0 : Dev nD) (c0_i32_151 : BitVec 32) (c0_i32_144 : BitVec 32) (c0_i32_150 : BitVec 32) (c0_i32_147 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.shrsi v2 c0_i32_144
  let c1_i32_145 : BitVec 32 := 1#32
  let v206 : BitVec 32 := Scalar.andi v205 c1_i32_145
  let v212 : BitVec 32 := Scalar.shli v206 c0_i32_150
  let v213 : BitVec 32 := Scalar.ori c0_i32_151 v212
  let v208 : BitVec 32 := Scalar.andi v2 c0_i32_147
  let v214 : BitVec 32 := Scalar.ori v213 v208
  let v251 : Index := Scalar.indexCast v214
  let c0_192 : Index := 0#32
  let c0_193 : Index := 0#32
  ![v251.toNat, 0, 0]
def k1_off2_at (r : Fin 7) : BitVec 32 × BitVec 32 × BitVec 32 × BitVec 32 :=
  if r.val < 3 then
    if r.val < 1 then
      (0#32, 0#32, 0#32, 0#32)
    else
      if r.val < 2 then
        (2#32, 0#32, 0#32, 0#32)
      else
        (4#32, 0#32, 0#32, 0#32)
  else
    if r.val < 5 then
      if r.val < 4 then
        (6#32, 0#32, 0#32, 0#32)
      else
        (0#32, 1#32, 1#32, 1#32)
    else
      if r.val < 6 then
        (4#32, 1#32, 1#32, 1#32)
      else
        (0#32, 2#32, 2#32, 3#32)
def k1_off3 (d0 : Dev nD) (c0_i32_151 : BitVec 32) (c0_i32_144 : BitVec 32) (c0_i32_150 : BitVec 32) (c0_i32_147 : BitVec 32) : Fin 4 → Nat :=
  let c0_200 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.shrsi v2 c0_i32_144
  let c1_i32_145 : BitVec 32 := 1#32
  let v206 : BitVec 32 := Scalar.andi v205 c1_i32_145
  let v212 : BitVec 32 := Scalar.shli v206 c0_i32_150
  let v213 : BitVec 32 := Scalar.ori c0_i32_151 v212
  let v208 : BitVec 32 := Scalar.andi v2 c0_i32_147
  let v214 : BitVec 32 := Scalar.ori v213 v208
  let v263 : Index := Scalar.indexCast v214
  let c0_201 : Index := 0#32
  let c0_202 : Index := 0#32
  ![0, v263.toNat, 0, 0]
def k1_off3_at (r : Fin 7) : BitVec 32 × BitVec 32 × BitVec 32 × BitVec 32 :=
  if r.val < 3 then
    if r.val < 1 then
      (0#32, 0#32, 0#32, 0#32)
    else
      if r.val < 2 then
        (2#32, 0#32, 0#32, 0#32)
      else
        (4#32, 0#32, 0#32, 0#32)
  else
    if r.val < 5 then
      if r.val < 4 then
        (6#32, 0#32, 0#32, 0#32)
      else
        (0#32, 1#32, 1#32, 1#32)
    else
      if r.val < 6 then
        (4#32, 1#32, 1#32, 1#32)
      else
        (0#32, 2#32, 2#32, 3#32)
def k1_dev20 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_323 : BitVec 32 := 2#32
  let v371 : BitVec 32 := Scalar.xori v2 c2_i32_323
  let c1_i32_331 : BitVec 32 := 1#32
  let v372 : BitVec 32 := Scalar.muli v371 c1_i32_331
  let v373 : BitVec 32 := Scalar.addi c0_i32_332 v372
  v373.toNat
def k1_dev21 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_337 : BitVec 32 := 2#32
  let v382 : BitVec 32 := Scalar.xori v2 c2_i32_337
  let c1_i32_344 : BitVec 32 := 1#32
  let v383 : BitVec 32 := Scalar.muli v382 c1_i32_344
  let v384 : BitVec 32 := Scalar.addi c0_i32_345 v383
  v384.toNat
def k1_off4 (d0 : Dev nD) (c0_i32_353 : BitVec 32) (c2_i32_350 : BitVec 32) (c2_i32_354 : BitVec 32) (c0_i32_355 : BitVec 32) : Fin 4 → Nat :=
  let c1_i32_376 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v396 : BitVec 32 := Scalar.andi v2 c0_i32_353
  let c1_i32_352 : BitVec 32 := 1#32
  let v393 : BitVec 32 := Scalar.shrsi v2 c2_i32_350
  let c1_i32_351 : BitVec 32 := 1#32
  let v394 : BitVec 32 := Scalar.andi v393 c1_i32_351
  let v395 : BitVec 32 := Scalar.subi c1_i32_352 v394
  let v397 : BitVec 32 := Scalar.shli v395 c2_i32_354
  let v398 : BitVec 32 := Scalar.ori v396 v397
  let v399 : BitVec 32 := Scalar.ori v398 c0_i32_355
  let c0_i32_382 : BitVec 32 := 0#32
  let c0_i32_383 : BitVec 32 := 0#32
  ![1, v399.toNat, 0, 0]
def k1_off4_at (r : Fin 7) : BitVec 32 × BitVec 32 × BitVec 32 × BitVec 32 :=
  if r.val < 3 then
    if r.val < 1 then
      (0#32, 2#32, 2#32, 0#32)
    else
      if r.val < 2 then
        (0#32, 2#32, 2#32, 1#32)
      else
        (0#32, 2#32, 2#32, 2#32)
  else
    if r.val < 5 then
      if r.val < 4 then
        (0#32, 2#32, 2#32, 3#32)
      else
        (4#32, 1#32, 1#32, 0#32)
    else
      if r.val < 6 then
        (4#32, 1#32, 1#32, 1#32)
      else
        (6#32, 0#32, 0#32, 0#32)
def k1_off5 (d0 : Dev nD) (c0_i32_353 : BitVec 32) (c2_i32_350 : BitVec 32) (c2_i32_356 : BitVec 32) (c0_i32_357 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v396 : BitVec 32 := Scalar.andi v2 c0_i32_353
  let v393 : BitVec 32 := Scalar.shrsi v2 c2_i32_350
  let c1_i32_351 : BitVec 32 := 1#32
  let v394 : BitVec 32 := Scalar.andi v393 c1_i32_351
  let v400 : BitVec 32 := Scalar.shli v394 c2_i32_356
  let v401 : BitVec 32 := Scalar.ori v396 v400
  let v402 : BitVec 32 := Scalar.ori v401 c0_i32_357
  let v439 : Index := Scalar.indexCast v402
  let c0_399 : Index := 0#32
  let c512_400 : Index := 512#32
  ![v439.toNat, 0, 512]
def k1_off5_at (r : Fin 7) : BitVec 32 × BitVec 32 × BitVec 32 × BitVec 32 :=
  if r.val < 3 then
    if r.val < 1 then
      (0#32, 2#32, 2#32, 0#32)
    else
      if r.val < 2 then
        (0#32, 2#32, 2#32, 1#32)
      else
        (0#32, 2#32, 2#32, 2#32)
  else
    if r.val < 5 then
      if r.val < 4 then
        (0#32, 2#32, 2#32, 3#32)
      else
        (4#32, 1#32, 1#32, 0#32)
    else
      if r.val < 6 then
        (4#32, 1#32, 1#32, 1#32)
      else
        (6#32, 0#32, 0#32, 0#32)
def k1_off6 (d0 : Dev nD) (c0_i32_353 : BitVec 32) (c2_i32_350 : BitVec 32) (c2_i32_356 : BitVec 32) (c0_i32_357 : BitVec 32) : Fin 4 → Nat :=
  let c1_407 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v396 : BitVec 32 := Scalar.andi v2 c0_i32_353
  let v393 : BitVec 32 := Scalar.shrsi v2 c2_i32_350
  let c1_i32_351 : BitVec 32 := 1#32
  let v394 : BitVec 32 := Scalar.andi v393 c1_i32_351
  let v400 : BitVec 32 := Scalar.shli v394 c2_i32_356
  let v401 : BitVec 32 := Scalar.ori v396 v400
  let v402 : BitVec 32 := Scalar.ori v401 c0_i32_357
  let v451 : Index := Scalar.indexCast v402
  let c0_408 : Index := 0#32
  let c0_409 : Index := 0#32
  ![1, v451.toNat, 0, 0]
def k1_off6_at (r : Fin 7) : BitVec 32 × BitVec 32 × BitVec 32 × BitVec 32 :=
  if r.val < 3 then
    if r.val < 1 then
      (0#32, 2#32, 2#32, 0#32)
    else
      if r.val < 2 then
        (0#32, 2#32, 2#32, 1#32)
      else
        (0#32, 2#32, 2#32, 2#32)
  else
    if r.val < 5 then
      if r.val < 4 then
        (0#32, 2#32, 2#32, 3#32)
      else
        (4#32, 1#32, 1#32, 0#32)
    else
      if r.val < 6 then
        (4#32, 1#32, 1#32, 1#32)
      else
        (6#32, 0#32, 0#32, 0#32)
def k1_dev22 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_530 : BitVec 32 := 2#32
  let v559 : BitVec 32 := Scalar.xori v2 c2_i32_530
  let c1_i32_538 : BitVec 32 := 1#32
  let v560 : BitVec 32 := Scalar.muli v559 c1_i32_538
  let v561 : BitVec 32 := Scalar.addi c0_i32_539 v560
  v561.toNat
def k1_dev23 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_544 : BitVec 32 := 2#32
  let v570 : BitVec 32 := Scalar.xori v2 c2_i32_544
  let c1_i32_552 : BitVec 32 := 1#32
  let v571 : BitVec 32 := Scalar.muli v570 c1_i32_552
  let v572 : BitVec 32 := Scalar.addi c0_i32_553 v571
  v572.toNat
def k1_dev24 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_651 : BitVec 32 := 4#32
  let v667 : BitVec 32 := Scalar.xori v2 c4_i32_651
  let c1_i32_659 : BitVec 32 := 1#32
  let v668 : BitVec 32 := Scalar.muli v667 c1_i32_659
  let v669 : BitVec 32 := Scalar.addi c0_i32_660 v668
  v669.toNat
def k1_dev25 (d0 : Dev nD) : Nat :=
  let c0_i32_767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_758 : BitVec 32 := 1#32
  let v764 : BitVec 32 := Scalar.xori v2 c1_i32_758
  let c1_i32_766 : BitVec 32 := 1#32
  let v765 : BitVec 32 := Scalar.muli v764 c1_i32_766
  let v766 : BitVec 32 := Scalar.addi c0_i32_767 v765
  v766.toNat
def k1_off7 (d0 : Dev nD) (c7_i32 : BitVec 32) (c0_i32_817 : BitVec 32) : Fin 4 → Nat :=
  let c0_i32_819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v816 : BitVec 32 := Scalar.andi v2 c7_i32
  let v817 : BitVec 32 := Scalar.ori v816 c0_i32_817
  let c0_i32_830 : BitVec 32 := 0#32
  let c0_i32_831 : BitVec 32 := 0#32
  ![0, v817.toNat, 0, 0]
def k1_off7_at (r : Fin 7) : BitVec 32 × BitVec 32 :=
  if r.val < 3 then
    if r.val < 1 then
      (7#32, 0#32)
    else
      if r.val < 2 then
        (3#32, 0#32)
      else
        (3#32, 4#32)
  else
    if r.val < 5 then
      if r.val < 4 then
        (1#32, 0#32)
      else
        (1#32, 2#32)
    else
      if r.val < 6 then
        (1#32, 4#32)
      else
        (1#32, 6#32)
def k1_dev26 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_818 : BitVec 32 := 4#32
  let v818 : BitVec 32 := Scalar.xori v2 c4_i32_818
  let c1_i32_826 : BitVec 32 := 1#32
  let v819 : BitVec 32 := Scalar.muli v818 c1_i32_826
  let v820 : BitVec 32 := Scalar.addi c0_i32_827 v819
  v820.toNat
def k1_off8 (d0 : Dev nD) (c7_i32_877 : BitVec 32) (c0_i32_878 : BitVec 32) : Fin 4 → Nat :=
  let c1_i32_880 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v870 : BitVec 32 := Scalar.andi v2 c7_i32_877
  let v871 : BitVec 32 := Scalar.ori v870 c0_i32_878
  let c0_i32_891 : BitVec 32 := 0#32
  let c0_i32_892 : BitVec 32 := 0#32
  ![1, v871.toNat, 0, 0]
def k1_off8_at (r : Fin 7) : BitVec 32 × BitVec 32 :=
  if r.val < 3 then
    if r.val < 1 then
      (7#32, 0#32)
    else
      if r.val < 2 then
        (6#32, 0#32)
      else
        (6#32, 1#32)
  else
    if r.val < 5 then
      if r.val < 4 then
        (4#32, 0#32)
      else
        (4#32, 1#32)
    else
      if r.val < 6 then
        (4#32, 2#32)
      else
        (4#32, 3#32)
def k1_dev27 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_879 : BitVec 32 := 1#32
  let v872 : BitVec 32 := Scalar.xori v2 c1_i32_879
  let c1_i32_887 : BitVec 32 := 1#32
  let v873 : BitVec 32 := Scalar.muli v872 c1_i32_887
  let v874 : BitVec 32 := Scalar.addi c0_i32_888 v873
  v874.toNat
def k1_off9 (d0 : Dev nD) (c4_i32_895 : BitVec 32) (c7_i32_896 : BitVec 32) (c0_i32_897 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v885 : BitVec 32 := Scalar.xori v2 c4_i32_895
  let v886 : BitVec 32 := Scalar.andi v885 c7_i32_896
  let v887 : BitVec 32 := Scalar.ori v886 c0_i32_897
  let v906 : Index := Scalar.indexCast v887
  let c0_928 : Index := 0#32
  let c0_929 : Index := 0#32
  ![v906.toNat, 0, 0]
def k1_off9_at (r : Fin 7) : BitVec 32 × BitVec 32 × BitVec 32 :=
  if r.val < 3 then
    if r.val < 1 then
      (4#32, 7#32, 0#32)
    else
      if r.val < 2 then
        (2#32, 3#32, 0#32)
      else
        (2#32, 3#32, 4#32)
  else
    if r.val < 5 then
      if r.val < 4 then
        (1#32, 1#32, 0#32)
      else
        (1#32, 1#32, 2#32)
    else
      if r.val < 6 then
        (1#32, 1#32, 4#32)
      else
        (1#32, 1#32, 6#32)
def k1_off10 (d0 : Dev nD) (c4_i32_895 : BitVec 32) (c7_i32_896 : BitVec 32) (c0_i32_897 : BitVec 32) : Fin 4 → Nat :=
  let c0_934 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v885 : BitVec 32 := Scalar.xori v2 c4_i32_895
  let v886 : BitVec 32 := Scalar.andi v885 c7_i32_896
  let v887 : BitVec 32 := Scalar.ori v886 c0_i32_897
  let v912 : Index := Scalar.indexCast v887
  let c0_935 : Index := 0#32
  let c0_936 : Index := 0#32
  ![0, v912.toNat, 0, 0]
def k1_off10_at (r : Fin 3) : BitVec 32 × BitVec 32 × BitVec 32 :=
  if r.val < 1 then
    (4#32, 7#32, 0#32)
  else
    if r.val < 2 then
      (2#32, 3#32, 0#32)
    else
      (2#32, 3#32, 4#32)
def k1_dev28 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_941 : BitVec 32 := 2#32
  let v920 : BitVec 32 := Scalar.xori v2 c2_i32_941
  let c1_i32_949 : BitVec 32 := 1#32
  let v921 : BitVec 32 := Scalar.muli v920 c1_i32_949
  let v922 : BitVec 32 := Scalar.addi c0_i32_950 v921
  v922.toNat
def k1_dev29 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_955 : BitVec 32 := 2#32
  let v931 : BitVec 32 := Scalar.xori v2 c2_i32_955
  let c1_i32_962 : BitVec 32 := 1#32
  let v932 : BitVec 32 := Scalar.muli v931 c1_i32_962
  let v933 : BitVec 32 := Scalar.addi c0_i32_963 v932
  v933.toNat
def k1_off11 (d0 : Dev nD) (c1_i32_970 : BitVec 32) (c7_i32_971 : BitVec 32) (c0_i32_972 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v944 : BitVec 32 := Scalar.xori v2 c1_i32_970
  let v945 : BitVec 32 := Scalar.andi v944 c7_i32_971
  let v946 : BitVec 32 := Scalar.ori v945 c0_i32_972
  let v965 : Index := Scalar.indexCast v946
  let c0_1003 : Index := 0#32
  let c512_1004 : Index := 512#32
  ![v965.toNat, 0, 512]
def k1_off11_at (r : Fin 7) : BitVec 32 × BitVec 32 × BitVec 32 :=
  if r.val < 3 then
    if r.val < 1 then
      (1#32, 7#32, 0#32)
    else
      if r.val < 2 then
        (2#32, 6#32, 0#32)
      else
        (2#32, 6#32, 1#32)
  else
    if r.val < 5 then
      if r.val < 4 then
        (4#32, 4#32, 0#32)
      else
        (4#32, 4#32, 1#32)
    else
      if r.val < 6 then
        (4#32, 4#32, 2#32)
      else
        (4#32, 4#32, 3#32)
def k1_off12 (d0 : Dev nD) (c1_i32_970 : BitVec 32) (c7_i32_971 : BitVec 32) (c0_i32_972 : BitVec 32) : Fin 4 → Nat :=
  let c1_1009 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v944 : BitVec 32 := Scalar.xori v2 c1_i32_970
  let v945 : BitVec 32 := Scalar.andi v944 c7_i32_971
  let v946 : BitVec 32 := Scalar.ori v945 c0_i32_972
  let v971 : Index := Scalar.indexCast v946
  let c0_1010 : Index := 0#32
  let c0_1011 : Index := 0#32
  ![1, v971.toNat, 0, 0]
def k1_off12_at (r : Fin 3) : BitVec 32 × BitVec 32 × BitVec 32 :=
  if r.val < 1 then
    (1#32, 7#32, 0#32)
  else
    if r.val < 2 then
      (2#32, 6#32, 0#32)
    else
      (2#32, 6#32, 1#32)
def k1_dev30 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1016 : BitVec 32 := 2#32
  let v979 : BitVec 32 := Scalar.xori v2 c2_i32_1016
  let c1_i32_1024 : BitVec 32 := 1#32
  let v980 : BitVec 32 := Scalar.muli v979 c1_i32_1024
  let v981 : BitVec 32 := Scalar.addi c0_i32_1025 v980
  v981.toNat
def k1_dev31 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1030 : BitVec 32 := 2#32
  let v990 : BitVec 32 := Scalar.xori v2 c2_i32_1030
  let c1_i32_1038 : BitVec 32 := 1#32
  let v991 : BitVec 32 := Scalar.muli v990 c1_i32_1038
  let v992 : BitVec 32 := Scalar.addi c0_i32_1039 v991
  v992.toNat
def k1_dev32 (d0 : Dev nD) : Nat :=
  let c0_i32_1146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1138 : BitVec 32 := 1#32
  let v1075 : BitVec 32 := Scalar.xori v2 c1_i32_1138
  let c1_i32_1145 : BitVec 32 := 1#32
  let v1076 : BitVec 32 := Scalar.muli v1075 c1_i32_1145
  let v1077 : BitVec 32 := Scalar.addi c0_i32_1146 v1076
  v1077.toNat
def k1_dev33 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1151 : BitVec 32 := 1#32
  let v1086 : BitVec 32 := Scalar.xori v2 c1_i32_1151
  let c1_i32_1158 : BitVec 32 := 1#32
  let v1087 : BitVec 32 := Scalar.muli v1086 c1_i32_1158
  let v1088 : BitVec 32 := Scalar.addi c0_i32_1159 v1087
  v1088.toNat
def k1_dev34 (d0 : Dev nD) : Nat :=
  let c0_i32_1172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1164 : BitVec 32 := 1#32
  let v1097 : BitVec 32 := Scalar.xori v2 c1_i32_1164
  let c1_i32_1171 : BitVec 32 := 1#32
  let v1098 : BitVec 32 := Scalar.muli v1097 c1_i32_1171
  let v1099 : BitVec 32 := Scalar.addi c0_i32_1172 v1098
  v1099.toNat
def k1_dev35 (d0 : Dev nD) : Nat :=
  let c0_i32_1185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1177 : BitVec 32 := 1#32
  let v1108 : BitVec 32 := Scalar.xori v2 c1_i32_1177
  let c1_i32_1184 : BitVec 32 := 1#32
  let v1109 : BitVec 32 := Scalar.muli v1108 c1_i32_1184
  let v1110 : BitVec 32 := Scalar.addi c0_i32_1185 v1109
  v1110.toNat
def k1_dev36 (d0 : Dev nD) : Nat :=
  let c0_i32_1295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1286 : BitVec 32 := 4#32
  let v1193 : BitVec 32 := Scalar.xori v2 c4_i32_1286
  let c1_i32_1294 : BitVec 32 := 1#32
  let v1194 : BitVec 32 := Scalar.muli v1193 c1_i32_1294
  let v1195 : BitVec 32 := Scalar.addi c0_i32_1295 v1194
  v1195.toNat
def k1_dev37 (d0 : Dev nD) : Nat :=
  let c0_i32_1309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1300 : BitVec 32 := 4#32
  let v1204 : BitVec 32 := Scalar.xori v2 c4_i32_1300
  let c1_i32_1308 : BitVec 32 := 1#32
  let v1205 : BitVec 32 := Scalar.muli v1204 c1_i32_1308
  let v1206 : BitVec 32 := Scalar.addi c0_i32_1309 v1205
  v1206.toNat
def k1_dev38 (d0 : Dev nD) : Nat :=
  let c0_i32_1323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1314 : BitVec 32 := 4#32
  let v1215 : BitVec 32 := Scalar.xori v2 c4_i32_1314
  let c1_i32_1322 : BitVec 32 := 1#32
  let v1216 : BitVec 32 := Scalar.muli v1215 c1_i32_1322
  let v1217 : BitVec 32 := Scalar.addi c0_i32_1323 v1216
  v1217.toNat
def k1_dev39 (d0 : Dev nD) : Nat :=
  let c0_i32_1337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1328 : BitVec 32 := 4#32
  let v1226 : BitVec 32 := Scalar.xori v2 c4_i32_1328
  let c1_i32_1336 : BitVec 32 := 1#32
  let v1227 : BitVec 32 := Scalar.muli v1226 c1_i32_1336
  let v1228 : BitVec 32 := Scalar.addi c0_i32_1337 v1227
  v1228.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S1x2048x1024 : Shape := ⟨3, ![1, 2048, 1024]⟩
abbrev S1024x8192 : Shape := ⟨2, ![1024, 8192]⟩
abbrev S8192x1024 : Shape := ⟨2, ![8192, 1024]⟩
abbrev S2048x128 : Shape := ⟨2, ![2048, 128]⟩
abbrev S1x2048x8192 : Shape := ⟨3, ![1, 2048, 8192]⟩
abbrev S1x2048x64x128 : Shape := ⟨4, ![1, 2048, 64, 128]⟩
abbrev S1x2048x64x64x2 : Shape := ⟨5, ![1, 2048, 64, 64, 2]⟩
abbrev S1x2048x64x64x1 : Shape := ⟨5, ![1, 2048, 64, 64, 1]⟩
abbrev S1x2048x64x64 : Shape := ⟨4, ![1, 2048, 64, 64]⟩
abbrev S1x2048x1x128 : Shape := ⟨4, ![1, 2048, 1, 128]⟩
abbrev S1x64x2048x2048 : Shape := ⟨4, ![1, 64, 2048, 2048]⟩
abbrev S_ : Shape := ⟨0, ![]⟩
abbrev S1x64x2048 : Shape := ⟨3, ![1, 64, 2048]⟩
abbrev S1x64x2048x1 : Shape := ⟨4, ![1, 64, 2048, 1]⟩
abbrev S1x64x128x2048 : Shape := ⟨4, ![1, 64, 128, 2048]⟩
abbrev S8x256x1024 : Shape := ⟨3, ![8, 256, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S2048x128, .f32⟩
  | .hbm, ⟨6, _⟩ => ⟨S2048x128, .f32⟩
  | .hbm, ⟨7, _⟩ => ⟨S1x2048x8192, .f32⟩
  | .hbm, ⟨8, _⟩ => ⟨S1x2048x64x128, .f32⟩
  | .hbm, ⟨9, _⟩ => ⟨S1x2048x64x64x2, .f32⟩
  | .hbm, ⟨10, _⟩ => ⟨S1x2048x64x64x1, .f32⟩
  | .hbm, ⟨11, _⟩ => ⟨S1x2048x64x64, .f32⟩
  | .hbm, ⟨12, _⟩ => ⟨S1x2048x64x64, .f32⟩
  | .hbm, ⟨13, _⟩ => ⟨S1x2048x64x64x1, .f32⟩
  | .hbm, ⟨14, _⟩ => ⟨S1x2048x64x64, .f32⟩
  | .hbm, ⟨15, _⟩ => ⟨S1x2048x64x64x1, .f32⟩
  | .hbm, ⟨16, _⟩ => ⟨S1x2048x64x64x1, .f32⟩
  | .hbm, ⟨17, _⟩ => ⟨S1x2048x64x64x2, .f32⟩
  | .hbm, ⟨18, _⟩ => ⟨S1x2048x64x128, .f32⟩
  | .hbm, ⟨19, _⟩ => ⟨S1x2048x1x128, .f32⟩
  | .hbm, ⟨20, _⟩ => ⟨S1x2048x64x128, .f32⟩
  | .hbm, ⟨21, _⟩ => ⟨S1x2048x64x128, .f32⟩
  | .hbm, ⟨22, _⟩ => ⟨S1x2048x1x128, .f32⟩
  | .hbm, ⟨23, _⟩ => ⟨S1x2048x64x128, .f32⟩
  | .hbm, ⟨24, _⟩ => ⟨S1x2048x64x128, .f32⟩
  | .hbm, ⟨25, _⟩ => ⟨S1x2048x64x128, .f32⟩
  | .hbm, ⟨26, _⟩ => ⟨S1x2048x8192, .f32⟩
  | .hbm, ⟨27, _⟩ => ⟨S1x2048x64x128, .f32⟩
  | .hbm, ⟨28, _⟩ => ⟨S1x2048x64x64x2, .f32⟩
  | .hbm, ⟨29, _⟩ => ⟨S1x2048x64x64x1, .f32⟩
  | .hbm, ⟨30, _⟩ => ⟨S1x2048x64x64, .f32⟩
  | .hbm, ⟨31, _⟩ => ⟨S1x2048x64x64, .f32⟩
  | .hbm, ⟨32, _⟩ => ⟨S1x2048x64x64x1, .f32⟩
  | .hbm, ⟨33, _⟩ => ⟨S1x2048x64x64, .f32⟩
  | .hbm, ⟨34, _⟩ => ⟨S1x2048x64x64x1, .f32⟩
  | .hbm, ⟨35, _⟩ => ⟨S1x2048x64x64x1, .f32⟩
  | .hbm, ⟨36, _⟩ => ⟨S1x2048x64x64x2, .f32⟩
  | .hbm, ⟨37, _⟩ => ⟨S1x2048x64x128, .f32⟩
  | .hbm, ⟨38, _⟩ => ⟨S1x2048x1x128, .f32⟩
  | .hbm, ⟨39, _⟩ => ⟨S1x2048x64x128, .f32⟩
  | .hbm, ⟨40, _⟩ => ⟨S1x2048x64x128, .f32⟩
  | .hbm, ⟨41, _⟩ => ⟨S1x2048x1x128, .f32⟩
  | .hbm, ⟨42, _⟩ => ⟨S1x2048x64x128, .f32⟩
  | .hbm, ⟨43, _⟩ => ⟨S1x2048x64x128, .f32⟩
  | .hbm, ⟨44, _⟩ => ⟨S1x2048x64x128, .f32⟩
  | .hbm, ⟨45, _⟩ => ⟨S1x2048x8192, .f32⟩
  | .hbm, ⟨46, _⟩ => ⟨S1x2048x64x128, .f32⟩
  | .hbm, ⟨47, _⟩ => ⟨S1x64x2048x2048, .f32⟩
  | .hbm, ⟨48, _⟩ => ⟨S_, .f32⟩
  | .hbm, ⟨49, _⟩ => ⟨S1x64x2048x2048, .f32⟩
  | .hbm, ⟨50, _⟩ => ⟨S1x64x2048x2048, .f32⟩
  | .hbm, ⟨51, _⟩ => ⟨S_, .f32⟩
  | .hbm, ⟨52, _⟩ => ⟨S1x64x2048, .f32⟩
  | .hbm, ⟨53, _⟩ => ⟨S1x64x2048x1, .f32⟩
  | .hbm, ⟨54, _⟩ => ⟨S1x64x2048x2048, .f32⟩
  | .hbm, ⟨55, _⟩ => ⟨S1x64x2048x2048, .f32⟩
  | .hbm, ⟨56, _⟩ => ⟨S1x64x2048x2048, .f32⟩
  | .hbm, ⟨57, _⟩ => ⟨S_, .f32⟩
  | .hbm, ⟨58, _⟩ => ⟨S1x64x2048, .f32⟩
  | .hbm, ⟨59, _⟩ => ⟨S1x64x2048x1, .f32⟩
  | .hbm, ⟨60, _⟩ => ⟨S1x64x2048x2048, .f32⟩
  | .hbm, ⟨61, _⟩ => ⟨S1x64x2048x2048, .f32⟩
  | .hbm, ⟨62, _⟩ => ⟨S1x64x128x2048, .f32⟩
  | .hbm, ⟨63, _⟩ => ⟨S1x2048x64x128, .f32⟩
  | .hbm, ⟨64, _⟩ => ⟨S1x2048x8192, .f32⟩
  | .hbm, ⟨65, _⟩ => ⟨S1x2048x1024, .f32⟩
  | .hbm, ⟨66, _⟩ => ⟨S8x256x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst : Ref sig .tc := ⟨.hbm, 48, rfl⟩
abbrev main_v41 : Ref sig .tc := ⟨.hbm, 49, rfl⟩
abbrev main_v42 : Ref sig .tc := ⟨.hbm, 50, rfl⟩
abbrev main_cst_0 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_1 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== Attention.lean ====
abbrev S1x2048x1024 : Shape := ⟨3, ![1, 2048, 1024]⟩
abbrev S1024x1024 : Shape := ⟨2, ![1024, 1024]⟩
abbrev S2048x128 : Shape := ⟨2, ![2048, 128]⟩
abbrev S128x128 : Shape := ⟨2, ![128, 128]⟩
abbrev S2048x1024 : Shape := ⟨2, ![2048, 1024]⟩
abbrev S1024x128 : Shape := ⟨2, ![1024, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x128, .f32⟩
  | .hbm, ⟨5, _⟩ => ⟨S2048x128, .f32⟩
  | .hbm, ⟨6, _⟩ => ⟨S128x128, .f32⟩
  | .hbm, ⟨7, _⟩ => ⟨S2048x1024, .f32⟩
  | .hbm, ⟨8, _⟩ => ⟨S2048x1024, .bf16⟩
  | .hbm, ⟨9, _⟩ => ⟨S2048x1024, .f32⟩
  | .local _ .vmem, ⟨0, _⟩ => ⟨S2048x1024, .bf16⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S2048x128, .f32⟩
  | .local _ .vmem, ⟨8, _⟩ => ⟨S2048x128, .f32⟩
  | .local _ .vmem, ⟨9, _⟩ => ⟨S128x128, .f32⟩
  | .local _ .vmem, ⟨10, _⟩ => ⟨S2048x128, .f32⟩
  | .local _ .vmem, ⟨11, _⟩ => ⟨S2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttentionReferenceIdeal.lean ====
abbrev S1x2048x1024 : Shape := ⟨3, ![1, 2048, 1024]⟩
abbrev S1024x1024 : Shape := ⟨2, ![1024, 1024]⟩
abbrev S2048x128 : Shape := ⟨2, ![2048, 128]⟩
abbrev S1x2048x8x128 : Shape := ⟨4, ![1, 2048, 8, 128]⟩
abbrev S1x2048x8x64x2 : Shape := ⟨5, ![1, 2048, 8, 64, 2]⟩
abbrev S1x2048x8x64x1 : Shape := ⟨5, ![1, 2048, 8, 64, 1]⟩
abbrev S1x2048x8x64 : Shape := ⟨4, ![1, 2048, 8, 64]⟩
abbrev S1x2048x1x128 : Shape := ⟨4, ![1, 2048, 1, 128]⟩
abbrev S1x8x2048x2048 : Shape := ⟨4, ![1, 8, 2048, 2048]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S2048x1024 : Shape := ⟨2, ![2048, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x128, .f32⟩
  | .hbm, ⟨5, _⟩ => ⟨S2048x128, .f32⟩
  | .hbm, ⟨6, _⟩ => ⟨S1x2048x1024, .f32⟩
  | .hbm, ⟨7, _⟩ => ⟨S1x2048x8x128, .f32⟩
  | .hbm, ⟨8, _⟩ => ⟨S1x2048x8x64x2, .f32⟩
  | .hbm, ⟨9, _⟩ => ⟨S1x2048x8x64x1, .f32⟩
  | .hbm, ⟨10, _⟩ => ⟨S1x2048x8x64, .f32⟩
  | .hbm, ⟨11, _⟩ => ⟨S1x2048x8x64, .f32⟩
  | .hbm, ⟨12, _⟩ => ⟨S1x2048x8x64x1, .f32⟩
  | .hbm, ⟨13, _⟩ => ⟨S1x2048x8x64, .f32⟩
  | .hbm, ⟨14, _⟩ => ⟨S1x2048x8x64x1, .f32⟩
  | .hbm, ⟨15, _⟩ => ⟨S1x2048x8x64x1, .f32⟩
  | .hbm, ⟨16, _⟩ => ⟨S1x2048x8x64x2, .f32⟩
  | .hbm, ⟨17, _⟩ => ⟨S1x2048x8x128, .f32⟩
  | .hbm, ⟨18, _⟩ => ⟨S1x2048x1x128, .f32⟩
  | .hbm, ⟨19, _⟩ => ⟨S1x2048x8x128, .f32⟩
  | .hbm, ⟨20, _⟩ => ⟨S1x2048x8x128, .f32⟩
  | .hbm, ⟨21, _⟩ => ⟨S1x2048x1x128, .f32⟩
  | .hbm, ⟨22, _⟩ => ⟨S1x2048x8x128, .f32⟩
  | .hbm, ⟨23, _⟩ => ⟨S1x2048x8x128, .f32⟩
  | .hbm, ⟨24, _⟩ => ⟨S1x2048x8x128, .f32⟩
  | .hbm, ⟨25, _⟩ => ⟨S1x2048x1024, .f32⟩
  | .hbm, ⟨26, _⟩ => ⟨S1x2048x8x128, .f32⟩
  | .hbm, ⟨27, _⟩ => ⟨S1x2048x8x64x2, .f32⟩
  | .hbm, ⟨28, _⟩ => ⟨S1x2048x8x64x1, .f32⟩
  | .hbm, ⟨29, _⟩ => ⟨S1x2048x8x64, .f32⟩
  | .hbm, ⟨30, _⟩ => ⟨S1x2048x8x64, .f32⟩
  | .hbm, ⟨31, _⟩ => ⟨S1x2048x8x64x1, .f32⟩
  | .hbm, ⟨32, _⟩ => ⟨S1x2048x8x64, .f32⟩
  | .hbm, ⟨33, _⟩ => ⟨S1x2048x8x64x1, .f32⟩
  | .hbm, ⟨34, _⟩ => ⟨S1x2048x8x64x1, .f32⟩
  | .hbm, ⟨35, _⟩ => ⟨S1x2048x8x64x2, .f32⟩
  | .hbm, ⟨36, _⟩ => ⟨S1x2048x8x128, .f32⟩
  | .hbm, ⟨37, _⟩ => ⟨S1x2048x1x128, .f32⟩
  | .hbm, ⟨38, _⟩ => ⟨S1x2048x8x128, .f32⟩
  | .hbm, ⟨39, _⟩ => ⟨S1x2048x8x128, .f32⟩
  | .hbm, ⟨40, _⟩ => ⟨S1x2048x1x128, .f32⟩
  | .hbm, ⟨41, _⟩ => ⟨S1x2048x8x128, .f32⟩
  | .hbm, ⟨42, _⟩ => ⟨S1x2048x8x128, .f32⟩
  | .hbm, ⟨43, _⟩ => ⟨S1x2048x8x128, .f32⟩
  | .hbm, ⟨44, _⟩ => ⟨S1x2048x1024, .f32⟩
  | .hbm, ⟨45, _⟩ => ⟨S1x2048x8x128, .f32⟩
  | .hbm, ⟨46, _⟩ => ⟨S1x8x2048x2048, .f32⟩
  | .hbm, ⟨47, _⟩ => ⟨S_, .f32⟩
  | .hbm, ⟨48, _⟩ => ⟨S1x8x2048x2048, .f32⟩
  | .hbm, ⟨49, _⟩ => ⟨S1x8x2048x2048, .f32⟩
  | .hbm, ⟨50, _⟩ => ⟨S_, .f32⟩
  | .hbm, ⟨51, _⟩ => ⟨S1x8x2048, .f32⟩
  | .hbm, ⟨52, _⟩ => ⟨S1x8x2048x1, .f32⟩
  | .hbm, ⟨53, _⟩ => ⟨S1x8x2048x2048, .f32⟩
  | .hbm, ⟨54, _⟩ => ⟨S1x8x2048x2048, .f32⟩
  | .hbm, ⟨55, _⟩ => ⟨S1x8x2048x2048, .f32⟩
  | .hbm, ⟨56, _⟩ => ⟨S_, .f32⟩
  | .hbm, ⟨57, _⟩ => ⟨S1x8x2048, .f32⟩
  | .hbm, ⟨58, _⟩ => ⟨S1x8x2048x1, .f32⟩
  | .hbm, ⟨59, _⟩ => ⟨S1x8x2048x2048, .f32⟩
  | .hbm, ⟨60, _⟩ => ⟨S1x8x2048x2048, .f32⟩
  | .hbm, ⟨61, _⟩ => ⟨S1x8x128x2048, .f32⟩
  | .hbm, ⟨62, _⟩ => ⟨S1x2048x8x128, .f32⟩
  | .hbm, ⟨63, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_v41 : Ref sig .tc := ⟨.hbm, 48, rfl⟩
abbrev main_v42 : Ref sig .tc := ⟨.hbm, 49, rfl⟩
abbrev main_cst_0 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_1 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩

abbrev nD : Nat := 1
abbrev τ : Topo := Topo.v7x

variable {F : FTy → Type} [FloatOps F]
-- ==== Proof.Tables.lean ====
/-
# The exchange's tables

Eight devices at the corners of a cube. Each half (`b : Fin 2`) of the columns runs six stages: three in which a
device hands half of what it still sums to the neighbour across one axis of the cube (one, two, then three axes
settled), and three in which the finished chunks travel back. Stage by stage the copies of a half are numbered
`0 … 13`; copy `n` of half `b` is copy `n` on every device.
-/
module

public import proofs.«01_k».proof.Proof.Gen.KernelIdeal

@[expose] public section

namespace Cert.Exchange

/-- The stage copy `n` belongs to: stages 0–2 reduce (4, 2, 1 copies), stages 3–5 gather (1, 2, 4 copies). -/
def stage (n : ℕ) : ℕ := if n < 4 then 0 else if n < 6 then 1 else if n < 7 then 2 else if n < 8 then 3 else if n < 10 then 4 else 5
/-- The first copy of `n`'s stage, -/
def base (n : ℕ) : ℕ := if n < 4 then 0 else if n < 6 then 4 else if n < 7 then 6 else if n < 8 then 7 else if n < 10 then 8 else 10
/-- and the first copy after it. -/
def fin (n : ℕ) : ℕ := if n < 4 then 4 else if n < 6 then 6 else if n < 7 then 7 else if n < 8 then 8 else if n < 10 then 10 else 14

/-- The axis of the cube stage `i` crosses: half 0 takes the axes 0, 1, 2 and back, half 1 takes 2, 1, 0 and back. -/
def axis (b i : ℕ) : ℕ := (if b = 0 then ![0, 1, 2, 2, 1, 0] else ![2, 1, 0, 0, 1, 2]) (Fin.ofNat 6 i)

/-- The device across axis `s`. -/
def across (s : ℕ) (c : Fin 8) : Fin 8 := Fin.ofNat 8 (c.val ^^^ (1 <<< s))
/-- The neighbour copy `n` of half `b` goes to (and comes from). -/
def peer (b : Fin 2) (n : Fin 14) (c : Fin 8) : Fin 8 := across (axis b.val (stage n.val)) c

/-- The chunk device `c` sends as copy `n` of half `b`. -/
def src (b : Fin 2) (n : Fin 14) (c : Fin 8) : Fin 8 :=
  let s := axis b.val (stage n.val)
  let j := n.val - base n.val
  let away := (1 - (c.val >>> s) % 2) <<< s
  Fin.ofNat 8 (if b.val = 0 then
      if n.val < 7 then (j <<< (s + 1)) + away + c.val % 2 ^ s else (j <<< (s + 1)) + c.val % 2 ^ (s + 1)
    else
      if n.val < 7 then (c.val >>> (s + 1)) <<< (s + 1) + away + j else (c.val >>> s) <<< s + j)
/-- The chunk device `c` receives as copy `n` of half `b`. -/
def rcv (b : Fin 2) (n : Fin 14) (c : Fin 8) : Fin 8 := src b n (peer b n c)

/-- How far chunk `k` of half `b` has come on device `c` once its first `m` copies have been taken in: the number of
    neighbours' parts added to it, or 4 once the finished chunk has arrived from elsewhere. -/
def lvl (c : Fin 8) (b : Fin 2) (m : ℕ) (k : Fin 8) : ℕ :=
  if ∃ n : Fin 14, 7 ≤ n.val ∧ n.val < m ∧ rcv b n c = k then 4
  else (Finset.univ.filter fun n : Fin 14 => n.val < 7 ∧ n.val < m ∧ rcv b n c = k).card

/-- The level at which copy `n` sends its chunk. -/
def slvl (n : ℕ) : ℕ := if n < 7 then stage n else 4

/-- Chunk `k` of half `b` is on its way out of device `c` when the copies `w … s - 1` are in flight. -/
def away (c : Fin 8) (b : Fin 2) (w s : ℕ) (k : Fin 8) : Prop := ∃ n : Fin 14, w ≤ n.val ∧ n.val < s ∧ src b n c = k
instance (c b w s k) : Decidable (away c b w s k) := inferInstanceAs (Decidable (∃ _, _))

theorem peer_peer : ∀ b n c, peer b n (peer b n c) = c := by decide +kernel
theorem across_across : ∀ (s : Fin 3) c, across s.val (across s.val c) = c := by decide +kernel
theorem across_inj : ∀ (s s' : Fin 3) c, across s.val c = across s'.val c → s = s' := by decide +kernel

/-- Within a stage the chunks sent differ, -/
theorem src_inj : ∀ (c : Fin 8) (b : Fin 2) (m n : Fin 14), base m.val = base n.val → src b m c = src b n c → m = n := by decide +kernel
/-- and none of them is received. -/
theorem src_ne_rcv : ∀ (c : Fin 8) (b : Fin 2) (m n : Fin 14), base m.val = base n.val → src b m c ≠ rcv b n c := by decide +kernel

/-- At copy `n`'s stage the chunk it sends has come to the stage's level; in the gathering stages it is finished, the
    device's own chunk being the one it summed itself. -/
theorem lvl_src : ∀ (c : Fin 8) (b : Fin 2) (n : Fin 14),
    lvl c b (base n.val) (src b n c) = slvl n.val ∨ (lvl c b (base n.val) (src b n c) = 3 ∧ 7 ≤ n.val ∧ src b n c = c) := by decide +kernel
/-- Taking in the stage's earlier copies leaves it there. -/
theorem lvl_src_still : ∀ (c : Fin 8) (b : Fin 2) (n : Fin 14) (m : Fin 15), base n.val ≤ m.val → m.val ≤ fin n.val →
    lvl c b m.val (src b n c) = lvl c b (base n.val) (src b n c) := by decide +kernel
/-- A reducing copy is added to a chunk at its stage's level and brings it one further, -/
theorem lvl_rcv : ∀ (c : Fin 8) (b : Fin 2) (n : Fin 14), n.val < 7 → lvl c b n.val (rcv b n c) = stage n.val ∧ lvl c b (n.val + 1) (rcv b n c) = stage n.val + 1 := by
  decide +kernel
/-- a gathering copy brings it to 4; -/
theorem lvl_rcv_gather : ∀ (c : Fin 8) (b : Fin 2) (n : Fin 14), 7 ≤ n.val → lvl c b (n.val + 1) (rcv b n c) = 4 := by decide +kernel
/-- the other chunks stay. -/
theorem lvl_other : ∀ (c : Fin 8) (b : Fin 2) (n : Fin 14) (k : Fin 8), k ≠ rcv b n c → lvl c b (n.val + 1) k = lvl c b n.val k := by decide +kernel
theorem lvl_zero : ∀ (c : Fin 8) (b : Fin 2) (k : Fin 8), lvl c b 0 k = 0 := by decide +kernel
/-- In the end every chunk is finished. -/
theorem lvl_end : ∀ (c : Fin 8) (b : Fin 2) (k : Fin 8), lvl c b 14 k = if k = c then 3 else 4 := by decide +kernel
theorem lvl_le : ∀ (c : Fin 8) (b : Fin 2) (m : Fin 15) (k : Fin 8), lvl c b m.val k ≤ 4 := by decide +kernel

end Cert.Exchange

end
-- ==== Proof.Mem.lean ====
/-
# The blocks of the kernel's memory

The exchange moves 256×512 blocks: `pBlk b k` is half `b` of chunk `k` of the staging copy in bf16, `cBlk b n` the
landing block of copy `n` of half `b`, `oBlk b k` half `b` of chunk `k` of the result. Here: what a store or a copy
leaves in a block, and that the blocks cut their buffers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pointwise.Reshape
public import Idealize.ShloMosaic.Lib.Tactic
public import proofs.«01_k».proof.Proof.Tables

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev oM : Memref sig .tc .vmem S8x256x1024 .f32 := Memref.whole cc1_stg2_0
abbrev cM : Memref sig .tc .vmem S2x14x256x512 .bf16 := Memref.whole cc1_scratch0
abbrev pM : Memref sig .tc .vmem S2x8x256x512 .bf16 := Memref.whole cc1_scratch1

theorem c_inb (b : Fin 2) (n : Fin 14) : ∀ a, (![b.val, n.val, 0, 0] : Fin 4 → ℕ) a + S1x1x256x512.size a ≤ S2x14x256x512.size a := by
  revert b n; decide
theorem p_inb (b : Fin 2) (k : Fin 8) : ∀ a, (![b.val, k.val, 0, 0] : Fin 4 → ℕ) a + S1x1x256x512.size a ≤ S2x8x256x512.size a := by
  revert b k; decide
theorem o_inb (b : Fin 2) (k : Fin 8) : ∀ a, (![k.val, 0, 512 * b.val] : Fin 3 → ℕ) a + S1x256x512.size a ≤ S8x256x1024.size a := by
  revert b k; decide
theorem r_inb (k : Fin 8) : ∀ a, (![k.val, 0, 0] : Fin 3 → ℕ) a + S1x256x1024.size a ≤ S8x256x1024.size a := by
  revert k; decide

abbrev cRect (b : Fin 2) (n : Fin 14) : Rect S2x14x256x512 := Rect.unit ![b.val, n.val, 0, 0] S1x1x256x512.size (c_inb b n)
abbrev pRect (b : Fin 2) (k : Fin 8) : Rect S2x8x256x512 := Rect.unit ![b.val, k.val, 0, 0] S1x1x256x512.size (p_inb b k)
abbrev oRect (b : Fin 2) (k : Fin 8) : Rect S8x256x1024 := Rect.unit ![k.val, 0, 512 * b.val] S1x256x512.size (o_inb b k)
abbrev rRect (k : Fin 8) : Rect S8x256x1024 := Rect.unit ![k.val, 0, 0] S1x256x1024.size (r_inb k)

abbrev cBlk (b : Fin 2) (n : Fin 14) : Memref sig .tc .vmem S256x512 .bf16 :=
  (cM.slice (cRect b n) (fun _ => rfl)).squeeze S256x512 squeezes_S1x1x256x512_S256x512
abbrev pBlk (b : Fin 2) (k : Fin 8) : Memref sig .tc .vmem S256x512 .bf16 :=
  (pM.slice (pRect b k) (fun _ => rfl)).squeeze S256x512 squeezes_S1x1x256x512_S256x512
abbrev oBlk (b : Fin 2) (k : Fin 8) : View sig .tc .vmem S1x256x512 .f32 := oM.access (oRect b k)

/-- A 256×512 block as a stored 1×1×256×512 or 1×256×512 value. -/
abbrev up4 {α : Type} (X : S256x512.Idx → α) : S1x1x256x512.Idx → α := shapeCast S1x1x256x512 X shapeCasts_S256x512_S1x1x256x512
abbrev up3 {α : Type} (X : S256x512.Idx → α) : S1x256x512.Idx → α := shapeCast S1x256x512 X shapeCasts_S256x512_S1x256x512

@[simp] theorem down_up4 {α : Type} (X : S256x512.Idx → α) : shapeCast S256x512 (up4 X) shapeCasts_S1x1x256x512_S256x512 = X := by
  rw [up4, shapeCast_comp, shapeCast_id]
@[simp] theorem down_up3 {α : Type} (X : S256x512.Idx → α) : shapeCast S256x512 (up3 X) shapeCasts_S1x256x512_S256x512 = X := by
  rw [up3, shapeCast_comp, shapeCast_id]
theorem up_down4 {α : Type} (X : S1x1x256x512.Idx → α) : up4 (shapeCast S256x512 X shapeCasts_S1x1x256x512_S256x512) = X := by
  rw [up4, shapeCast_comp, shapeCast_id]

theorem pBlk_read (b k) (f : (cc1_scratch1 : Ref sig .tc).ty.Contents (Elt F)) :
    (pBlk b k).view.read (Elt F) f = shapeCast S256x512 ((pM.access (pRect b k)).read (Elt F) f) shapeCasts_S1x1x256x512_S256x512 := rfl
theorem cBlk_read (b k) (f : (cc1_scratch0 : Ref sig .tc).ty.Contents (Elt F)) :
    (cBlk b k).view.read (Elt F) f = shapeCast S256x512 ((cM.access (cRect b k)).read (Elt F) f) shapeCasts_S1x1x256x512_S256x512 := rfl

theorem pBlk_load (b k) (f : (cc1_scratch1 : Ref sig .tc).ty.Contents (Elt F)) :
    (pM.access (pRect b k)).read (Elt F) f = up4 ((pBlk b k).view.read (Elt F) f) := by
  exact (up_down4 _).symm
theorem cBlk_load (b k) (f : (cc1_scratch0 : Ref sig .tc).ty.Contents (Elt F)) :
    (cM.access (cRect b k)).read (Elt F) f = up4 ((cBlk b k).view.read (Elt F) f) := by
  exact (up_down4 _).symm

theorem pBlk_store (b k) (f : (cc1_scratch1 : Ref sig .tc).ty.Contents (Elt F)) (X : S256x512.Idx → Elt F .bf16) :
    (pBlk b k).view.read (Elt F) ((pM.access (pRect b k)).write (Elt F) f (up4 X) Finset.univ) = X := by
  rw [pBlk_read, View.read_write_univ]; exact down_up4 X

theorem pBlk_set (b k) : (pBlk b k).view.set = (pM.access (pRect b k)).set := View.set_reshape _ _
theorem cBlk_set (b k) : (cBlk b k).view.set = (cM.access (cRect b k)).set := View.set_reshape _ _

theorem pBlk_set' (b k) : (pBlk b k).view.set = (pRect b k).set := by rw [pBlk_set]; exact View.set_slice_whole _ _
theorem cBlk_set' (b k) : (cBlk b k).view.set = (cRect b k).set := by rw [cBlk_set]; exact View.set_slice_whole _ _

theorem pBlk_cover : (Finset.univ : Finset (S2x8x256x512).Idx) = Finset.univ.biUnion fun j : Fin 2 × Fin 8 => (pRect j.1 j.2).set := by
  ext i
  simp only [Finset.mem_univ, Finset.mem_biUnion, true_and, true_iff]
  refine ⟨(⟨(i 0).val, (i 0).isLt⟩, ⟨(i 1).val, (i 1).isLt⟩), Rect.mem_set_unit.mpr fun a => ?_⟩
  have h2 := (i 2).isLt; have h3 := (i 3).isLt
  fin_cases a <;> simp [S1x1x256x512, S2x8x256x512] at * <;> omega
theorem cBlk_cover : (Finset.univ : Finset (S2x14x256x512).Idx) = Finset.univ.biUnion fun j : Fin 2 × Fin 14 => (cRect j.1 j.2).set := by
  ext i
  simp only [Finset.mem_univ, Finset.mem_biUnion, true_and, true_iff]
  refine ⟨(⟨(i 0).val, (i 0).isLt⟩, ⟨(i 1).val, (i 1).isLt⟩), Rect.mem_set_unit.mpr fun a => ?_⟩
  have h2 := (i 2).isLt; have h3 := (i 3).isLt
  fin_cases a <;> simp [S1x1x256x512, S2x14x256x512] at * <;> omega

theorem pBlk_disj {b k b' k'} (h : (b, k) ≠ (b', k')) : Disjoint (pRect b k).set (pRect b' k').set := by
  refine Finset.disjoint_left.mpr fun i hi hi' => h ?_
  rw [Rect.mem_set_unit] at hi hi'
  have a0 := hi 0; have a1 := hi 1; have b0 := hi' 0; have b1 := hi' 1
  simp [S1x1x256x512] at a0 a1 b0 b1
  exact Prod.ext (Fin.ext (by simp only; omega)) (Fin.ext (by simp only; omega))
theorem cBlk_disj {b k b' k'} (h : (b, k) ≠ (b', k')) : Disjoint (cRect b k).set (cRect b' k').set := by
  refine Finset.disjoint_left.mpr fun i hi hi' => h ?_
  rw [Rect.mem_set_unit] at hi hi'
  have a0 := hi 0; have a1 := hi 1; have b0 := hi' 0; have b1 := hi' 1
  simp [S1x1x256x512] at a0 a1 b0 b1
  exact Prod.ext (Fin.ext (by simp only; omega)) (Fin.ext (by simp only; omega))

/-! ## The result's halves -/

theorem oRect_disj {b k b' k'} (h : (b, k) ≠ (b', k')) : Disjoint (oRect b k).set (oRect b' k').set := by
  refine Finset.disjoint_left.mpr fun i hi hi' => h ?_
  rw [Rect.mem_set_unit] at hi hi'
  have a0 := hi 0; have a1 := hi 2; have b0 := hi' 0; have b1 := hi' 2
  simp [S1x256x512] at a0 a1 b0 b1
  exact Prod.ext (Fin.ext (by simp only; omega)) (Fin.ext (by simp only; omega))
theorem oRect_row_disj {b k k'} (h : k ≠ k') : Disjoint (oRect b k).set (rRect k').set := by
  refine Finset.disjoint_left.mpr fun i hi hi' => h ?_
  rw [Rect.mem_set_unit] at hi hi'
  have a0 := hi 0; have b0 := hi' 0
  simp [S1x256x512, S1x256x1024] at a0 b0
  exact Fin.ext (by omega)

/-- A store to one half of a chunk leaves what it stores there -/
theorem oBlk_store (b k) (f : (cc1_stg2_0 : Ref sig .tc).ty.Contents (Elt F)) (X : S1x256x512.Idx → Elt F .f32) :
    (oBlk b k).read (Elt F) ((oM.access (oRect b k)).write (Elt F) f X Finset.univ) = X := View.read_write_univ _ _
/-- and the others as they were; -/
theorem oBlk_store_ne {b k b' k'} (h : (b', k') ≠ (b, k)) (f : (cc1_stg2_0 : Ref sig .tc).ty.Contents (Elt F)) (X : S1x256x512.Idx → Elt F .f32) :
    (oBlk b' k').read (Elt F) ((oM.access (oRect b k)).write (Elt F) f X Finset.univ) = (oBlk b' k').read (Elt F) f := by
  refine View.read_slice_write_slice_of_disjoint _ _ _ _ _ ?_
  rw [View.setOn_univ, View.set_slice_whole, View.set_slice_whole]
  exact oRect_disj h
/-- a store of a whole chunk leaves each half its columns, -/
theorem oRow_store (b : Fin 2) (k : Fin 8) (f : (cc1_stg2_0 : Ref sig .tc).ty.Contents (Elt F)) (X : S256x1024.Idx → Elt F .f32)
    (hs : S256x1024.Slices ![0, 512 * b.val] S256x512) :
    (oBlk b k).read (Elt F) ((oM.access (rRect k)).write (Elt F) f (shapeCast S1x256x1024 X shapeCasts_S256x1024_S1x256x1024) Finset.univ)
      = up3 (extractStridedSlice S256x512 ![0, 512 * b.val] X hs) := by
  funext j
  have hb := b.isLt; have h1 := (j 1).isLt; have h2 := (j 2).isLt; have h0 := (j 0).isLt
  simp [S1x256x512] at h0 h1 h2
  let y : S1x256x1024.Idx := fun | 0 => ⟨0, by decide⟩ | 1 => ⟨(j 1).val, h1⟩ | 2 => ⟨512 * b.val + (j 2).val, by simp [S1x256x1024]; omega⟩
  have hy : (oBlk b k).emb j = (oM.access (rRect k)).emb y := by
    funext a
    refine Fin.ext ?_
    fin_cases a
    · show k.val + 1 * (j 0).val = k.val + 1 * 0
      omega
    · show 0 + 1 * (j 1).val = 0 + 1 * (j 1).val
      rfl
    · show 512 * b.val + 1 * (j 2).val = 0 + 1 * (512 * b.val + (j 2).val)
      omega
  rw [View.read_apply, hy, View.write_emb_of_mem _ _ (Finset.mem_univ y), cast_cast, cast_eq]
  let z : S256x512.Idx := fun | 0 => ⟨(j 1).val, h1⟩ | 1 => ⟨(j 2).val, h2⟩
  have hz : Shape.reshapeEquiv shapeCasts_S256x512_S1x256x512 j = z := Shape.reshapeEquiv_eq_of_rowMajor _ (by
    rw [Shape.rowMajor_val_two, Shape.rowMajor_val_three]
    show (j 1).val * 512 + (j 2).val = ((j 0).val * 256 + (j 1).val) * 512 + (j 2).val
    omega)
  let w : S256x1024.Idx := fun | 0 => ⟨(j 1).val, h1⟩ | 1 => ⟨512 * b.val + (j 2).val, by simp [S256x1024]; omega⟩
  have hw : Shape.reshapeEquiv shapeCasts_S256x1024_S1x256x1024 y = w := Shape.reshapeEquiv_eq_of_rowMajor _ (by
    rw [Shape.rowMajor_val_two, Shape.rowMajor_val_three]
    show (j 1).val * 1024 + (512 * b.val + (j 2).val) = (0 * 256 + (j 1).val) * 1024 + (512 * b.val + (j 2).val)
    omega)
  show X (Shape.reshapeEquiv shapeCasts_S256x1024_S1x256x1024 y) = X _
  rw [hw]
  refine congrArg X (funext fun a => Fin.ext ?_)
  show (w a).val = (![0, 512 * b.val] : Fin 2 → ℕ) a + (Shape.reshapeEquiv shapeCasts_S256x512_S1x256x512 j (a.cast hs.1.symm)).val
  rw [hz]
  fin_cases a
  · show (j 1).val = 0 + (j 1).val
    omega
  · rfl
theorem oRow_store_ne {b : Fin 2} {k k' : Fin 8} (h : k' ≠ k) (f : (cc1_stg2_0 : Ref sig .tc).ty.Contents (Elt F)) (X : S1x256x1024.Idx → Elt F .f32) :
    (oBlk b k').read (Elt F) ((oM.access (rRect k)).write (Elt F) f X Finset.univ) = (oBlk b k').read (Elt F) f := by
  refine View.read_slice_write_slice_of_disjoint _ _ _ _ _ ?_
  rw [View.setOn_univ, View.set_slice_whole, View.set_slice_whole]
  exact oRect_row_disj h

end Cert.Exchange
-- ==== Proof.Proto.lean ====
/-
# The exchange's protocol

Which semaphore cell stands for what, what a device pays into it and what it is worth; and, between two effects of the
kernel, what a device holds, as a function of a few counters.
-/
module

public import proofs.«01_k».proof.Proof.Mem

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The cells -/

abbrev barS : Sem sig := (SemArray.scalar (sig.barrier 0 rfl) : Sems sig S_).sem
/-- The semaphores of copy `n` of half `b`: the sender's and the receiver's. -/
def sendQ (b : Fin 2) (n : Fin 14) : DmaSem sig := Fin.ofNat 71 (15 + 14 * b.val + n.val)
def recvQ (b : Fin 2) (n : Fin 14) : DmaSem sig := Fin.ofNat 71 (43 + 14 * b.val + n.val)

abbrev barCell (c : Dev nD) : GSem nD τ sig := ((c : Thread nD τ), .reg barS)
abbrev sendCell (c : Dev nD) (b : Fin 2) (n : Fin 14) : GSem nD τ sig := ((c : Thread nD τ), .dma (sendQ b n))
abbrev recvCell (c : Dev nD) (b : Fin 2) (n : Fin 14) : GSem nD τ sig := ((c : Thread nD τ), .dma (recvQ b n))

/-- A device's cells: the barrier, and per half and copy the send (`false`) and the receive cell. -/
abbrev CK : Type := Option (Bool × Fin 2 × Fin 14)
def csem : CK → SemLoc sig
  | none => .reg barS
  | some (false, b, n) => .dma (sendQ b n)
  | some (true, b, n) => .dma (recvQ b n)
abbrev kcell (j : Dev nD × CK) : GSem nD τ sig := ((j.1 : Thread nD τ), csem j.2)

/-- The copy a DMA semaphore belongs to. -/
def sel (q : DmaSem sig) : Option (Bool × Fin 2 × Fin 14) :=
  if 43 ≤ q.val then some (true, Fin.ofNat 2 ((q.val - 43) / 14), Fin.ofNat 14 ((q.val - 43) % 14))
  else if 15 ≤ q.val then some (false, Fin.ofNat 2 ((q.val - 15) / 14), Fin.ofNat 14 ((q.val - 15) % 14))
  else none

theorem sel_send : ∀ b n, sel (sendQ b n) = some (false, b, n) := by decide +kernel
theorem sel_recv : ∀ b n, sel (recvQ b n) = some (true, b, n) := by decide +kernel

/-- A 256×512 bf16 block's credit. -/
def N : ℕ := (cBlk 0 0).view.dmaCredit
theorem N_pos : 0 < N := View.dmaCredit_pos _ (by decide)
theorem N_c (b n) : (cBlk b n).view.dmaCredit = N := rfl
theorem N_p (b k) : (pBlk b k).view.dmaCredit = N := by unfold N; rfl

/-! ## Contents -/

abbrev xM : Memref sig .tc .vmem S2048x1024 .f32 := Memref.whole cc1_stg0_0
abbrev wM : Memref sig .tc .vmem S1024x1024 .f32 := Memref.whole cc1_stg1_0

theorem x_inb (k : Fin 8) : ∀ a, (![256 * k.val, 0] : Fin 2 → ℕ) a + S256x1024.size a ≤ S2048x1024.size a := by revert k; decide
abbrev xRect (k : Fin 8) : Rect S2048x1024 := Rect.unit ![256 * k.val, 0] S256x1024.size (x_inb k)

theorem half_slices (b : Fin 2) : S256x1024.Slices ![0, 512 * b.val] S256x512 := by revert b; decide

section contents
variable (Xs : Dev nD → (cc1_stg0_0 : Ref sig .tc).ty.Contents (Elt F)) (Ws : Dev nD → (cc1_stg1_0 : Ref sig .tc).ty.Contents (Elt F))

/-- Device `c`'s product of its rows of chunk `k` with its rows of the weights. -/
def prod (c : Dev nD) (k : Fin 8) : FVec F S256x1024 .f32 := k1_pay7 (k1_pay2 (Ws c)) ((xM.access (xRect k)).read (Elt F) (Xs c))

/-- Half `b` of chunk `k` on device `c` once `l` neighbours' parts, each rounded to bf16, have been added. -/
def part (b : Fin 2) : ℕ → Dev nD → Fin 8 → FVec F S256x512 .f32
  | 0, c, k => extractStridedSlice S256x512 ![0, 512 * b.val] (prod Xs Ws c k) (half_slices b)
  | l + 1, c, k => addf (part b l c k) (extf .f32 (truncf .bf16 (part b l (across (axis b.val l) c) k) bitsLt_bf16_f32) bitsLt_bf16_f32)

/-- What the staging copy holds of chunk `k` at level `l`, -/
def pv (c : Dev nD) (b : Fin 2) (k : Fin 8) (l : ℕ) : FVec F S256x512 .bf16 :=
  if l = 4 then truncf .bf16 (part Xs Ws b 3 k k) bitsLt_bf16_f32 else truncf .bf16 (part Xs Ws b l c k) bitsLt_bf16_f32
/-- and the result. -/
def ov (c : Dev nD) (b : Fin 2) (k : Fin 8) (l : ℕ) : FVec F S256x512 .f32 :=
  if l = 4 then extf .f32 (truncf .bf16 (part Xs Ws b 3 k k) bitsLt_bf16_f32) bitsLt_bf16_f32 else part Xs Ws b l c k

theorem pv_own (c : Dev nD) (b) : pv Xs Ws c b c 3 = pv Xs Ws c b c 4 := rfl

/-- What copy `n` carries from device `c`, and what arrives on it. -/
def sent (c : Dev nD) (b : Fin 2) (n : Fin 14) : FVec F S256x512 .bf16 := pv Xs Ws c b (src b n c) (slvl n.val)
def got (c : Dev nD) (b : Fin 2) (n : Fin 14) : FVec F S256x512 .bf16 := sent Xs Ws (peer b n c) b n

/-! ## The schedule -/

abbrev cPts (c : Dev nD) (b : Fin 2) (n : Fin 14) (X : S256x512.Idx → Elt F .bf16) : sProp 𝕄 := owns (c : Thread nD τ) (cBlk b n) fullShare X
abbrev pPts (c : Dev nD) (b : Fin 2) (k : Fin 8) (X : S256x512.Idx → Elt F .bf16) : sProp 𝕄 := owns (c : Thread nD τ) (pBlk b k) fullShare X

/-- The landing block of copy `n` on device `c`, whose receive cell has begun its round. -/
def land (c : Dev nD) (b : Fin 2) (n : Fin 14) : sProp 𝕄 := iprop((∃ X, cPts c b n X) ∗ reached ER (recvCell c b n) 0)
instance land_storable (c : Dev nD) (b : Fin 2) (n : Fin 14) : BI.Storable (upEmb : UEmb _ 𝕄) (land (F := F) c b n) := by
  unfold land; infer_instance
/-- A cell at the start of its round. -/
def atStart (g : GSem nD τ sig) : sProp 𝕄 := iprop(atPos ER g 0 ∅ 0 ∗ reached ER g 0)

/-- What the neighbour across axis `d` hands device `c` with its signal: its landing blocks of the copies `c` sends there. -/
def barPay (c : Dev nD) (d : Fin 3) : sProp 𝕄 :=
  bigSep Finset.univ fun j : Fin 2 × Fin 14 => if axis j.1.val (stage j.2.val) = d.val then land (peer j.1 j.2 c) j.1 j.2 else iprop(emp)

instance barPay_storable (c : Dev nD) (d : Fin 3) : BI.Storable (upEmb : UEmb _ 𝕄) (barPay (F := F) c d) := by
  unfold barPay
  have : ∀ j : Fin 2 × Fin 14, BI.Storable (upEmb : UEmb _ 𝕄) (if axis j.1.val (stage j.2.val) = d.val then land (F := F) (peer j.1 j.2 c) j.1 j.2 else iprop(emp)) := by
    intro j; split <;> infer_instance
  infer_instance

def payOf (c : Dev nD) : Option (Bool × Fin 2 × Fin 14) → sProp 𝕄
  | none => iprop(emp)
  | some (false, b, n) => pPts c b (src b n c) (sent Xs Ws c b n)
  | some (true, b, n) => cPts c b n (got Xs Ws c b n)

instance payOf_storable (c : Dev nD) : ∀ o, BI.Storable (upEmb : UEmb _ 𝕄) (payOf Xs Ws c o)
  | none => by unfold payOf; infer_instance
  | some (false, b, n) => by unfold payOf; infer_instance
  | some (true, b, n) => by unfold payOf; infer_instance

/-- One round: a barrier cell has three duties of one unit, a copy's cells the duty 0 of the block's credit. -/
def Rd : Rounds.Schedule (GSem nD τ sig) (Fin 3) 𝕄 where
  duties g r := if r = 0 ∧ g.1.2 = .tc then (match g.2 with | .reg s => if s = barS then Finset.univ else ∅ | .dma q => if (sel q).isSome then {0} else ∅) else ∅
  unitless _ := False
  amount g _ _ := match g.2 with | .reg _ => 1 | .dma _ => N
  payload g _ d := match g.2 with | .reg _ => barPay g.1.1 d | .dma q => payOf Xs Ws g.1.1 (sel q)
  amount_pos g _ _ _ := by
    obtain ⟨_, s | q⟩ := g
    · exact Nat.one_pos
    · exact N_pos

instance Rd_storable (g : GSem nD τ sig) (r : ℕ) (d : Fin 3) : BI.Storable (upEmb : UEmb _ 𝕄) ((Rd (F := F) Xs Ws).payload g r d) := by
  obtain ⟨t, s | q⟩ := g
  · exact barPay_storable t.1 d
  · exact payOf_storable Xs Ws t.1 _

section tables
variable (c : Dev nD) (b : Fin 2) (n : Fin 14) (d : Fin 3)

theorem duties_bar : (Rd (F := F) Xs Ws).duties (barCell c) 0 = Finset.univ := rfl
theorem duties_send : (Rd (F := F) Xs Ws).duties (sendCell c b n) 0 = {0} := by
  show (if 0 = 0 ∧ (c : Thread nD τ).2 = .tc then (if (sel (sendQ b n)).isSome then {0} else ∅) else ∅ : Finset (Fin 3)) = _
  rw [sel_send]; rfl
theorem duties_recv : (Rd (F := F) Xs Ws).duties (recvCell c b n) 0 = {0} := by
  show (if 0 = 0 ∧ (c : Thread nD τ).2 = .tc then (if (sel (recvQ b n)).isSome then {0} else ∅) else ∅ : Finset (Fin 3)) = _
  rw [sel_recv]; rfl
theorem duties_later (g : GSem nD τ sig) : ∀ r, 1 ≤ r → (Rd (F := F) Xs Ws).duties g r = ∅ :=
  fun r hr => by dsimp only [Rd]; rw [if_neg fun h => by omega]
theorem amount_bar : (Rd (F := F) Xs Ws).amount (barCell c) 0 d = 1 := rfl
theorem amount_send : (Rd (F := F) Xs Ws).amount (sendCell c b n) 0 d = N := rfl
theorem amount_recv : (Rd (F := F) Xs Ws).amount (recvCell c b n) 0 d = N := rfl
theorem expect_bar : (Rd (F := F) Xs Ws).expect (barCell c) 0 = 3 := by
  unfold Schedule.expect Schedule.amountOf
  rw [duties_bar, Finset.sum_congr rfl fun d _ => amount_bar Xs Ws c d, Finset.sum_const, Finset.card_univ]; rfl
theorem expect_send : (Rd (F := F) Xs Ws).expect (sendCell c b n) 0 = N := by
  unfold Schedule.expect Schedule.amountOf; rw [duties_send, Finset.sum_singleton, amount_send]
theorem expect_recv : (Rd (F := F) Xs Ws).expect (recvCell c b n) 0 = N := by
  unfold Schedule.expect Schedule.amountOf; rw [duties_recv, Finset.sum_singleton, amount_recv]
theorem payload_bar : (Rd (F := F) Xs Ws).payload (barCell c) 0 d = barPay c d := rfl
theorem payload_send : (Rd (F := F) Xs Ws).payload (sendCell c b n) 0 d = pPts c b (src b n c) (sent Xs Ws c b n) := by
  show payOf Xs Ws c (sel (sendQ b n)) = _
  rw [sel_send]; rfl
theorem payload_recv : (Rd (F := F) Xs Ws).payload (recvCell c b n) 0 d = cPts c b n (got Xs Ws c b n) := by
  show payOf Xs Ws c (sel (recvQ b n)) = _
  rw [sel_recv]; rfl
theorem rest_send : bigSep ((Rd (F := F) Xs Ws).duties (sendCell c b n) 0 \ ∅) (fun d => (Rd (F := F) Xs Ws).payload (sendCell c b n) 0 d)
    = pPts c b (src b n c) (sent Xs Ws c b n) := by
  rw [Finset.sdiff_empty, duties_send, bigSep_singleton, payload_send]
theorem rest_recv : bigSep ((Rd (F := F) Xs Ws).duties (recvCell c b n) 0 \ ∅) (fun d => (Rd (F := F) Xs Ws).payload (recvCell c b n) 0 d)
    = cPts c b n (got Xs Ws c b n) := by
  rw [Finset.sdiff_empty, duties_recv, bigSep_singleton, payload_recv]
theorem rest_bar : bigSep ((Rd (F := F) Xs Ws).duties (barCell c) 0 \ ∅) (fun d => (Rd (F := F) Xs Ws).payload (barCell c) 0 d)
    = bigSep Finset.univ (barPay (F := F) c) := by
  rw [Finset.sdiff_empty, duties_bar]; rfl
end tables

/-! ## Levels and debts -/

def L (g : GSem nD τ sig) : Finset Unit := if g.1.2 = .tc then {()} else ∅
/-- Barrier cells at 1, copy `n`'s receive cell at 2 and its stage more, the rest at 0. -/
def lv (g : GSem nD τ sig) (_ : Unit) : ℕ := match g.2 with
  | .reg _ => 1
  | .dma q => match sel q with | some (true, _, n) => 2 + stage n.val | _ => 0

theorem L_tc (c : Dev nD) (sm : SemLoc sig) : L ((c : Thread nD τ), sm) = {()} := if_pos rfl
theorem L_of_ne (g : GSem nD τ sig) (h : g.1.2 ≠ .tc) : L g = ∅ := if_neg h
theorem lv_recv (c : Dev nD) (b n) (u : Unit) : lv (recvCell c b n) u = 2 + stage n.val := by
  show (match sel (recvQ b n) with | some (true, _, n) => 2 + stage n.val | _ => 0) = _
  rw [sel_recv]
theorem lv_send (c : Dev nD) (b n) (u : Unit) : lv (sendCell c b n) u = 0 := by
  show (match sel (sendQ b n) with | some (true, _, n) => 2 + stage n.val | _ => 0) = _
  rw [sel_send]
end contents

/-- How far a device is: per half the rows of the staging copy first filled in (`q`), the copies sent (`nS`), waited for
    on the sending (`nW`) and the receiving side (`nR`), taken into the result (`nO`) and into the staging copy (`nP`). -/
structure Ctr where
  (q nS nW nR nO nP : ℕ)

namespace Ctr
abbrev atQ (h : Ctr) (n : ℕ) : Ctr := ⟨n, h.nS, h.nW, h.nR, h.nO, h.nP⟩
abbrev atS (h : Ctr) (n : ℕ) : Ctr := ⟨h.q, n, h.nW, h.nR, h.nO, h.nP⟩
abbrev atW (h : Ctr) (n : ℕ) : Ctr := ⟨h.q, h.nS, n, h.nR, h.nO, h.nP⟩
abbrev atR (h : Ctr) (n : ℕ) : Ctr := ⟨h.q, h.nS, h.nW, n, h.nO, h.nP⟩
abbrev atO (h : Ctr) (n : ℕ) : Ctr := ⟨h.q, h.nS, h.nW, h.nR, n, h.nP⟩
abbrev atP (h : Ctr) (n : ℕ) : Ctr := ⟨h.q, h.nS, h.nW, h.nR, h.nO, n⟩
end Ctr

abbrev Ctrs := Ctr × Ctr
def get (b : Fin 2) (s : Ctrs) : Ctr := match b with | 0 => s.1 | 1 => s.2
def upd (b : Fin 2) (x : Ctr) (s : Ctrs) : Ctrs := match b with | 0 => (x, s.2) | 1 => (s.1, x)
theorem get_upd (b x s) : get b (upd b x s) = x := by fin_cases b <;> rfl
theorem get_upd_ne {b b' : Fin 2} (h : b' ≠ b) (x s) : get b' (upd b x s) = get b' s := by fin_cases b <;> fin_cases b' <;> first | rfl | exact absurd rfl h

/-- What device `c` owes: the credit of each copy it has not yet sent. -/
def Owe (c : Dev nD) (s : Ctrs) : CellTallies nD τ sig Unit :=
  ∑ j : Fin 2 × Fin 14, if (get j.1 s).nS ≤ j.2.val then tallyAt (recvCell (peer j.1 j.2 c) j.1 j.2) () N else 0

theorem Owe_pos {c : Dev nD} {s : Ctrs} {g : GSem nD τ sig} {u : Unit} (h : 0 < Owe c s g u) :
    ∃ b n, (get b s).nS ≤ n.val ∧ g = recvCell (peer b n c) b n := by
  unfold Owe at h
  rw [Finset.sum_apply, Finsupp.finset_sum_apply] at h
  obtain ⟨⟨b, n⟩, -, hj⟩ := Finset.exists_ne_zero_of_sum_ne_zero h.ne'
  refine ⟨b, n, ?_⟩
  by_cases hs : (get b s).nS ≤ n.val
  · refine ⟨hs, ?_⟩
    dsimp only at hj
    rw [if_pos hs, tallyAt_apply] at hj
    by_contra hg
    exact hj (if_neg fun h' => hg h'.1)
  · dsimp only at hj
    rw [if_neg hs] at hj; exact absurd rfl hj

theorem Owe_send (c : Dev nD) (s : Ctrs) (b : Fin 2) (n : Fin 14) (hn : (get b s).nS = n.val) (x : Ctr) (hx : x.nS = n.val + 1) :
    Owe c s = Owe c (upd b x s) + tallyAt (recvCell (peer b n c) b n) () N := by
  unfold Owe
  rw [← Finset.add_sum_erase _ _ (Finset.mem_univ (b, n)), ← Finset.add_sum_erase Finset.univ (fun j : Fin 2 × Fin 14 => if (get j.1 (upd b x s)).nS ≤ j.2.val then tallyAt (recvCell (peer j.1 j.2 c) j.1 j.2) () N else 0) (Finset.mem_univ (b, n))]
  simp only [get_upd, hn, hx, le_refl, if_true]
  rw [if_neg (by omega), zero_add, add_comm]
  congr 1
  refine Finset.sum_congr rfl fun j hj => ?_
  by_cases hb : j.1 = b
  · obtain ⟨b', n'⟩ := j
    dsimp only at hb ⊢; subst hb
    have : n' ≠ n := fun e => Finset.ne_of_mem_erase hj (by rw [e])
    have : n'.val ≠ n.val := fun e => this (Fin.ext e)
    rw [get_upd, hn, hx]
    by_cases h1 : n.val ≤ n'.val
    · rw [if_pos h1, if_pos (by omega)]
    · rw [if_neg h1, if_neg (by omega)]
  · rw [get_upd_ne hb]

theorem Owe_same (c : Dev nD) (s : Ctrs) (b : Fin 2) (x : Ctr) (h : x.nS = (get b s).nS) : Owe c (upd b x s) = Owe c s := by
  have h' : ∀ b', (get b' (upd b x s)).nS = (get b' s).nS := fun b' => by
    by_cases hb : b' = b
    · subst hb; rw [get_upd, h]
    · rw [get_upd_ne hb]
  unfold Owe; simp only [h']

theorem Owe_done (c : Dev nD) (s : Ctrs) (h : ∀ b, 14 ≤ (get b s).nS) : Owe c s = 0 := by
  unfold Owe
  exact Finset.sum_eq_zero fun j _ => if_neg (by have := h j.1; omega)

theorem mayWait_cut (c : Dev nD) (sm : SemLoc sig) (v : ℕ) (s : Ctrs) (hv : lv ((c : Thread nD τ), sm) () = v)
    (h : ∀ b (n : Fin 14), (get b s).nS ≤ n.val → v < 2 + stage n.val) :
    (levAts L lv : sProp 𝕄) ⊢ MayWait (c : Thread nD τ) sm () (Owe c s) :=
  MayOwe.of_cut (L := L) (lev := lv) v (fun p hp => by rw [Finset.mem_singleton.mp hp, L_tc]; exact Finset.mem_singleton_self _)
    (fun g u hg => by obtain ⟨b, n, -, rfl⟩ := Owe_pos hg; exact Finset.mem_singleton_self _)
    (fun p hp => by rw [Finset.mem_singleton.mp hp]; exact le_of_eq hv)
    (fun g u hg => by obtain ⟨b, n, hs, rfl⟩ := Owe_pos hg; rw [lv_recv]; exact h b n hs)

/-! ## What a device holds -/

section state
variable (Xs : Dev nD → (cc1_stg0_0 : Ref sig .tc).ty.Contents (Elt F)) (Ws : Dev nD → (cc1_stg1_0 : Ref sig .tc).ty.Contents (Elt F))
variable (K : Dev nD × CK → ℕ) (c : Dev nD)

/-- The facts every device may use: all cells' invariants, that each barrier has begun its round, the levels. -/
def recs : sProp 𝕄 :=
  iprop((bigSep Finset.univ fun j : Dev nD × CK => cellInv ER (Rd Xs Ws) (K j) (kcell j)) ∗ (bigSep Finset.univ fun c : Dev nD => reached ER (barCell c) 0) ∗ levAts L lv)
instance recs_persistent : BI.Persistent (recs Xs Ws K) := by unfold recs; infer_instance

theorem recs_at (j : Dev nD × CK) : recs Xs Ws K ⊢ cellInv ER (Rd Xs Ws) (K j) (kcell j) := by
  have h : (bigSep Finset.univ fun j : Dev nD × CK => cellInv ER (Rd Xs Ws) (K j) (kcell j)) ⊢ cellInv ER (Rd Xs Ws) (K j) (kcell j) :=
    BI.bigSep_elim (Finset.mem_univ j)
  unfold recs; iintro ⟨H, -⟩
  iapply h; iexact H
theorem recs_bar (d : Dev nD) : recs Xs Ws K ⊢ reached ER (barCell d) 0 := by
  have h : (bigSep Finset.univ fun c : Dev nD => (reached ER (barCell c) 0 : sProp 𝕄)) ⊢ reached ER (barCell d) 0 := BI.bigSep_elim (Finset.mem_univ d)
  unfold recs; iintro ⟨-, H, -⟩
  iapply h; iexact H
theorem recs_lev : recs Xs Ws K ⊢ (levAts L lv : sProp 𝕄) := by unfold recs; iintro ⟨-, -, H⟩; iexact H

def oSt (r : ℕ) (s : Ctrs) : sProp 𝕄 :=
  iprop(∃ f : Buf (Elt F) ((c : Thread nD τ).loc cc1_stg2_0), ⌜∀ b (k : Fin 8), k.val < r → (oBlk b k).read (Elt F) f = up3 (ov Xs Ws c b k (lvl c b (get b s).nO k))⌝
    ∗ ((c : Thread nD τ).loc cc1_stg2_0 ↦{fullShare} f))
def pOne (b : Fin 2) (k : Fin 8) (h : Ctr) : sProp 𝕄 :=
  if away c b h.nW h.nS k then iprop(emp) else iprop(∃ X, ⌜k.val < h.q → X = pv Xs Ws c b k (lvl c b h.nP k)⌝ ∗ pPts c b k X)
def cOne (b : Fin 2) (n : Fin 14) (h : Ctr) : sProp 𝕄 :=
  if n.val < h.nR then iprop(cPts c b n (got Xs Ws c b n) ∗ atPos ER (recvCell c b n) 1 ∅ 0)
  else iprop(cred (tallyAt (recvCell c b n) () N) ∗ atPos ER (recvCell c b n) 0 ∅ 0)
def sOne (b : Fin 2) (n : Fin 14) (h : Ctr) : sProp 𝕄 :=
  if n.val < h.nW then iprop(atPos ER (sendCell c b n) 1 ∅ 0)
  else if n.val < h.nS then iprop(cred (tallyAt (sendCell c b n) () N) ∗ atPos ER (sendCell c b n) 0 ∅ 0)
  else iprop(dutyTok ER (sendCell c b n) 0 0 ∗ dutyTok ER (recvCell (peer b n c) b n) 0 0 ∗ land (peer b n c) b n ∗ atStart (sendCell c b n))

def pSt (s : Ctrs) : sProp 𝕄 := bigSep Finset.univ fun j : Fin 2 × Fin 8 => pOne Xs Ws c j.1 j.2 (get j.1 s)
def cSt (s : Ctrs) : sProp 𝕄 := bigSep Finset.univ fun j : Fin 2 × Fin 14 => cOne Xs Ws c j.1 j.2 (get j.1 s)
def sSt (s : Ctrs) : sProp 𝕄 := bigSep Finset.univ fun j : Fin 2 × Fin 14 => sOne (F := F) c j.1 j.2 (get j.1 s)
def dSt (s : Ctrs) : sProp 𝕄 := iprop(∃ W, owes (c : Thread nD τ) (Owe c s) W)
/-- The operands, and that the barrier's round is over. -/
def iSt : sProp 𝕄 := iprop(((c : Thread nD τ).loc cc1_stg0_0 ↦{fullShare} Xs c) ∗ ((c : Thread nD τ).loc cc1_stg1_0 ↦{fullShare} Ws c) ∗ atPos ER (barCell c) 1 ∅ 0)

def St (r : ℕ) (s : Ctrs) : sProp 𝕄 :=
  iprop(recs Xs Ws K ∗ dSt c s ∗ oSt Xs Ws c r s ∗ pSt Xs Ws c s ∗ cSt Xs Ws c s ∗ sSt c s ∗ iSt Xs Ws c)
/-- Each part of the state reads some of the counters only. -/
theorem dSt_same {c : Dev nD} {s : Ctrs} (b : Fin 2) (x : Ctr) (h : x.nS = (get b s).nS) : (dSt c (upd b x s) : sProp 𝕄) = dSt c s := by
  unfold dSt; rw [Owe_same c s b x h]
theorem oSt_same {c : Dev nD} {r : ℕ} {s : Ctrs} (b : Fin 2) (x : Ctr) (h : x.nO = (get b s).nO) : oSt Xs Ws c r (upd b x s) = oSt Xs Ws c r s := by
  have h' : ∀ b', (get b' (upd b x s)).nO = (get b' s).nO := fun b' => by
    by_cases hb : b' = b
    · subst hb; rw [get_upd, h]
    · rw [get_upd_ne hb]
  unfold oSt; simp only [h']
theorem pSt_same {c : Dev nD} {s : Ctrs} (b : Fin 2) (x : Ctr) (h : x.q = (get b s).q) (h1 : x.nS = (get b s).nS) (h2 : x.nW = (get b s).nW)
    (h3 : x.nP = (get b s).nP) : pSt Xs Ws c (upd b x s) = pSt Xs Ws c s := by
  unfold pSt
  refine congrArg (bigSep Finset.univ) (funext fun j => ?_)
  by_cases hb : j.1 = b
  · obtain ⟨b', k⟩ := j; dsimp only at hb ⊢; subst hb
    rw [get_upd]; unfold pOne; rw [h, h1, h2, h3]
  · rw [get_upd_ne hb]
theorem cSt_same {c : Dev nD} {s : Ctrs} (b : Fin 2) (x : Ctr) (h : x.nR = (get b s).nR) : cSt Xs Ws c (upd b x s) = cSt Xs Ws c s := by
  unfold cSt
  refine congrArg (bigSep Finset.univ) (funext fun j => ?_)
  by_cases hb : j.1 = b
  · obtain ⟨b', k⟩ := j; dsimp only at hb ⊢; subst hb
    rw [get_upd]; unfold cOne; rw [h]
  · rw [get_upd_ne hb]
theorem sSt_same {c : Dev nD} {s : Ctrs} (b : Fin 2) (x : Ctr) (h1 : x.nS = (get b s).nS) (h2 : x.nW = (get b s).nW) :
    (sSt c (upd b x s) : sProp 𝕄) = sSt c s := by
  unfold sSt
  refine congrArg (bigSep Finset.univ) (funext fun j => ?_)
  by_cases hb : j.1 = b
  · obtain ⟨b', k⟩ := j; dsimp only at hb ⊢; subst hb
    rw [get_upd]; unfold sOne; rw [h1, h2]
  · rw [get_upd_ne hb]
end state

/-- One conjunct of a family taken out and put back changed. -/
theorem bigSep_step {I : Type} [Fintype I] [DecidableEq I] (j : I) (Φ Ψ : I → sProp 𝕄) (h : ∀ i, i ≠ j → Φ i ⊢ Ψ i) :
    bigSep Finset.univ Φ ⊢ iprop(Φ j ∗ (Ψ j -∗ bigSep Finset.univ Ψ)) := by
  rw [bigSep_univ_at Φ j]
  iintro ⟨H, Hr⟩
  isplitl [H]; · iexact H
  iintro H
  rw [bigSep_univ_at Ψ j]
  isplitl [H]; · iexact H
  have h' : bigSep (Finset.univ.erase j) Φ ⊢ bigSep (Finset.univ.erase j) Ψ := BI.bigSep_mono fun i hi => h i (Finset.ne_of_mem_erase hi)
  iapply h'; iexact Hr

/-- The same in a family that reads a half's counters, when those of half `b` become `x`. -/
theorem bigSep_ctr {n : ℕ} (Φ : Fin 2 → Fin n → Ctr → sProp 𝕄) (s : Ctrs) (b : Fin 2) (i : Fin n) (x : Ctr)
    (h : ∀ i', i' ≠ i → Φ b i' (get b s) ⊢ Φ b i' x) :
    (bigSep Finset.univ fun j : Fin 2 × Fin n => Φ j.1 j.2 (get j.1 s))
      ⊢ iprop(Φ b i (get b s) ∗ (Φ b i x -∗ bigSep Finset.univ fun j : Fin 2 × Fin n => Φ j.1 j.2 (get j.1 (upd b x s)))) := by
  have := bigSep_step (b, i) (fun j : Fin 2 × Fin n => Φ j.1 j.2 (get j.1 s)) (fun j : Fin 2 × Fin n => Φ j.1 j.2 (get j.1 (upd b x s))) (by
    rintro ⟨b', i'⟩ hne
    dsimp only
    by_cases hb : b' = b
    · subst hb; rw [get_upd]; exact h i' fun e => hne (by rw [e])
    · rw [get_upd_ne hb])
  dsimp only at this
  rwa [get_upd] at this

end Cert.Exchange
-- ==== Proof.Steps.lean ====
/-
# One effect of the kernel at a time

Each effect moves one counter; here is the rule of each, with the program's rest as continuation. The places and
devices an effect names are functions of the device; that they are the tables' ones is checked device by device.
-/
module

public import proofs.«01_k».proof.Proof.Proto

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

abbrev 𝒱₀ : Variants := Variants.none

/-- The kernel's program on device `c` ends in `Q`. -/
abbrev wpb {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem base_up (n m : Fin 14) : n.val ≤ m.val → m.val < fin n.val → base m.val = base n.val := by revert n m; decide
theorem base_down (n m : Fin 14) : base n.val ≤ m.val → m.val < n.val → base m.val = base n.val := by revert n m; decide
theorem fin_le (n : Fin 14) : fin n.val ≤ 14 := by revert n; decide

/-! ## The waits -/

theorem step_recvWait (b : Fin 2) (n : Fin 14) {sem : DmaSem sig} {src' dst' : Memref sig .tc .vmem S256x512 .bf16}
    {h₁ : src'.view.WordExact} {h₂ : dst'.view.WordExact} {k : PUnit → Prog (TpuEff nD τ sig (Elt F) Λ₀ .tc) α} {s' : Ctrs}
    {Q : α → sProp 𝕄} (hk : St Xs Ws K c r s' ⊢ wpb c (k ⟨⟩) Q)
    (hs : sem = recvQ b n := by rfl) (hd : dst'.view.dmaCredit = N := by rfl)
    (hR : (get b s).nR = n.val := by rfl)
    (hO : ∀ b' (m : Fin 14), (get b' s).nS ≤ m.val → stage n.val < stage m.val := by decide)
    (hs' : s' = upd b ((get b s).atR (n.val + 1)) s := by rfl) :
    St Xs Ws K c r s ⊢ wpb c (.op (.waitDma2 sem src' dst' h₁ h₂) k) Q := by
  subst hs
  subst hs'
  have hw := fun W => Rounds.wp_wait_rest_token 𝒱₀ ER (Rd (F := F) Xs Ws) (c : Thread nD τ) none (defs := defs₀ (F := F)) (κ := K (c, some (true, b, n))) (k := k) (Q := Q)
    (wpE_waitDma2_eq 𝒱₀ (c : Thread nD τ) none Set.univ (hsrc := h₁) (hdst := h₂)) (Set.mem_univ _) () (O := Owe c s) (R := 0) (m := 0) (T := ∅) (sm := .dma (recvQ b n)) (W := W)
  rw [hd] at hw
  have hcell := recs_at Xs Ws K (c, some (true, b, n))
  have hmw := (recs_lev Xs Ws K).trans (mayWait_cut c (.dma (recvQ b n)) _ s (lv_recv c b n ()) (fun b' m hm => by have := hO b' m hm; omega))
  have hstep := bigSep_ctr (cOne Xs Ws c) s b n ((get b s).atR (n.val + 1)) (fun n' hne => by
    have : n'.val ≠ n.val := fun e => hne (Fin.ext e)
    unfold cOne
    by_cases h1 : n'.val < n.val
    · rw [if_pos (by omega), if_pos (by first | omega | (dsimp only; omega))]
    · rw [if_neg (by omega), if_neg (by first | omega | (dsimp only; omega))])
  have h0 : cOne Xs Ws c b n (get b s) = iprop(cred (tallyAt (recvCell c b n) () N) ∗ atPos ER (recvCell c b n) 0 ∅ 0) := by
    unfold cOne; rw [if_neg (by omega)]
  have h1 : cOne Xs Ws c b n ((get b s).atR (n.val + 1)) = iprop(cPts c b n (got Xs Ws c b n) ∗ atPos ER (recvCell c b n) 1 ∅ 0) := by
    unfold cOne; rw [if_pos (by first | omega | (dsimp only; omega))]
  rw [h0, h1] at hstep
  unfold St at hk ⊢
  rw [dSt_same b ((get b s).atR (n.val + 1)) rfl, oSt_same Xs Ws b ((get b s).atR (n.val + 1)) rfl, pSt_same Xs Ws b ((get b s).atR (n.val + 1)) rfl rfl rfl rfl,
    sSt_same b ((get b s).atR (n.val + 1)) rfl rfl] at hk
  unfold dSt cSt at *
  iintro ⟨#Hr, ⟨%W, HO⟩, Ho, Hp, Hc, Hs, Hi⟩
  ihave Hc' := hstep $$ Hc
  icases Hc' with ⟨⟨Hcr, Hat⟩, Hback⟩
  ihave Hcell := hcell $$ Hr
  iapply (hw W (by rw [Nat.zero_add, expect_recv])) $$ [Hcr HO Hat Hcell]
  · isplitl [Hcell]; · iexact Hcell
    isplitl [Hcr]; · iexact Hcr
    isplitl [HO]; · iexact HO
    isplitr; · iapply hmw; iexact Hr
    iexact Hat
  iintro ⟨HO, Hat, -, Hpay⟩
  ihave Hpay := (Entails.of_eq (rest_recv Xs Ws c b n)) $$ Hpay
  iapply hk
  isplitr; · iexact Hr
  isplitl [HO]; · iexists _; iexact HO
  isplitl [Ho]; · iexact Ho
  isplitl [Hp]; · iexact Hp
  isplitl [Hback Hat Hpay]
  · iapply Hback
    isplitl [Hpay]; · iexact Hpay
    iexact Hat
  isplitl [Hs]; · iexact Hs
  iexact Hi

/-- Waiting for copy `n` to have left brings its chunk back, unchanged. -/
theorem step_sendWait (b : Fin 2) (n : Fin 14) {sem : DmaSem sig} {src' dst' : Memref sig .tc .vmem S256x512 .bf16}
    {h₁ : src'.view.WordExact} {h₂ : dst'.view.WordExact} {k : PUnit → Prog (TpuEff nD τ sig (Elt F) Λ₀ .tc) α} {s' : Ctrs}
    {Q : α → sProp 𝕄} (hk : St Xs Ws K c r s' ⊢ wpb c (k ⟨⟩) Q)
    (hs : sem = sendQ b n := by rfl) (hd : dst'.view.dmaCredit = N := by rfl)
    (hW : (get b s).nW = n.val := by rfl) (hS : n.val < (get b s).nS := by decide)
    (hF : (get b s).nS ≤ fin n.val := by decide) (hP : base n.val ≤ (get b s).nP := by decide) (hP' : (get b s).nP ≤ fin n.val := by decide)
    (hs' : s' = upd b ((get b s).atW (n.val + 1)) s := by rfl) :
    St Xs Ws K c r s ⊢ wpb c (.op (.waitDma2 sem src' dst' h₁ h₂) k) Q := by
  subst hs
  subst hs'
  have hw := fun W => Rounds.wp_wait_rest_token 𝒱₀ ER (Rd (F := F) Xs Ws) (c : Thread nD τ) none (defs := defs₀ (F := F)) (κ := K (c, some (false, b, n))) (k := k) (Q := Q)
    (wpE_waitDma2_eq 𝒱₀ (c : Thread nD τ) none Set.univ (hsrc := h₁) (hdst := h₂)) (Set.mem_univ _) () (O := Owe c s) (R := 0) (m := 0) (T := ∅) (sm := .dma (sendQ b n)) (W := W)
  rw [hd] at hw
  have hcell := recs_at Xs Ws K (c, some (false, b, n))
  have hmw := (recs_lev Xs Ws K).trans (mayWait_cut c (.dma (sendQ b n)) _ s (lv_send c b n ()) (fun b' m hm => by omega))
  have hstep := bigSep_ctr (sOne (F := F) c) s b n ((get b s).atW (n.val + 1)) (fun n' hne => by
    have : n'.val ≠ n.val := fun e => hne (Fin.ext e)
    unfold sOne
    by_cases h1 : n'.val < n.val
    · rw [if_pos (by omega), if_pos (by first | omega | (dsimp only; omega))]
    · rw [if_neg (show ¬ n'.val < (get b s).nW by omega), if_neg (show ¬ n'.val < ((get b s).atW (n.val + 1)).nW by show ¬ n'.val < n.val + 1; omega)])
  have h0 : sOne (F := F) c b n (get b s) = iprop(cred (tallyAt (sendCell c b n) () N) ∗ atPos ER (sendCell c b n) 0 ∅ 0) := by
    unfold sOne; rw [if_neg (by omega), if_pos (by omega)]
  have h1 : sOne (F := F) c b n ((get b s).atW (n.val + 1)) = iprop(atPos ER (sendCell c b n) 1 ∅ 0) := by
    unfold sOne; rw [if_pos (by first | omega | (dsimp only; omega))]
  rw [h0, h1] at hstep
  have hbase := fun m => base_up n m
  have hfin := fin_le n
  have haway : ∀ k, k ≠ src b n c → (away c b (n.val + 1) (get b s).nS k ↔ away c b (get b s).nW (get b s).nS k) := fun k hne => by
    constructor
    · rintro ⟨m, h1, h2, h3⟩; exact ⟨m, by omega, h2, h3⟩
    · rintro ⟨m, h1, h2, h3⟩
      refine ⟨m, ?_, h2, h3⟩
      by_contra hlt
      have : m = n := Fin.ext (by omega)
      subst this; exact hne h3.symm
  have hpstep := bigSep_ctr (pOne Xs Ws c) s b (src b n c) ((get b s).atW (n.val + 1)) (fun k hne => by
    unfold pOne; dsimp only; simp only [haway k hne]; exact BI.Entails.refl _)
  have hp0 : pOne Xs Ws c b (src b n c) (get b s) = iprop(emp) := by
    unfold pOne; rw [if_pos ⟨n, by omega, hS, rfl⟩]
  have hp1 : pPts c b (src b n c) (sent Xs Ws c b n) ⊢ pOne Xs Ws c b (src b n c) ((get b s).atW (n.val + 1)) := by
    unfold pOne; dsimp only
    rw [if_neg]
    · iintro H
      iexists _
      isplitr
      · ipureintro
        intro _
        show pv Xs Ws c b (src b n c) (slvl n.val) = _
        have hl := lvl_src_still c b n ⟨(get b s).nP, by omega⟩ hP hP'
        dsimp only at hl
        rw [hl]
        rcases lvl_src c b n with h | ⟨h, h7, hc⟩
        · rw [h]
        · rw [h, hc]
          have : slvl n.val = 4 := by unfold slvl; rw [if_neg (by omega)]
          rw [this, pv_own]
      · iexact H
    · rintro ⟨m, h1, h2, h3⟩
      have := src_inj c b m n (hbase m (by omega) (by omega)) h3
      subst this; omega
  rw [hp0] at hpstep
  unfold St at hk ⊢
  rw [dSt_same b ((get b s).atW (n.val + 1)) rfl, oSt_same Xs Ws b ((get b s).atW (n.val + 1)) rfl,
    cSt_same Xs Ws b ((get b s).atW (n.val + 1)) rfl] at hk
  unfold dSt sSt pSt at *
  iintro ⟨#Hr, ⟨%W, HO⟩, Ho, Hp, Hc, Hs, Hi⟩
  ihave Hs' := hstep $$ Hs
  icases Hs' with ⟨⟨Hcr, Hat⟩, Hback⟩
  ihave Hcell := hcell $$ Hr
  iapply (hw W (by rw [Nat.zero_add, expect_send])) $$ [Hcr HO Hat Hcell]
  · isplitl [Hcell]; · iexact Hcell
    isplitl [Hcr]; · iexact Hcr
    isplitl [HO]; · iexact HO
    isplitr; · iapply hmw; iexact Hr
    iexact Hat
  iintro ⟨HO, Hat, -, Hpay⟩
  ihave Hpay := (Entails.of_eq (rest_send Xs Ws c b n)) $$ Hpay
  iapply hk
  isplitr; · iexact Hr
  isplitl [HO]; · iexists _; iexact HO
  isplitl [Ho]; · iexact Ho
  isplitl [Hp Hpay]
  · ihave Hp' := hpstep $$ Hp
    icases Hp' with ⟨-, Hpb⟩
    iapply Hpb
    iapply hp1; iexact Hpay
  isplitl [Hc]; · iexact Hc
  isplitl [Hback Hat]
  · iapply Hback; iexact Hat
  iexact Hi

/-! ## The sends -/

/-- Copy `n` issued, the block to be sent and the block it lands in both in hand. -/
theorem wp_send_blk (c : Dev nD) (b : Fin 2) (n : Fin 14) {hsc : (cBlk b n).view.ref.isScScratch = false}
    {hsrc : (pBlk b (src b n c)).view.WordExact} {hdst : (cBlk b n).view.WordExact}
    {hsem : DmaTarget.Typed .vmem (.dma (recvQ b n)) (.remote (Dev.tc (peer b n c) : Thread nD τ) (cBlk b n) (.dma (sendQ b n)) hsc)}
    {Q : α → sProp 𝕄} {k : PUnit → Prog (TpuEff nD τ sig (Elt F) Λ₀ .tc) α} {O₀ O : CellTallies nD τ sig Unit}
    (hO : O₀ = O + tallyAt (recvCell (peer b n c) b n) () N)
    (fs : Buf (Elt F) ((pBlk b (src b n c)).view.loc (c : Thread nD τ))) (hfs : (pBlk b (src b n c)).view.read (Elt F) fs = sent Xs Ws c b n)
    (fd : Buf (Elt F) ((cBlk b n).view.loc (peer b n c : Thread nD τ))) (W : Waits sig Unit) :
    iprop(cellInv ER (Rd (F := F) Xs Ws) (K (c, some (false, b, n))) (sendCell c b n) ∗ cellInv ER (Rd (F := F) Xs Ws) (K (peer b n c, some (true, b, n))) (recvCell (peer b n c) b n)
        ∗ ((pBlk b (src b n c)).view.loc (c : Thread nD τ) ↦[(pBlk b (src b n c)).view.set]{fullShare} fs)
        ∗ ((cBlk b n).view.loc (peer b n c : Thread nD τ) ↦[(cBlk b n).view.set]{fullShare} fd)
        ∗ owes (c : Thread nD τ) O₀ W
        ∗ dutyTok ER (sendCell c b n) 0 0 ∗ reached ER (sendCell c b n) 0
        ∗ dutyTok ER (recvCell (peer b n c) b n) 0 0 ∗ reached ER (recvCell (peer b n c) b n) 0)
      ⊢ iprop(((cred (tallyAt (sendCell c b n) () N) ∗ owes (c : Thread nD τ) O W) -∗ wpb c (k ⟨⟩) Q)
          -∗ wpb c (.op (.enqueueDma (pBlk b (src b n c)) (.remote (Dev.tc (peer b n c) : Thread nD τ) (cBlk b n) (.dma (sendQ b n)) hsc) (.dma (recvQ b n)) hsrc hdst hsem) k) Q) := by
  exact Rounds.wp_send_pointsTo 𝒱₀ ER (Rd (F := F) Xs Ws) (c : Thread nD τ) none (κ₁ := K (c, some (false, b, n))) (κ₂ := K (peer b n c, some (true, b, n)))
    (r₁ := 0) (r₂ := 0) (d₁ := 0) (d₂ := 0) (fd := fd)
    (by rw [duties_send]; exact Finset.mem_singleton_self _) (by rw [duties_recv]; exact Finset.mem_singleton_self _)
    () () N rfl (amount_send Xs Ws c b n 0) (amount_recv Xs Ws (peer b n c) b n 0) O hO (W := W)
    (by rw [payload_send, ← hfs]; exact owns_intro _ _ _ _)
    (by
      rw [payload_recv]; unfold got; rw [peer_peer, ← hfs]
      refine (owns_intro _ _ _ _).trans (Entails.of_eq ?_)
      rw [View.read_write_univ])

theorem step_send' (b : Fin 2) (n : Fin 14) (x : Ctr) {d : Dev nD} {semS semR : DmaSem sig}
    {offp : Fin 4 → ℕ} {offc : Fin 4 → ℕ} {ip : ∀ a, offp a + S1x1x256x512.size a ≤ S2x8x256x512.size a} {ic : ∀ a, offc a + S1x1x256x512.size a ≤ S2x14x256x512.size a}
    {hsc} {h₁} {h₂} {h₃} {k : PUnit → Prog (TpuEff nD τ sig (Elt F) Λ₀ .tc) α}
    {Q : α → sProp 𝕄} (hk : St Xs Ws K c r (upd b x s) ⊢ wpb c (k ⟨⟩) Q) (hx : x = (get b s).atS (n.val + 1))
    (hd : d = peer b n c) (hp : offp = ![b.val, (src b n c).val, 0, 0]) (hc : offc = ![b.val, n.val, 0, 0])
    (hsS : semS = sendQ b n) (hsR : semR = recvQ b n)
    (hS : (get b s).nS = n.val) (hW : base n.val ≤ (get b s).nW) (hW' : (get b s).nW ≤ n.val) (hP : base n.val ≤ (get b s).nP) (hP' : (get b s).nP ≤ fin n.val)
    (hq : (src b n c).val < (get b s).q) :
    St Xs Ws K c r s ⊢ wpb c (.op (.enqueueDma ((pM.slice (Rect.unit (s := S2x8x256x512) offp S1x1x256x512.size ip) (fun _ => rfl)).squeeze S256x512 squeezes_S1x1x256x512_S256x512)
      (.remote (Dev.tc d : Thread nD τ) ((cM.slice (Rect.unit (s := S2x14x256x512) offc S1x1x256x512.size ic) (fun _ => rfl)).squeeze S256x512 squeezes_S1x1x256x512_S256x512) (.dma semS) hsc) (.dma semR) h₁ h₂ h₃) k) Q := by
  subst hx hd hp hc hsS hsR
  have hcell := recs_at Xs Ws K (c, some (false, b, n))
  have hcell' := recs_at Xs Ws K (peer b n c, some (true, b, n))
  have hstep := bigSep_ctr (sOne (F := F) c) s b n ((get b s).atS (n.val + 1)) (fun n' hne => by
    have : n'.val ≠ n.val := fun e => hne (Fin.ext e)
    unfold sOne; dsimp only
    by_cases h0 : n'.val < (get b s).nW
    · rw [if_pos h0, if_pos h0]
    rw [if_neg h0, if_neg h0]
    by_cases h1 : n'.val < n.val
    · rw [if_pos (by omega), if_pos (by omega)]
    · rw [if_neg (by omega), if_neg (by omega)])
  have h0 : sOne (F := F) c b n (get b s) = iprop(dutyTok ER (sendCell c b n) 0 0 ∗ dutyTok ER (recvCell (peer b n c) b n) 0 0 ∗ land (peer b n c) b n ∗ atStart (sendCell c b n)) := by
    unfold sOne; rw [if_neg (by omega), if_neg (by omega)]
  have h1 : sOne (F := F) c b n ((get b s).atS (n.val + 1)) = iprop(cred (tallyAt (sendCell c b n) () N) ∗ atPos ER (sendCell c b n) 0 ∅ 0) := by
    unfold sOne; dsimp only; rw [if_neg (by omega), if_pos (by omega)]
  rw [h0, h1] at hstep
  have hbase := fun m => base_down n m
  have hfin := fin_le n
  have haway : ∀ k, k ≠ src b n c → (away c b (get b s).nW (n.val + 1) k ↔ away c b (get b s).nW (get b s).nS k) := fun k hne => by
    constructor
    · rintro ⟨m, h1, h2, h3⟩
      refine ⟨m, h1, ?_, h3⟩
      by_contra hlt
      have : m = n := Fin.ext (by omega)
      subst this; exact hne h3.symm
    · rintro ⟨m, h1, h2, h3⟩; exact ⟨m, h1, by omega, h3⟩
  have hpstep := bigSep_ctr (pOne Xs Ws c) s b (src b n c) ((get b s).atS (n.val + 1)) (fun k hne => by
    unfold pOne; dsimp only; simp only [haway k hne]; exact BI.Entails.refl _)
  have hp1 : pOne Xs Ws c b (src b n c) ((get b s).atS (n.val + 1)) = iprop(emp) := by
    unfold pOne; rw [if_pos ⟨n, by dsimp only; omega, by dsimp only; omega, rfl⟩]
  have hp0 : pOne Xs Ws c b (src b n c) (get b s) ⊢ pPts c b (src b n c) (sent Xs Ws c b n) := by
    unfold pOne
    rw [if_neg]
    · iintro ⟨%X, %hX, H⟩
      have hX' : X = sent Xs Ws c b n := by
        rw [hX hq]
        show _ = pv Xs Ws c b (src b n c) (slvl n.val)
        have hl := lvl_src_still c b n ⟨(get b s).nP, by omega⟩ hP hP'
        dsimp only at hl
        rw [hl]
        rcases lvl_src c b n with h | ⟨h, h7, hc⟩
        · rw [h]
        · rw [h, hc]
          have : slvl n.val = 4 := by unfold slvl; rw [if_neg (by omega)]
          rw [this, pv_own]
      subst hX'
      iexact H
    · rintro ⟨m, h1, h2, h3⟩
      have := src_inj c b m n (hbase m (by omega) (by omega)) h3
      subst this; omega
  rw [hp1] at hpstep
  have hO := Owe_send c s b n hS ((get b s).atS (n.val + 1)) rfl
  have hw := fun fs (hfs : (pBlk b (src b n c)).view.read (Elt F) fs = sent Xs Ws c b n) fd W =>
    wp_send_blk (Xs := Xs) (Ws := Ws) (K := K) c b n (O := Owe c (upd b ((get b s).atS (n.val + 1)) s)) hO fs hfs fd W (hsc := hsc) (hsrc := h₁) (hdst := h₂) (hsem := h₃) (k := k) (Q := Q)
  unfold St at hk ⊢
  rw [oSt_same Xs Ws b ((get b s).atS (n.val + 1)) rfl, cSt_same Xs Ws b ((get b s).atS (n.val + 1)) rfl] at hk
  unfold dSt sSt pSt at *
  unfold land atStart at hstep
  iintro ⟨#Hr, ⟨%W, HO⟩, Ho, Hp, Hc, Hs, Hi⟩
  ihave Hs' := hstep $$ Hs
  icases Hs' with ⟨⟨Ht1, Ht2, ⟨⟨%X, Hdst⟩, Hr2⟩, Hat, Hr1⟩, Hback⟩
  ihave Hp' := hpstep $$ Hp
  icases Hp' with ⟨Hp, Hpb⟩
  ihave Hp := hp0 $$ Hp
  unfold pPts cPts owns
  icases Hp with ⟨%fs, %hfs, Hp⟩
  icases Hdst with ⟨%fd, -, Hdst⟩
  ihave Hc1 := hcell $$ Hr
  ihave Hc2 := hcell' $$ Hr
  iapply (hw fs hfs fd W) $$ [Hc1 Hc2 Hr1 Hr2 Hp Hdst HO Ht1 Ht2]
  · isplitl [Hc1]; · iexact Hc1
    isplitl [Hc2]; · iexact Hc2
    isplitl [Hp]; · iexact Hp
    isplitl [Hdst]; · iexact Hdst
    isplitl [HO]; · iexact HO
    isplitl [Ht1]; · iexact Ht1
    isplitl [Hr1]; · iexact Hr1
    isplitl [Ht2]; · iexact Ht2
    iexact Hr2
  iintro ⟨Hcr, HO⟩
  iapply hk
  isplitr; · iexact Hr
  isplitl [HO]; · iexists _; iexact HO
  isplitl [Ho]; · iexact Ho
  isplitl [Hpb]
  · iapply Hpb; iempintro
  isplitl [Hc]; · iexact Hc
  isplitl [Hback Hat Hcr]
  · iapply Hback
    isplitl [Hcr]; · iexact Hcr
    iexact Hat
  iexact Hi

end Cert.Exchange
-- ==== Proof.Access.lean ====
/-
# Loads and stores, one at a time

What a load reads is told by the counters; what a store writes moves one of them.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

theorem stage_lt (n : Fin 14) : n.val < 7 → stage n.val < 3 := by revert n; decide

/-! ## Loads -/

/-- A block of input rows; -/
theorem step_loadX (k : Fin 8) {off : Fin 2 → ℕ} {i : ∀ a, off a + S256x1024.size a ≤ S2048x1024.size a} {hl}
    {k' : (S256x1024.Idx → Elt F .f32) → Prog (TpuEff nD τ sig (Elt F) Λ₀ .tc) α} {Q : α → sProp 𝕄}
    (hk : St Xs Ws K c r s ⊢ wpb c (k' ((xM.access (xRect k)).read (Elt F) (Xs c))) Q) (ho : off = ![256 * k.val, 0] := by rfl) :
    St Xs Ws K c r s ⊢ wpb c (.op (.load xM (Rect.unit (s := S2048x1024) off S256x1024.size i).toLoadRect hl) k') Q := by
  subst ho
  have hw := wp_load_rect 𝒱₀ (c : Thread nD τ) none Set.univ (defs := defs₀ (F := F)) (Γ := .empty) (m := xM) (r := xRect k) (hl := hl) (k := k') (Q := Q)
    (S := Finset.univ) (q := fullShare) (f := Xs c) (Finset.subset_univ _)
  unfold St iSt at *
  iintro ⟨#Hr, HO, Ho, Hp, Hc, Hs, Hx, Hw⟩
  iapply hw $$ [Hx]; · iexact Hx
  iintro Hx
  iapply hk
  isplitr; · iexact Hr
  isplitl [HO]; · iexact HO
  isplitl [Ho]; · iexact Ho
  isplitl [Hp]; · iexact Hp
  isplitl [Hc]; · iexact Hc
  isplitl [Hs]; · iexact Hs
  isplitl [Hx]; · iexact Hx
  iexact Hw

/-- the weights; -/
theorem step_loadW {i : ∀ a, (![0, 0] : Fin 2 → ℕ) a + S1024x1024.size a ≤ S1024x1024.size a} {hl}
    {k' : (S1024x1024.Idx → Elt F .f32) → Prog (TpuEff nD τ sig (Elt F) Λ₀ .tc) α} {Q : α → sProp 𝕄}
    (hk : St Xs Ws K c r s ⊢ wpb c (k' (Ws c)) Q) :
    St Xs Ws K c r s ⊢ wpb c (.op (.load wM (Rect.unit (s := S1024x1024) ![0, 0] S1024x1024.size i).toLoadRect hl) k') Q := by
  have hw := wp_load 𝒱₀ (c : Thread nD τ) none Set.univ (defs := defs₀ (F := F)) (Γ := .empty) (m := wM) (r := (Rect.unit (s := S1024x1024) ![0, 0] S1024x1024.size i).toLoadRect) (hl := hl) (k := k') (Q := Q)
    (S := Finset.univ) (q := fullShare) (f := Ws c) (Finset.subset_univ _)
  have hread : wM.view.readAt (Elt F) (Rect.unit (s := S1024x1024) ![0, 0] S1024x1024.size i).toLoadRect (Ws c) = Ws c :=
    Memref.readAt_unit_zero (Elt F) cc1_stg1_0 (funext fun a => by fin_cases a <;> rfl) _ _
  rw [hread] at hw
  unfold St iSt at *
  iintro ⟨#Hr, HO, Ho, Hp, Hc, Hs, Hx, Hw, Hb⟩
  iapply hw $$ [Hw]; · iexact Hw
  iintro Hw
  iapply hk
  isplitr; · iexact Hr
  isplitl [HO]; · iexact HO
  isplitl [Ho]; · iexact Ho
  isplitl [Hp]; · iexact Hp
  isplitl [Hc]; · iexact Hc
  isplitl [Hs]; · iexact Hs
  isplitl [Hx]; · iexact Hx
  isplitl [Hw]; · iexact Hw
  iexact Hb

/-- the result, the value of no matter; -/
theorem step_loadO_any {m : LoadRect S8x256x1024} {hl}
    {k' : (m.shape.Idx → Elt F .f32) → Prog (TpuEff nD τ sig (Elt F) Λ₀ .tc) α} {Q : α → sProp 𝕄}
    (hk : ∀ v, St Xs Ws K c r s ⊢ wpb c (k' v) Q) :
    St Xs Ws K c r s ⊢ wpb c (.op (.load oM m hl) k') Q := by
  have hw := fun f => wp_load 𝒱₀ (c : Thread nD τ) none Set.univ (defs := defs₀ (F := F)) (Γ := .empty) (m := oM) (r := m) (hl := hl) (k := k') (Q := Q)
    (S := Finset.univ) (q := fullShare) (f := f) (Finset.subset_univ _)
  unfold St oSt at *
  iintro ⟨#Hr, HO, ⟨%f, %hf, Ho⟩, Hp, Hc, Hs, Hi⟩
  iapply (hw f) $$ [Ho]; · iexact Ho
  iintro Ho
  iapply (hk _)
  isplitr; · iexact Hr
  isplitl [HO]; · iexact HO
  isplitl [Ho]
  · iexists f
    isplitr; · ipureintro; exact hf
    iexact Ho
  isplitl [Hp]; · iexact Hp
  isplitl [Hc]; · iexact Hc
  isplitl [Hs]; · iexact Hs
  iexact Hi

/-- the half chunk copy `n` will be added to, being at its stage's level; -/
theorem step_loadO (b : Fin 2) (n : Fin 14) {offf : Dev nD → Fin 3 → ℕ} {i : ∀ a, offf c a + S1x256x512.size a ≤ S8x256x1024.size a} {hl}
    {k' : (S1x256x512.Idx → Elt F .f32) → Prog (TpuEff nD τ sig (Elt F) Λ₀ .tc) α} {Q : α → sProp 𝕄}
    (hk : St Xs Ws K c r s ⊢ wpb c (k' (up3 (part Xs Ws b (stage n.val) c (rcv b n c)))) Q)
    (hn : n.val < 7 := by decide) (hnO : (get b s).nO = n.val := by rfl) (hr : r = 8 := by rfl)
    (ho : ∀ c, offf c = ![(rcv b n c).val, 0, 512 * b.val] := by decide +kernel) :
    St Xs Ws K c r s ⊢ wpb c (.op (.load oM (Rect.unit (s := S8x256x1024) (offf c) S1x256x512.size i).toLoadRect hl) k') Q := by
  have ho := ho c
  generalize offf c = off at *
  subst ho
  have hw := fun f => wp_load_rect 𝒱₀ (c : Thread nD τ) none Set.univ (defs := defs₀ (F := F)) (Γ := .empty) (m := oM) (r := oRect b (rcv b n c)) (hl := hl) (k := k') (Q := Q)
    (S := Finset.univ) (q := fullShare) (f := f) (Finset.subset_univ _)
  have hv : up3 (ov Xs Ws c b (rcv b n c) (lvl c b (get b s).nO (rcv b n c))) = up3 (part Xs Ws b (stage n.val) c (rcv b n c)) := by
    rw [hnO, (lvl_rcv c b n hn).1]; unfold ov
    rw [if_neg]
    have := stage_lt n hn; omega
  unfold St oSt at *
  iintro ⟨#Hr, HO, ⟨%f, %hf, Ho⟩, Hp, Hc, Hs, Hi⟩
  have hread := (hf b (rcv b n c) (by omega)).trans hv
  have hwf := hw f
  rw [show (oM.access (oRect b (rcv b n c))).read (Elt F) f = _ from hread] at hwf
  iapply hwf $$ [Ho]; · iexact Ho
  iintro Ho
  iapply hk
  isplitr; · iexact Hr
  isplitl [HO]; · iexact HO
  isplitl [Ho]
  · iexists f
    isplitr; · ipureintro; exact hf
    iexact Ho
  isplitl [Hp]; · iexact Hp
  isplitl [Hc]; · iexact Hc
  isplitl [Hs]; · iexact Hs
  iexact Hi

/-- an arrived copy; -/
theorem step_loadC (b : Fin 2) (n : Fin 14) {off : Fin 4 → ℕ} {i : ∀ a, off a + S1x1x256x512.size a ≤ S2x14x256x512.size a} {hl}
    {k' : (S1x1x256x512.Idx → Elt F .bf16) → Prog (TpuEff nD τ sig (Elt F) Λ₀ .tc) α} {Q : α → sProp 𝕄}
    (hk : St Xs Ws K c r s ⊢ wpb c (k' (up4 (got Xs Ws c b n))) Q)
    (hn : n.val < (get b s).nR := by decide) (ho : off = ![b.val, n.val, 0, 0] := by rfl) :
    St Xs Ws K c r s ⊢ wpb c (.op (.load cM (Rect.unit (s := S2x14x256x512) off S1x1x256x512.size i).toLoadRect hl) k') Q := by
  subst ho
  have hw := fun f => wp_load_rect 𝒱₀ (c : Thread nD τ) none Set.univ (defs := defs₀ (F := F)) (Γ := .empty) (m := cM) (r := cRect b n) (hl := hl) (k := k') (Q := Q)
    (S := (cBlk b n).view.set) (q := fullShare) (f := f) (by rw [cBlk_set])
  have hstep := bigSep_univ_at (fun j : Fin 2 × Fin 14 => cOne Xs Ws c j.1 j.2 (get j.1 s)) (b, n)
  have h0 : cOne Xs Ws c b n (get b s) = iprop(cPts c b n (got Xs Ws c b n) ∗ atPos ER (recvCell c b n) 1 ∅ 0) := by
    unfold cOne; rw [if_pos hn]
  dsimp only at hstep
  rw [h0] at hstep
  unfold St cSt at *
  iintro ⟨#Hr, HO, Ho, Hp, Hc, Hs, Hi⟩
  ihave Hc' := (Entails.of_eq hstep) $$ Hc
  unfold cPts owns
  icases Hc' with ⟨⟨⟨%f, %hf, Hb⟩, Hat⟩, Hrest⟩
  have hwf := hw f
  rw [cBlk_load, hf] at hwf
  iapply hwf $$ [Hb]; · iexact Hb
  iintro Hb
  iapply hk
  isplitr; · iexact Hr
  isplitl [HO]; · iexact HO
  isplitl [Ho]; · iexact Ho
  isplitl [Hp]; · iexact Hp
  isplitl [Hb Hat Hrest]
  · iapply (Entails.of_eq hstep.symm)
    isplitl [Hb Hat]
    · isplitl [Hb]
      · unfold cPts owns
        iexists f
        isplitr; · ipureintro; exact hf
        iexact Hb
      · iexact Hat
    · iexact Hrest
  isplitl [Hs]; · iexact Hs
  iexact Hi

/-- a chunk of the staging copy, the value of no matter. -/
theorem loadP_at (b : Fin 2) (k : Fin 8) {off : Fin 4 → ℕ} {i : ∀ a, off a + S1x1x256x512.size a ≤ S2x8x256x512.size a} {hl}
    {k' : (S1x1x256x512.Idx → Elt F .bf16) → Prog (TpuEff nD τ sig (Elt F) Λ₀ .tc) α} {Q : α → sProp 𝕄}
    (hk : ∀ v, St Xs Ws K c r s ⊢ wpb c (k' v) Q)
    (ha : ¬ away c b (get b s).nW (get b s).nS k) (ho : off = ![b.val, k.val, 0, 0]) :
    St Xs Ws K c r s ⊢ wpb c (.op (.load pM (Rect.unit (s := S2x8x256x512) off S1x1x256x512.size i).toLoadRect hl) k') Q := by
  subst ho
  have hw := fun f => wp_load_rect 𝒱₀ (c : Thread nD τ) none Set.univ (defs := defs₀ (F := F)) (Γ := .empty) (m := pM) (r := pRect b k) (hl := hl) (k := k') (Q := Q)
    (S := (pBlk b k).view.set) (q := fullShare) (f := f) (by rw [pBlk_set])
  have hstep := bigSep_univ_at (fun j : Fin 2 × Fin 8 => pOne Xs Ws c j.1 j.2 (get j.1 s)) (b, k)
  have h0 : pOne Xs Ws c b k (get b s) = iprop(∃ X, ⌜k.val < (get b s).q → X = pv Xs Ws c b k (lvl c b (get b s).nP k)⌝ ∗ pPts c b k X) := by
    unfold pOne; rw [if_neg ha]
  dsimp only at hstep
  rw [h0] at hstep
  unfold St pSt at *
  iintro ⟨#Hr, HO, Ho, Hp, Hc, Hs, Hi⟩
  ihave Hp' := (Entails.of_eq hstep) $$ Hp
  unfold pPts owns
  icases Hp' with ⟨⟨%X, %hX, %f, %hf, Hb⟩, Hrest⟩
  iapply (hw f) $$ [Hb]; · iexact Hb
  iintro Hb
  iapply (hk _)
  isplitr; · iexact Hr
  isplitl [HO]; · iexact HO
  isplitl [Ho]; · iexact Ho
  isplitl [Hb Hrest]
  · iapply (Entails.of_eq hstep.symm)
    isplitl [Hb]
    · unfold pPts owns
      iexists X
      isplitr; · ipureintro; exact hX
      iexists f
      isplitr; · ipureintro; exact hf
      iexact Hb
    · iexact Hrest
  isplitl [Hc]; · iexact Hc
  isplitl [Hs]; · iexact Hs
  iexact Hi

/-- The chunk copy `n` brings is not on its way out. -/
theorem not_away (c : Dev nD) (b : Fin 2) (n : Fin 14) {w v : ℕ} (hw : base n.val ≤ w) (hv : v ≤ fin n.val) : ¬ away c b w v (rcv b n c) := by
  rintro ⟨m, h1, h2, h3⟩
  refine src_ne_rcv c b m n ?_ h3
  by_cases h : n.val ≤ m.val
  · exact base_up n m h (by omega)
  · exact base_down n m (by omega) (by omega)

theorem step_loadP (b : Fin 2) (n : Fin 14) {offf : Dev nD → Fin 4 → ℕ} {i : ∀ a, offf c a + S1x1x256x512.size a ≤ S2x8x256x512.size a} {hl}
    {k' : (S1x1x256x512.Idx → Elt F .bf16) → Prog (TpuEff nD τ sig (Elt F) Λ₀ .tc) α} {Q : α → sProp 𝕄}
    (hk : ∀ v, St Xs Ws K c r s ⊢ wpb c (k' v) Q)
    (hW : base n.val ≤ (get b s).nW := by decide) (hS : (get b s).nS ≤ fin n.val := by decide)
    (ho : ∀ c, offf c = ![b.val, (rcv b n c).val, 0, 0] := by decide +kernel) :
    St Xs Ws K c r s ⊢ wpb c (.op (.load pM (Rect.unit (s := S2x8x256x512) (offf c) S1x1x256x512.size i).toLoadRect hl) k') Q :=
  loadP_at b (rcv b n c) hk (not_away c b n hW hS) (ho c)

/-! ## Stores -/

theorem storeO_at (b : Fin 2) (n : Fin 14) (X : FVec F S256x512 .f32) {off : Fin 3 → ℕ} {i : ∀ a, off a + S1x256x512.size a ≤ S8x256x1024.size a} {w : S1x256x512.Idx → Elt F .f32} {hx hm}
    {k' : PUnit → Prog (TpuEff nD τ sig (Elt F) Λ₀ .tc) α} {Q : α → sProp 𝕄}
    (hk : St Xs Ws K c r (upd b ((get b s).atO (n.val + 1)) s) ⊢ wpb c (k' ⟨⟩) Q)
    (ho : off = ![(rcv b n c).val, 0, 512 * b.val]) (hw : w = up3 X) (hX : X = ov Xs Ws c b (rcv b n c) (lvl c b (n.val + 1) (rcv b n c)))
    (hnO : (get b s).nO = n.val) :
    St Xs Ws K c r s ⊢ wpb c (.op (.store oM (Rect.unit (s := S8x256x1024) off S1x256x512.size i) w Finset.univ hx hm) k') Q := by
  subst ho hw
  have hw := fun f => wp_store 𝒱₀ (c : Thread nD τ) none Set.univ (defs := defs₀ (F := F)) (Γ := .empty) (m := oM) (r := oRect b (rcv b n c)) (w := up3 X) (Mk := Finset.univ) (hx := hx) (hm := hm) (k := k') (Q := Q)
    (S := Finset.univ) (f := f) (Finset.subset_univ _)
  unfold St at *
  rw [dSt_same b ((get b s).atO (n.val + 1)) rfl, pSt_same Xs Ws b ((get b s).atO (n.val + 1)) rfl rfl rfl rfl, cSt_same Xs Ws b ((get b s).atO (n.val + 1)) rfl,
    sSt_same b ((get b s).atO (n.val + 1)) rfl rfl] at hk
  unfold oSt at *
  iintro ⟨#Hr, HO, ⟨%f, %hf, Ho⟩, Hp, Hc, Hs, Hi⟩
  iapply (hw f) $$ [Ho]; · iexact Ho
  iintro Ho
  iapply hk
  isplitr; · iexact Hr
  isplitl [HO]; · iexact HO
  isplitl [Ho]
  · iexists ((oM.access (oRect b (rcv b n c))).write (Elt F) f (up3 X) Finset.univ)
    isplitr
    · ipureintro
      intro b' k hkr
      by_cases hbk : (b', k) = (b, rcv b n c)
      · obtain ⟨rfl, rfl⟩ := Prod.mk.inj hbk
        rw [get_upd]
        exact (oBlk_store _ _ f _).trans (by rw [hX])
      · rw [oBlk_store_ne hbk, hf b' k hkr]
        by_cases hb : b' = b
        · subst hb
          rw [get_upd, hnO]
          show _ = up3 (ov Xs Ws c b' k (lvl c b' (n.val + 1) k))
          rw [lvl_other c b' n k (fun e => hbk (by rw [e]))]
        · rw [get_upd_ne hb]
    · iexact Ho
  isplitl [Hp]; · iexact Hp
  isplitl [Hc]; · iexact Hc
  isplitl [Hs]; · iexact Hs
  iexact Hi

/-- The half chunk with the arrived part added; -/
theorem step_foldO (b : Fin 2) (n : Fin 14) {offf : Dev nD → Fin 3 → ℕ} {i : ∀ a, offf c a + S1x256x512.size a ≤ S8x256x1024.size a} {w : S1x256x512.Idx → Elt F .f32} {hx hm}
    {k' : PUnit → Prog (TpuEff nD τ sig (Elt F) Λ₀ .tc) α} {s' : Ctrs} {Q : α → sProp 𝕄}
    (hk : St Xs Ws K c r s' ⊢ wpb c (k' ⟨⟩) Q)
    (hw : w = up3 (part Xs Ws b (stage n.val + 1) c (rcv b n c)))
    (hn : n.val < 7 := by decide) (hnO : (get b s).nO = n.val := by rfl)
    (hs' : s' = upd b ((get b s).atO (n.val + 1)) s := by rfl)
    (ho : ∀ c, offf c = ![(rcv b n c).val, 0, 512 * b.val] := by decide +kernel) :
    St Xs Ws K c r s ⊢ wpb c (.op (.store oM (Rect.unit (s := S8x256x1024) (offf c) S1x256x512.size i) w Finset.univ hx hm) k') Q := by
  subst hs'
  refine storeO_at b n _ hk (ho c) hw ?_ hnO
  rw [(lvl_rcv c b n hn).2]; unfold ov
  rw [if_neg]
  have := stage_lt n hn; omega

/-- the finished half chunk as it arrived. -/
theorem step_copyO (b : Fin 2) (n : Fin 14) {offf : Dev nD → Fin 3 → ℕ} {i : ∀ a, offf c a + S1x256x512.size a ≤ S8x256x1024.size a} {w : S1x256x512.Idx → Elt F .f32} {hx hm}
    {k' : PUnit → Prog (TpuEff nD τ sig (Elt F) Λ₀ .tc) α} {s' : Ctrs} {Q : α → sProp 𝕄}
    (hk : St Xs Ws K c r s' ⊢ wpb c (k' ⟨⟩) Q)
    (hw : w = up3 (extf .f32 (got Xs Ws c b n) bitsLt_bf16_f32))
    (hn : 7 ≤ n.val := by decide) (hnO : (get b s).nO = n.val := by rfl)
    (hs' : s' = upd b ((get b s).atO (n.val + 1)) s := by rfl)
    (ho : ∀ c, offf c = ![(rcv b n c).val, 0, 512 * b.val] := by decide +kernel) :
    St Xs Ws K c r s ⊢ wpb c (.op (.store oM (Rect.unit (s := S8x256x1024) (offf c) S1x256x512.size i) w Finset.univ hx hm) k') Q := by
  subst hs'
  refine storeO_at b n _ hk (ho c) hw ?_ hnO
  rw [lvl_rcv_gather c b n hn]
  unfold got sent slvl
  rw [if_neg (by omega)]; rfl

/-- A chunk's product written whole. -/
theorem step_storeRow (k : Fin 8) {off : Fin 3 → ℕ} {i : ∀ a, off a + S1x256x1024.size a ≤ S8x256x1024.size a} {w : S1x256x1024.Idx → Elt F .f32} {hx hm}
    {k' : PUnit → Prog (TpuEff nD τ sig (Elt F) Λ₀ .tc) α} {r' : ℕ} {Q : α → sProp 𝕄}
    (hk : St Xs Ws K c r' s ⊢ wpb c (k' ⟨⟩) Q)
    (hw : w = shapeCast S1x256x1024 (prod Xs Ws c k) shapeCasts_S256x1024_S1x256x1024)
    (hr : r = k.val := by rfl) (hr' : r' = k.val + 1 := by rfl) (h0 : ∀ b, (get b s).nO = 0 := by decide)
    (ho : off = ![k.val, 0, 0] := by rfl) :
    St Xs Ws K c r s ⊢ wpb c (.op (.store oM (Rect.unit (s := S8x256x1024) off S1x256x1024.size i) w Finset.univ hx hm) k') Q := by
  subst ho hw hr'
  have hw := fun f => wp_store 𝒱₀ (c : Thread nD τ) none Set.univ (defs := defs₀ (F := F)) (Γ := .empty) (m := oM) (r := rRect k) (w := shapeCast S1x256x1024 (prod Xs Ws c k) shapeCasts_S256x1024_S1x256x1024) (Mk := Finset.univ) (hx := hx) (hm := hm) (k := k') (Q := Q)
    (S := Finset.univ) (f := f) (Finset.subset_univ _)
  unfold St oSt at *
  iintro ⟨#Hr, HO, ⟨%f, %hf, Ho⟩, Hp, Hc, Hs, Hi⟩
  iapply (hw f) $$ [Ho]; · iexact Ho
  iintro Ho
  iapply hk
  isplitr; · iexact Hr
  isplitl [HO]; · iexact HO
  isplitl [Ho]
  · iexists _
    isplitr
    · ipureintro
      intro b k₁ hkr
      by_cases hk₁ : k₁ = k
      · subst hk₁
        rw [oRow_store b k₁ f _ (half_slices b), h0 b, lvl_zero]; rfl
      · rw [oRow_store_ne hk₁]
        exact hf b k₁ (by have : k₁.val ≠ k.val := fun e => hk₁ (Fin.ext e)
                          omega)
    · iexact Ho
  isplitl [Hp]; · iexact Hp
  isplitl [Hc]; · iexact Hc
  isplitl [Hs]; · iexact Hs
  iexact Hi

theorem storeP_at (b : Fin 2) (k : Fin 8) (x : Ctr) (X : FVec F S256x512 .bf16) {off : Fin 4 → ℕ} {i : ∀ a, off a + S1x1x256x512.size a ≤ S2x8x256x512.size a} {w : S1x1x256x512.Idx → Elt F .bf16} {hx hm}
    {k' : PUnit → Prog (TpuEff nD τ sig (Elt F) Λ₀ .tc) α} {Q : α → sProp 𝕄}
    (hk : St Xs Ws K c r (upd b x s) ⊢ wpb c (k' ⟨⟩) Q)
    (ho : off = ![b.val, k.val, 0, 0]) (hw : w = up4 X) (hX : X = pv Xs Ws c b k (lvl c b x.nP k))
    (ha : ¬ away c b (get b s).nW (get b s).nS k) (hS : x.nS = (get b s).nS) (hW : x.nW = (get b s).nW) (hR : x.nR = (get b s).nR) (hO : x.nO = (get b s).nO)
    (hother : ∀ k₁ : Fin 8, k₁ ≠ k → (k₁.val < x.q → k₁.val < (get b s).q) ∧ lvl c b x.nP k₁ = lvl c b (get b s).nP k₁) :
    St Xs Ws K c r s ⊢ wpb c (.op (.store pM (Rect.unit (s := S2x8x256x512) off S1x1x256x512.size i) w Finset.univ hx hm) k') Q := by
  subst ho hw
  have hw := fun f => wp_store 𝒱₀ (c : Thread nD τ) none Set.univ (defs := defs₀ (F := F)) (Γ := .empty) (m := pM) (r := pRect b k) (w := up4 X) (Mk := Finset.univ) (hx := hx) (hm := hm) (k := k') (Q := Q)
    (S := (pBlk b k).view.set) (f := f) (by rw [pBlk_set, View.setOn_univ])
  have hstep := bigSep_ctr (pOne Xs Ws c) s b k x (fun k₁ hne => by
    obtain ⟨h1, h2⟩ := hother k₁ hne
    unfold pOne
    rw [hS, hW, h2]
    split
    · exact BI.Entails.refl _
    · iintro ⟨%X, %hX, H⟩
      iexists X
      isplitr; · ipureintro; exact fun h => hX (h1 h)
      iexact H)
  have h0 : pOne Xs Ws c b k (get b s) = iprop(∃ X, ⌜k.val < (get b s).q → X = pv Xs Ws c b k (lvl c b (get b s).nP k)⌝ ∗ pPts c b k X) := by
    unfold pOne; rw [if_neg ha]
  have h1 : pOne Xs Ws c b k x = iprop(∃ X, ⌜k.val < x.q → X = pv Xs Ws c b k (lvl c b x.nP k)⌝ ∗ pPts c b k X) := by
    unfold pOne; rw [hS, hW, if_neg ha]
  rw [h0, h1] at hstep
  unfold St at *
  rw [dSt_same b x hS, oSt_same Xs Ws b x hO, cSt_same Xs Ws b x hR, sSt_same b x hS hW] at hk
  unfold pSt at *
  iintro ⟨#Hr, HO, Ho, Hp, Hc, Hs, Hi⟩
  ihave Hp' := hstep $$ Hp
  unfold pPts owns
  icases Hp' with ⟨⟨%X', -, %f, -, Hb⟩, Hrest⟩
  iapply (hw f) $$ [Hb]; · iexact Hb
  iintro Hb
  iapply hk
  isplitr; · iexact Hr
  isplitl [HO]; · iexact HO
  isplitl [Ho]; · iexact Ho
  isplitl [Hb Hrest]
  · iapply Hrest
    iexists X
    isplitr; · ipureintro; exact fun _ => hX
    iexists _
    isplitr; · ipureintro; exact pBlk_store b k f X
    iexact Hb
  isplitl [Hc]; · iexact Hc
  isplitl [Hs]; · iexact Hs
  iexact Hi

/-- A half chunk's product, rounded, in the staging copy; -/
theorem step_newP (b : Fin 2) (k : Fin 8) {off : Fin 4 → ℕ} {i : ∀ a, off a + S1x1x256x512.size a ≤ S2x8x256x512.size a} {w : S1x1x256x512.Idx → Elt F .bf16} {hx hm}
    {k' : PUnit → Prog (TpuEff nD τ sig (Elt F) Λ₀ .tc) α} {s' : Ctrs} {Q : α → sProp 𝕄}
    (hk : St Xs Ws K c r s' ⊢ wpb c (k' ⟨⟩) Q)
    (hw : w = up4 (truncf .bf16 (part Xs Ws b 0 c k) bitsLt_bf16_f32))
    (ha : ¬ away c b (get b s).nW (get b s).nS k)
    (hq : (get b s).q = k.val := by rfl) (hP : (get b s).nP = 0 := by rfl)
    (hs' : s' = upd b ((get b s).atQ (k.val + 1)) s := by rfl) (ho : off = ![b.val, k.val, 0, 0] := by rfl) :
    St Xs Ws K c r s ⊢ wpb c (.op (.store pM (Rect.unit (s := S2x8x256x512) off S1x1x256x512.size i) w Finset.univ hx hm) k') Q := by
  subst hs'
  refine storeP_at b k _ _ hk ho hw ?_ ha rfl rfl rfl rfl fun k₁ hne => ⟨fun h => ?_, rfl⟩
  · show _ = pv Xs Ws c b k (lvl c b (get b s).nP k)
    rw [hP, lvl_zero]; rfl
  · have h : k₁.val < k.val + 1 := h
    have : k₁.val ≠ k.val := fun e => hne (Fin.ext e)
    omega

/-- the half chunk with the arrived part added, rounded; -/
theorem step_foldP (b : Fin 2) (n : Fin 14) {offf : Dev nD → Fin 4 → ℕ} {i : ∀ a, offf c a + S1x1x256x512.size a ≤ S2x8x256x512.size a} {w : S1x1x256x512.Idx → Elt F .bf16} {hx hm}
    {k' : PUnit → Prog (TpuEff nD τ sig (Elt F) Λ₀ .tc) α} {s' : Ctrs} {Q : α → sProp 𝕄}
    (hk : St Xs Ws K c r s' ⊢ wpb c (k' ⟨⟩) Q)
    (hw : w = up4 (truncf .bf16 (part Xs Ws b (stage n.val + 1) c (rcv b n c)) bitsLt_bf16_f32))
    (hn : n.val < 7 := by decide) (hP : (get b s).nP = n.val := by rfl)
    (hW : base n.val ≤ (get b s).nW := by decide) (hS : (get b s).nS ≤ fin n.val := by decide)
    (hs' : s' = upd b ((get b s).atP (n.val + 1)) s := by rfl)
    (ho : ∀ c, offf c = ![b.val, (rcv b n c).val, 0, 0] := by decide +kernel) :
    St Xs Ws K c r s ⊢ wpb c (.op (.store pM (Rect.unit (s := S2x8x256x512) (offf c) S1x1x256x512.size i) w Finset.univ hx hm) k') Q := by
  subst hs'
  refine storeP_at b _ _ _ hk (ho c) hw ?_ (not_away c b n hW hS) rfl rfl rfl rfl fun k₁ hne => ⟨id, ?_⟩
  · show _ = pv Xs Ws c b _ (lvl c b (n.val + 1) _)
    rw [(lvl_rcv c b n hn).2]; unfold pv
    rw [if_neg]
    have := stage_lt n hn; omega
  · show lvl c b (n.val + 1) k₁ = _
    rw [lvl_other c b n k₁ hne, hP]

/-- the finished half chunk as it arrived. -/
theorem step_copyP (b : Fin 2) (n : Fin 14) {offf : Dev nD → Fin 4 → ℕ} {i : ∀ a, offf c a + S1x1x256x512.size a ≤ S2x8x256x512.size a} {w : S1x1x256x512.Idx → Elt F .bf16} {hx hm}
    {k' : PUnit → Prog (TpuEff nD τ sig (Elt F) Λ₀ .tc) α} {s' : Ctrs} {Q : α → sProp 𝕄}
    (hk : St Xs Ws K c r s' ⊢ wpb c (k' ⟨⟩) Q)
    (hw : w = up4 (got Xs Ws c b n))
    (hn : 7 ≤ n.val := by decide) (hP : (get b s).nP = n.val := by rfl)
    (hW : base n.val ≤ (get b s).nW := by decide) (hS : (get b s).nS ≤ fin n.val := by decide)
    (hs' : s' = upd b ((get b s).atP (n.val + 1)) s := by rfl)
    (ho : ∀ c, offf c = ![b.val, (rcv b n c).val, 0, 0] := by decide +kernel) :
    St Xs Ws K c r s ⊢ wpb c (.op (.store pM (Rect.unit (s := S2x8x256x512) (offf c) S1x1x256x512.size i) w Finset.univ hx hm) k') Q := by
  subst hs'
  refine storeP_at b _ _ _ hk (ho c) hw ?_ (not_away c b n hW hS) rfl rfl rfl rfl fun k₁ hne => ⟨id, ?_⟩
  · show _ = pv Xs Ws c b _ (lvl c b (n.val + 1) _)
    rw [lvl_rcv_gather c b n hn]
    unfold got sent slvl
    rw [if_neg (by omega)]; rfl
  · show lvl c b (n.val + 1) k₁ = _
    rw [lvl_other c b n k₁ hne, hP]

/-! ## What is added -/

/-- The part that arrives on copy `n`, added to the half chunk's own, is the sum one stage further. -/
theorem fold_eq (c : Dev nD) (b : Fin 2) (n : Fin 14) (hn : n.val < 7) :
    addf (part Xs Ws b (stage n.val) c (rcv b n c)) (extf .f32 (got Xs Ws c b n) bitsLt_bf16_f32) = part Xs Ws b (stage n.val + 1) c (rcv b n c) := by
  show _ = addf (part Xs Ws b (stage n.val) c (rcv b n c)) (extf .f32 (truncf .bf16 (part Xs Ws b (stage n.val) (peer b n c) (rcv b n c)) bitsLt_bf16_f32) bitsLt_bf16_f32)
  unfold got sent slvl pv
  rw [if_pos hn, if_neg]
  · rfl
  · have := stage_lt n hn; omega

/-! ## The sends, at places and devices given as functions -/

theorem step_send (b : Fin 2) (n : Fin 14) {devf : Dev nD → ℕ} {hlt : devf c < nD} {semS semR : DmaSem sig}
    {offp : Dev nD → Fin 4 → ℕ} {offc : Fin 4 → ℕ} {ip : ∀ a, offp c a + S1x1x256x512.size a ≤ S2x8x256x512.size a} {ic : ∀ a, offc a + S1x1x256x512.size a ≤ S2x14x256x512.size a}
    {hsc} {h₁} {h₂} {h₃} {k : PUnit → Prog (TpuEff nD τ sig (Elt F) Λ₀ .tc) α} {s' : Ctrs}
    {Q : α → sProp 𝕄} (hk : St Xs Ws K c r s' ⊢ wpb c (k ⟨⟩) Q)
    (hs' : s' = upd b ((get b s).atS (n.val + 1)) s := by rfl)
    (hd : ∀ c, devf c = (peer b n c).val := by decide +kernel) (hp : ∀ c, offp c = ![b.val, (src b n c).val, 0, 0] := by decide +kernel) (hc : offc = ![b.val, n.val, 0, 0] := by rfl)
    (hsS : semS = sendQ b n := by rfl) (hsR : semR = recvQ b n := by rfl)
    (hS : (get b s).nS = n.val := by rfl) (hW : base n.val ≤ (get b s).nW := by decide) (hW' : (get b s).nW ≤ n.val := by decide) (hP : base n.val ≤ (get b s).nP := by decide) (hP' : (get b s).nP ≤ fin n.val := by decide)
    (hq : (get b s).q = 8 := by rfl) :
    St Xs Ws K c r s ⊢ wpb c (.op (.enqueueDma ((pM.slice (Rect.unit (s := S2x8x256x512) (offp c) S1x1x256x512.size ip) (fun _ => rfl)).squeeze S256x512 squeezes_S1x1x256x512_S256x512)
      (.remote (Dev.tc (⟨devf c, hlt⟩ : Dev nD) : Thread nD τ) ((cM.slice (Rect.unit (s := S2x14x256x512) offc S1x1x256x512.size ic) (fun _ => rfl)).squeeze S256x512 squeezes_S1x1x256x512_S256x512) (.dma semS) hsc) (.dma semR) h₁ h₂ h₃) k) Q := by
  subst hs'
  exact step_send' b n _ hk rfl (Fin.ext (hd c)) (hp c) hc hsS hsR hS hW hW' hP hP' (by rw [hq]; exact (src b n c).isLt)

end Cert.Exchange
-- ==== Proof.Entry.lean ====
/-
# The kernel's beginning

Device `c` hands each of its three neighbours the landing blocks of the copies that come from there and waits for
theirs; what it holds then is the exchange's first state.
-/
module

public import proofs.«01_k».proof.Proof.Access

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

/-- Nothing done yet. -/
abbrev zero : Ctrs := (⟨0, 0, 0, 0, 0, 0⟩, ⟨0, 0, 0, 0, 0, 0⟩)

/-- What pays for device `c`'s copies, but for the blocks they land in. -/
def sPre (c : Dev nD) : sProp 𝕄 := bigSep Finset.univ fun j : Fin 2 × Fin 14 =>
  iprop(dutyTok ER (sendCell c j.1 j.2) 0 0 ∗ dutyTok ER (recvCell (peer j.1 j.2 c) j.1 j.2) 0 0 ∗ atStart (sendCell c j.1 j.2))

/-- The credit of a signal across axis `d`. -/
abbrev barOwe (c : Dev nD) (d : Fin 3) : CellTallies nD τ sig Unit := tallyAt (barCell (across d.val c)) () 1
/-- What device `c` owes at first: its three signals and every copy. -/
def Owe₀ (c : Dev nD) : CellTallies nD τ sig Unit := Owe c zero + barOwe c 2 + barOwe c 1 + barOwe c 0

section
variable (Xs : Dev nD → (cc1_stg0_0 : Ref sig .tc).ty.Contents (Elt F)) (Ws : Dev nD → (cc1_stg1_0 : Ref sig .tc).ty.Contents (Elt F))
variable (K : Dev nD × CK → ℕ) (c : Dev nD)
/-- What device `c` starts from. -/
def Start : sProp 𝕄 :=
  iprop(recs Xs Ws K ∗ (∃ W, owes (c : Thread nD τ) (Owe₀ c) W) ∗ (∃ f : Buf (Elt F) ((c : Thread nD τ).loc cc1_stg2_0), ((c : Thread nD τ).loc cc1_stg2_0 ↦{fullShare} f))
    ∗ pSt Xs Ws c zero ∗ cSt Xs Ws c zero ∗ sPre c
    ∗ ((c : Thread nD τ).loc cc1_stg0_0 ↦{fullShare} Xs c) ∗ ((c : Thread nD τ).loc cc1_stg1_0 ↦{fullShare} Ws c)
    ∗ atPos ER (barCell c) 0 ∅ 0 ∗ cred (tallyAt (barCell c) () 3)
    ∗ (bigSep Finset.univ fun d : Fin 3 => dutyTok ER (barCell (across d.val c)) 0 d)
    ∗ (bigSep Finset.univ fun j : Fin 2 × Fin 14 => land c j.1 j.2))
end

theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl

theorem axis_lt (b : Fin 2) (n : Fin 14) : axis b.val (stage n.val) = (0 : Fin 3).val ∨ axis b.val (stage n.val) = (1 : Fin 3).val ∨ axis b.val (stage n.val) = (2 : Fin 3).val := by revert b n; decide
theorem axis_ne {a : ℕ} {d : Fin 3} (h : a = d.val) (e : Fin 3) (hn : d ≠ e) : ¬ a = e.val := fun h' => hn (Fin.ext (h.symm.trans h'))
theorem peer_across (d : Fin 3) (c : Dev nD) (b : Fin 2) (n : Fin 14) (h : axis b.val (stage n.val) = d.val) : peer b n (across d.val c) = c := by
  unfold peer; rw [h]; exact across_across d c

/-- A device's landing blocks, each with the neighbour its copy comes from. -/
theorem hand_over (c : Dev nD) : (bigSep Finset.univ fun j : Fin 2 × Fin 14 => land (F := F) c j.1 j.2)
    ⊢ bigSep Finset.univ fun d : Fin 3 => barPay (across d.val c) d := by
  rw [bigSep_three]; unfold barPay
  rw [← bigSep_sep', ← bigSep_sep']
  refine BI.bigSep_mono fun j _ => ?_
  have hp := fun d h => peer_across d c j.1 j.2 h
  rcases axis_lt j.1 j.2 with h | h | h
  · have := hp 0 h
    rw [if_pos h, if_neg (axis_ne h 1 (by decide)), if_neg (axis_ne h 2 (by decide)), this]
    show (_ : sProp 𝕄) ⊢ _
    iintro H; isplitl [H]; · iexact H
    isplitr <;> iempintro
  · have := hp 1 h
    rw [if_neg (axis_ne h 0 (by decide)), if_pos h, if_neg (axis_ne h 2 (by decide)), this]
    show (_ : sProp 𝕄) ⊢ _
    iintro H; isplitr; · iempintro
    isplitl [H]; · iexact H
    iempintro
  · have := hp 2 h
    rw [if_neg (axis_ne h 0 (by decide)), if_neg (axis_ne h 1 (by decide)), if_pos h, this]
    show (_ : sProp 𝕄) ⊢ _
    iintro H; isplitr; · iempintro
    isplitr; · iempintro
    iexact H

/-- What the three neighbours hand device `c` is the blocks its copies land in. -/
theorem take_over (c : Dev nD) : iprop((bigSep Finset.univ fun d : Fin 3 => barPay (F := F) c d) ∗ sPre c) ⊢ sSt c zero := by
  rw [bigSep_three]; unfold barPay sPre sSt
  rw [← bigSep_sep', ← bigSep_sep', ← bigSep_sep']
  refine BI.bigSep_mono fun j _ => ?_
  have hz : (get j.1 zero).nW = 0 ∧ (get j.1 zero).nS = 0 := by
    obtain ⟨b, n⟩ := j; fin_cases b <;> exact ⟨rfl, rfl⟩
  have hs : sOne (F := F) c j.1 j.2 (get j.1 zero) = iprop(dutyTok ER (sendCell c j.1 j.2) 0 0 ∗ dutyTok ER (recvCell (peer j.1 j.2 c) j.1 j.2) 0 0
      ∗ land (peer j.1 j.2 c) j.1 j.2 ∗ atStart (sendCell c j.1 j.2)) := by
    unfold sOne; rw [hz.1, hz.2, if_neg (Nat.not_lt_zero _), if_neg (Nat.not_lt_zero _)]
  rw [hs]
  rcases axis_lt j.1 j.2 with h | h | h
  · rw [if_pos h, if_neg (axis_ne h 1 (by decide)), if_neg (axis_ne h 2 (by decide))]
    show (_ : sProp 𝕄) ⊢ _
    iintro ⟨⟨H, -⟩, Hd, Hr, Ha⟩
    isplitl [Hd]; · iexact Hd
    isplitl [Hr]; · iexact Hr
    isplitl [H]; · iexact H
    iexact Ha
  · rw [if_neg (axis_ne h 0 (by decide)), if_pos h, if_neg (axis_ne h 2 (by decide))]
    show (_ : sProp 𝕄) ⊢ _
    iintro ⟨⟨-, H, -⟩, Hd, Hr, Ha⟩
    isplitl [Hd]; · iexact Hd
    isplitl [Hr]; · iexact Hr
    isplitl [H]; · iexact H
    iexact Ha
  · rw [if_neg (axis_ne h 0 (by decide)), if_neg (axis_ne h 1 (by decide)), if_pos h]
    show (_ : sProp 𝕄) ⊢ _
    iintro ⟨⟨-, -, H⟩, Hd, Hr, Ha⟩
    isplitl [Hd]; · iexact Hd
    isplitl [Hr]; · iexact Hr
    isplitl [H]; · iexact H
    iexact Ha

/-- A signal across axis `d`. -/
theorem signal (d : Fin 3) (c : Dev nD) {dst : Dev nD} (hd : dst = across d.val c) {O₀ : CellTallies nD τ sig Unit} (O : CellTallies nD τ sig Unit) (hO : O₀ = O + barOwe c d) {amt : ℕ} (ha : amt = 1) (W : Waits sig Unit)
    {k : PUnit → Prog (TpuEff nD τ sig (Elt F) Λ₀ .tc) α} {Q : α → sProp 𝕄} :
    iprop(recs Xs Ws K ∗ owes (c : Thread nD τ) O₀ W ∗ dutyTok ER (barCell (across d.val c)) 0 d ∗ barPay (across d.val c) d)
      ⊢ iprop((owes (c : Thread nD τ) O W -∗ wpb c (k ⟨⟩) Q) -∗ wpb c (.op (.semSignal (dst : Thread nD τ) barS amt) k) Q) := by
  subst hd ha
  have hw := Rounds.wp_signal 𝒱₀ ER (Rd (F := F) Xs Ws) (c : Thread nD τ) none (defs := defs₀ (F := F)) (Γ := .empty) (dst := (across d.val c : Thread nD τ)) (κ := K (across d.val c, none)) (r := 0)
    (d := d) (k := k) (Q := Q) (by rw [duties_bar]; exact Finset.mem_univ _) (amount_bar Xs Ws (across d.val c) d) () O hO (W := W) (Es := Set.univ)
  rw [payload_bar] at hw
  have hcell := recs_at Xs Ws K (across d.val c, none)
  have hreach := recs_bar Xs Ws K (across d.val c)
  iintro ⟨#Hr, HO, Ht, Hp⟩ Hk
  ihave Hcell := hcell $$ Hr
  ihave Hreach := hreach $$ Hr
  iapply hw $$ [HO Ht Hp Hcell Hreach]
  · isplitl [Hcell]; · iexact Hcell
    isplitl [HO]; · iexact HO
    isplitl [Ht]; · iexact Ht
    isplitl [Hp]; · iexact Hp
    iexact Hreach
  iexact Hk

theorem dev_across : ∀ c : Dev nD, k1_dev1 c = (across 0 c).val ∧ k1_dev2 c = (across 1 c).val ∧ k1_dev3 c = (across 2 c).val := by decide +kernel

/-- The neighbours greeted and their greetings awaited. -/
theorem step_greet {d0 d1 d2 : Dev nD} {a0 a1 a2 a3 : ℕ} {k : PUnit → Prog (TpuEff nD τ sig (Elt F) Λ₀ .tc) α} {Q : α → sProp 𝕄} (hk : St Xs Ws K c 0 zero ⊢ wpb c (k ⟨⟩) Q)
    (e0 : d0 = across 0 c) (e1 : d1 = across 1 c) (e2 : d2 = across 2 c)
    (h0 : a0 = 1 := by rfl) (h1 : a1 = 1 := by rfl) (h2 : a2 = 1 := by rfl) (h3 : a3 = 3 := by rfl) :
    Start Xs Ws K c ⊢ wpb c (.op (.semSignal (d0 : Thread nD τ) barS a0) fun _ => .op (.semSignal (d1 : Thread nD τ) barS a1) fun _ =>
      .op (.semSignal (d2 : Thread nD τ) barS a2) fun _ => .op (.semWait barS a3) k) Q := by
  subst h3
  unfold Start Owe₀
  iintro ⟨#Hr, ⟨%W, HO⟩, ⟨%f, Ho⟩, Hp, Hc, Hs, Hx, Hw, Hat, Hcr, Htok, Hland⟩
  have hh := hand_over (F := F) c
  rw [bigSep_three] at hh
  ihave Hland := hh $$ Hland
  icases Hland with ⟨H0, H1, H2⟩
  ihave Htok := (Entails.of_eq (bigSep_three (F := F) _)) $$ Htok
  icases Htok with ⟨T0, T1, T2⟩
  iapply (signal (Xs := Xs) (Ws := Ws) (K := K) 0 c e0 _ rfl h0 W) $$ [HO T0 H0]
  · isplitr; · iexact Hr
    isplitl [HO]; · iexact HO
    isplitl [T0]; · iexact T0
    iexact H0
  iintro HO
  iapply (signal (Xs := Xs) (Ws := Ws) (K := K) 1 c e1 _ rfl h1 W) $$ [HO T1 H1]
  · isplitr; · iexact Hr
    isplitl [HO]; · iexact HO
    isplitl [T1]; · iexact T1
    iexact H1
  iintro HO
  iapply (signal (Xs := Xs) (Ws := Ws) (K := K) 2 c e2 _ rfl h2 W) $$ [HO T2 H2]
  · isplitr; · iexact Hr
    isplitl [HO]; · iexact HO
    isplitl [T2]; · iexact T2
    iexact H2
  iintro HO
  have hcell := recs_at Xs Ws K (c, none)
  have hlev := (recs_lev Xs Ws K).trans (mayWait_cut c (.reg barS) 1 zero rfl (fun b n _ => by unfold stage; omega))
  ihave Hcell := hcell $$ Hr
  iapply (Rounds.wp_wait_rest_token 𝒱₀ ER (Rd (F := F) Xs Ws) (c : Thread nD τ) none (κ := K (c, none))
      (wpE_semWait_eq 𝒱₀ (c : Thread nD τ) none Set.univ) (Set.mem_univ _) () (O := Owe c zero) (W := W) (R := 0) (m := 0) (T := ∅)
      (by rw [expect_bar])) $$ [Hcr HO Hat Hcell]
  · isplitl [Hcell]; · iexact Hcell
    isplitl [Hcr]; · iexact Hcr
    isplitl [HO]; · iexact HO
    isplitr; · iapply hlev; iexact Hr
    iexact Hat
  iintro ⟨HO, Hat, -, Hpay⟩
  ihave Hpay := (Entails.of_eq (rest_bar Xs Ws c)) $$ Hpay
  iapply hk
  unfold St dSt oSt iSt
  isplitr; · iexact Hr
  isplitl [HO]; · iexists _; iexact HO
  isplitl [Ho]
  · iexists f
    isplitr; · ipureintro; intro b k hlt; exact absurd hlt (Nat.not_lt_zero _)
    iexact Ho
  isplitl [Hp]; · iexact Hp
  isplitl [Hc]; · iexact Hc
  isplitl [Hpay Hs]
  · iapply (take_over (F := F) c)
    isplitl [Hpay]; · iexact Hpay
    iexact Hs
  isplitl [Hx]; · iexact Hx
  isplitl [Hw]; · iexact Hw
  iexact Hat

/-- The neighbours greeted, the weights and the first rows read. -/
theorem part1 {k} {Q : α → sProp 𝕄} (hk : ∀ (v2 v14 v17 : BitVec 32) v25, St Xs Ws K c 0 zero ⊢ wpb c (k ⟨c, v2, v14, v17, k1_pay2 (Ws c), prod Xs Ws c 0, v25⟩) Q) :
    Start Xs Ws K c ⊢ wpb c (k1_part1 xM (Memref.isWhole_whole _) wM (Memref.isWhole_whole _) oM (Memref.isWhole_whole _) cM (Memref.isWhole_whole _) pM (Memref.isWhole_whole _) cc1_scratch2 cc1_scratch3 >>= k) Q := by
  rw [k1_part1_eq_skeleton]; unfold k1_part1_skel
  simp (config := { proj := false }) only [semSignalWord, semWaitWord, Prog.lift, Prog.bind_op, Prog.bind_ret, Prog.pure_eq_ret, wpb, wp_deviceId]
  obtain ⟨e0, e1, e2⟩ := dev_across c
  refine step_greet ?_ (Fin.ext e0) (Fin.ext e1) (Fin.ext e2)
  refine step_loadW ?_
  refine step_loadX 0 ?_
  refine step_loadO_any fun v25 => ?_
  exact hk _ _ _ v25

end Cert.Exchange
-- ==== Proof.FirstWalk.lean ====
/-
# The products and the first sends

Chunk by chunk device `c` multiplies its rows with its weights, stores the product in the result and, rounded, in the
staging copy, and sends each half at once if it belongs to the first stage's copies.
-/
module

public import proofs.«01_k».proof.Proof.Access

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

/-- How many first-stage copies of half `b` carry chunks before chunk `k`: those device `c` has sent when it comes to `k`. -/
@[irreducible] def nsent (c : Fin 8) (b : Fin 2) (k : ℕ) : ℕ := (Finset.univ.filter fun n : Fin 14 => n.val < 4 ∧ (src b n c).val < k).card

theorem nsent_zero : ∀ c b, nsent c b 0 = 0 := by decide +kernel
theorem nsent_end : ∀ c b, nsent c b 8 = 4 := by decide +kernel
theorem nsent_step : ∀ (c : Fin 8) (b : Fin 2) (n : Fin 14), n.val < 4 →
    nsent c b (src b n c).val = n.val ∧ nsent c b ((src b n c).val + 1) = n.val + 1 := by decide +kernel
theorem nsent_other : ∀ (c : Fin 8) (b : Fin 2) (k : Fin 8), (∀ n : Fin 14, n.val < 4 → src b n c ≠ k) →
    nsent c b (k.val + 1) = nsent c b k.val := by decide +kernel
/-- None of them carries chunk `k`. -/
theorem nsent_away : ∀ (c : Fin 8) (b : Fin 2) (k : Fin 8), ¬ away c b 0 (nsent c b k.val) k := by decide +kernel

/-- What follows a choice follows either branch. -/
theorem bind_dite {β : Type} {p : Prop} [Decidable p] (A : p → Prog (TpuEff nD τ sig (Elt F) Λ₀ .tc) α) (B : ¬ p → Prog (TpuEff nD τ sig (Elt F) Λ₀ .tc) α)
    (k : α → Prog (TpuEff nD τ sig (Elt F) Λ₀ .tc) β) : (dite p A B >>= k) = dite p (fun h => A h >>= k) (fun h => B h >>= k) := by split <;> rfl

/-- A send under a condition, once the condition holds: copy `n` of half `b` carries chunk `k`. -/
theorem step_maybeSend (b : Fin 2) (n : Fin 14) (k : Fin 8) (condf : Dev nD → BitVec 1) (devf : Dev nD → ℕ) {d : Dev nD} {semS semR : DmaSem sig}
    {offp : Fin 4 → ℕ} {offc : Fin 4 → ℕ} {ip : ∀ a, offp a + S1x1x256x512.size a ≤ S2x8x256x512.size a} {ic : ∀ a, offc a + S1x1x256x512.size a ≤ S2x14x256x512.size a}
    {hsc} {h₁} {h₂} {h₃} {k' : PUnit → Prog (TpuEff nD τ sig (Elt F) Λ₀ .tc) α} {s' : Ctrs}
    {Q : α → sProp 𝕄} (hk : St Xs Ws K c r s' ⊢ wpb c (k' ⟨⟩) Q) (h : condf c = 1#1)
    (hs' : s' = upd b ((get b s).atS (nsent c b (k.val + 1))) s := by rfl)
    (hyes : ∀ c, condf c = 1#1 → src b n c = k := by decide +kernel) (hdev : ∀ c, condf c = 1#1 → devf c = (peer b n c).val := by decide +kernel)
    (hd : d.val = devf c := by rfl) (hn : n.val < 4 := by decide)
    (hp : offp = ![b.val, k.val, 0, 0] := by rfl) (hc : offc = ![b.val, n.val, 0, 0] := by rfl)
    (hsS : semS = sendQ b n := by rfl) (hsR : semR = recvQ b n := by rfl)
    (hS : (get b s).nS = nsent c b k.val := by rfl) (hW : (get b s).nW = 0 := by rfl) (hP : (get b s).nP = 0 := by rfl)
    (hq : (get b s).q = k.val + 1 := by rfl) :
    St Xs Ws K c r s ⊢ wpb c (.op (.enqueueDma ((pM.slice (Rect.unit (s := S2x8x256x512) offp S1x1x256x512.size ip) (fun _ => rfl)).squeeze S256x512 squeezes_S1x1x256x512_S256x512)
      (.remote (Dev.tc d : Thread nD τ) ((cM.slice (Rect.unit (s := S2x14x256x512) offc S1x1x256x512.size ic) (fun _ => rfl)).squeeze S256x512 squeezes_S1x1x256x512_S256x512) (.dma semS) hsc) (.dma semR) h₁ h₂ h₃) k') Q := by
  have hbase : base n.val = 0 := by unfold base; rw [if_pos hn]
  subst hs'
  obtain ⟨e1, e2⟩ := nsent_step c b n hn
  rw [hyes c h] at e1 e2
  exact step_send' b n ((get b s).atS (nsent c b (k.val + 1))) hk (by rw [e2]) (Fin.ext (hd.trans (hdev c h))) (by rw [hyes c h]; exact hp) hc hsS hsR
    (hS.trans e1) (by omega) (by omega) (by omega) (by omega) (by rw [hyes c h]; omega)

/-- A send under a condition: copy `n` of half `b` goes out if it carries chunk `k`, and otherwise chunk `k` stays. -/
theorem step_maybe (b : Fin 2) (k : Fin 8) (condf : Dev nD → BitVec 1) {inst : Decidable (condf c = 1#1)}
    {A : condf c = 1#1 → Prog (TpuEff nD τ sig (Elt F) Λ₀ .tc) α} {k' : Prog (TpuEff nD τ sig (Elt F) Λ₀ .tc) α} {s' : Ctrs}
    {Q : α → sProp 𝕄} (hk : St Xs Ws K c r s' ⊢ wpb c k' Q)
    (hA : (h : condf c = 1#1) → (St Xs Ws K c r s' ⊢ wpb c k' Q) → St Xs Ws K c r s ⊢ wpb c (A h) Q)
    (hs' : s' = upd b ((get b s).atS (nsent c b (k.val + 1))) s := by rfl)
    (hno : ∀ c, condf c ≠ 1#1 → ∀ n : Fin 14, n.val < 4 → src b n c ≠ k := by decide +kernel)
    (hS : (get b s).nS = nsent c b k.val := by rfl) :
    St Xs Ws K c r s ⊢ wpb c (@dite _ (condf c = 1#1) inst A (fun _ => k')) Q := by
  by_cases h : condf c = 1#1
  · rw [dif_pos h]; exact hA h hk
  · rw [dif_neg h]
    have : upd b ((get b s).atS (nsent c b (k.val + 1))) s = s := by
      rw [nsent_other c b k (hno c h), ← hS]
      obtain ⟨⟩ := s
      fin_cases b <;> rfl
    rwa [hs', this] at hk

theorem part2 (v2 : BitVec 32) (v14 : BitVec 32) (v17 : BitVec 32) (v25 : Vec F S1x256x1024 .f32) {k} {Q : α → sProp 𝕄}
    (hk : St Xs Ws K c 2 (⟨2, nsent c 0 1, 0, 0, 0, 0⟩, ⟨1, nsent c 1 1, 0, 0, 0, 0⟩) ⊢ wpb c (k (part Xs Ws 1 0 c 1)) Q) :
    St Xs Ws K c 0 (⟨0, nsent c 0 0, 0, 0, 0, 0⟩, ⟨0, nsent c 1 0, 0, 0, 0, 0⟩) ⊢ wpb c (k1_part2 xM (Memref.isWhole_whole _) wM (Memref.isWhole_whole _) oM (Memref.isWhole_whole _) cM (Memref.isWhole_whole _) pM (Memref.isWhole_whole _) cc1_scratch2 cc1_scratch3 c v2 v14 v17 (k1_pay2 (Ws c)) (prod Xs Ws c 0) v25 >>= k) Q := by
  rw [k1_part2_eq_skeleton]; unfold k1_part2_skel
  simp (config := { proj := false }) only [Prog.lift, Prog.bind_op, Prog.bind_ret, Prog.pure_eq_ret, bind_dite]
  refine step_storeRow 0 (r' := 1) ?_ rfl (h0 := fun b => by fin_cases b <;> rfl)
  refine loadP_at 0 0 (fun v30 => ?_) (nsent_away c 0 0) rfl
  refine step_newP 0 0 (s' := (⟨1, nsent c 0 0, 0, 0, 0, 0⟩, ⟨0, nsent c 1 0, 0, 0, 0, 0⟩)) ?_ rfl (nsent_away c 0 0)
  refine loadP_at 1 0 (fun v35 => ?_) (nsent_away c 1 0) rfl
  refine step_newP 1 0 (s' := (⟨1, nsent c 0 0, 0, 0, 0, 0⟩, ⟨1, nsent c 1 0, 0, 0, 0, 0⟩)) ?_ rfl (nsent_away c 1 0)
  refine step_maybe 0 0 k1_cond1 (s' := (⟨1, nsent c 0 1, 0, 0, 0, 0⟩, ⟨1, nsent c 1 0, 0, 0, 0, 0⟩)) ?_ (fun h hr => step_maybeSend 0 0 0 k1_cond1 (fun c => k1_dev4 c) hr h)
  refine step_maybe 1 0 k1_cond2 (s' := (⟨1, nsent c 0 1, 0, 0, 0, 0⟩, ⟨1, nsent c 1 1, 0, 0, 0, 0⟩)) ?_ (fun h hr => step_maybeSend 1 0 0 k1_cond2 (fun c => k1_dev5 c) hr h)
  refine step_loadX 1 ?_
  refine step_loadO_any fun v48 => ?_
  refine step_storeRow 1 (r' := 2) ?_ rfl (h0 := fun b => by fin_cases b <;> rfl)
  refine loadP_at 0 1 (fun v53 => ?_) (nsent_away c 0 1) rfl
  refine step_newP 0 1 (s' := (⟨2, nsent c 0 1, 0, 0, 0, 0⟩, ⟨1, nsent c 1 1, 0, 0, 0, 0⟩)) ?_ rfl (nsent_away c 0 1)
  exact hk

theorem part3 (v2 : BitVec 32) (v14 : BitVec 32) (v17 : BitVec 32) {k} {Q : α → sProp 𝕄}
    (hk : St Xs Ws K c 3 (⟨3, nsent c 0 2, 0, 0, 0, 0⟩, ⟨3, nsent c 1 2, 0, 0, 0, 0⟩) ⊢ wpb c (k ⟨⟩) Q) :
    St Xs Ws K c 2 (⟨2, nsent c 0 1, 0, 0, 0, 0⟩, ⟨1, nsent c 1 1, 0, 0, 0, 0⟩) ⊢ wpb c (k1_part3 xM (Memref.isWhole_whole _) wM (Memref.isWhole_whole _) oM (Memref.isWhole_whole _) cM (Memref.isWhole_whole _) pM (Memref.isWhole_whole _) cc1_scratch2 cc1_scratch3 c v2 v14 v17 (k1_pay2 (Ws c)) (part Xs Ws 1 0 c 1) >>= k) Q := by
  rw [k1_part3_eq_skeleton]; unfold k1_part3_skel
  simp (config := { proj := false }) only [Prog.lift, Prog.bind_op, Prog.bind_ret, Prog.pure_eq_ret, bind_dite]
  refine loadP_at 1 1 (fun v58 => ?_) (nsent_away c 1 1) rfl
  refine step_newP 1 1 (s' := (⟨2, nsent c 0 1, 0, 0, 0, 0⟩, ⟨2, nsent c 1 1, 0, 0, 0, 0⟩)) ?_ rfl (nsent_away c 1 1)
  refine step_maybe 0 1 k1_cond3 (s' := (⟨2, nsent c 0 2, 0, 0, 0, 0⟩, ⟨2, nsent c 1 1, 0, 0, 0, 0⟩)) ?_ (fun h hr => step_maybeSend 0 0 1 k1_cond3 (fun c => k1_dev6 c) hr h)
  refine step_maybe 1 1 k1_cond4 (s' := (⟨2, nsent c 0 2, 0, 0, 0, 0⟩, ⟨2, nsent c 1 2, 0, 0, 0, 0⟩)) ?_ (fun h hr => step_maybeSend 1 1 1 k1_cond4 (fun c => k1_dev7 c) hr h)
  refine step_loadX 2 ?_
  refine step_loadO_any fun v71 => ?_
  refine step_storeRow 2 (r' := 3) ?_ rfl (h0 := fun b => by fin_cases b <;> rfl)
  refine loadP_at 0 2 (fun v76 => ?_) (nsent_away c 0 2) rfl
  refine step_newP 0 2 (s' := (⟨3, nsent c 0 2, 0, 0, 0, 0⟩, ⟨2, nsent c 1 2, 0, 0, 0, 0⟩)) ?_ rfl (nsent_away c 0 2)
  refine loadP_at 1 2 (fun v81 => ?_) (nsent_away c 1 2) rfl
  refine step_newP 1 2 (s' := (⟨3, nsent c 0 2, 0, 0, 0, 0⟩, ⟨3, nsent c 1 2, 0, 0, 0, 0⟩)) ?_ rfl (nsent_away c 1 2)
  exact hk

theorem part4 (v2 : BitVec 32) (v14 : BitVec 32) (v17 : BitVec 32) {k} {Q : α → sProp 𝕄}
    (hk : St Xs Ws K c 4 (⟨4, nsent c 0 4, 0, 0, 0, 0⟩, ⟨4, nsent c 1 4, 0, 0, 0, 0⟩) ⊢ wpb c (k (prod Xs Ws c 4)) Q) :
    St Xs Ws K c 3 (⟨3, nsent c 0 2, 0, 0, 0, 0⟩, ⟨3, nsent c 1 2, 0, 0, 0, 0⟩) ⊢ wpb c (k1_part4 xM (Memref.isWhole_whole _) wM (Memref.isWhole_whole _) oM (Memref.isWhole_whole _) cM (Memref.isWhole_whole _) pM (Memref.isWhole_whole _) cc1_scratch2 cc1_scratch3 c v2 v14 v17 (k1_pay2 (Ws c)) >>= k) Q := by
  rw [k1_part4_eq_skeleton]; unfold k1_part4_skel
  simp (config := { proj := false }) only [Prog.lift, Prog.bind_op, Prog.bind_ret, Prog.pure_eq_ret, bind_dite]
  refine step_maybe 0 2 k1_cond5 (s' := (⟨3, nsent c 0 3, 0, 0, 0, 0⟩, ⟨3, nsent c 1 2, 0, 0, 0, 0⟩)) ?_ (fun h hr => step_maybeSend 0 1 2 k1_cond5 (fun c => k1_dev8 c) hr h)
  refine step_maybe 1 2 k1_cond6 (s' := (⟨3, nsent c 0 3, 0, 0, 0, 0⟩, ⟨3, nsent c 1 3, 0, 0, 0, 0⟩)) ?_ (fun h hr => step_maybeSend 1 2 2 k1_cond6 (fun c => k1_dev9 c) hr h)
  refine step_loadX 3 ?_
  refine step_loadO_any fun v94 => ?_
  refine step_storeRow 3 (r' := 4) ?_ rfl (h0 := fun b => by fin_cases b <;> rfl)
  refine loadP_at 0 3 (fun v99 => ?_) (nsent_away c 0 3) rfl
  refine step_newP 0 3 (s' := (⟨4, nsent c 0 3, 0, 0, 0, 0⟩, ⟨3, nsent c 1 3, 0, 0, 0, 0⟩)) ?_ rfl (nsent_away c 0 3)
  refine loadP_at 1 3 (fun v104 => ?_) (nsent_away c 1 3) rfl
  refine step_newP 1 3 (s' := (⟨4, nsent c 0 3, 0, 0, 0, 0⟩, ⟨4, nsent c 1 3, 0, 0, 0, 0⟩)) ?_ rfl (nsent_away c 1 3)
  refine step_maybe 0 3 k1_cond7 (s' := (⟨4, nsent c 0 4, 0, 0, 0, 0⟩, ⟨4, nsent c 1 3, 0, 0, 0, 0⟩)) ?_ (fun h hr => step_maybeSend 0 1 3 k1_cond7 (fun c => k1_dev10 c) hr h)
  refine step_maybe 1 3 k1_cond8 (s' := (⟨4, nsent c 0 4, 0, 0, 0, 0⟩, ⟨4, nsent c 1 4, 0, 0, 0, 0⟩)) ?_ (fun h hr => step_maybeSend 1 3 3 k1_cond8 (fun c => k1_dev11 c) hr h)
  refine step_loadX 4 ?_
  exact hk

theorem part5 (v2 : BitVec 32) (v14 : BitVec 32) (v17 : BitVec 32) {k} {Q : α → sProp 𝕄}
    (hk : ∀ (v145 : Vec F S1x1x256x512 .bf16), St Xs Ws K c 6 (⟨5, nsent c 0 5, 0, 0, 0, 0⟩, ⟨5, nsent c 1 5, 0, 0, 0, 0⟩) ⊢ wpb c (k ⟨(prod Xs Ws c 5), (truncf .bf16 (part Xs Ws 0 0 c 5) bitsLt_bf16_f32), v145⟩) Q) :
    St Xs Ws K c 4 (⟨4, nsent c 0 4, 0, 0, 0, 0⟩, ⟨4, nsent c 1 4, 0, 0, 0, 0⟩) ⊢ wpb c (k1_part5 xM (Memref.isWhole_whole _) wM (Memref.isWhole_whole _) oM (Memref.isWhole_whole _) cM (Memref.isWhole_whole _) pM (Memref.isWhole_whole _) cc1_scratch2 cc1_scratch3 c v2 v14 v17 (k1_pay2 (Ws c)) (prod Xs Ws c 4) >>= k) Q := by
  rw [k1_part5_eq_skeleton]; unfold k1_part5_skel
  simp (config := { proj := false }) only [Prog.lift, Prog.bind_op, Prog.bind_ret, Prog.pure_eq_ret, bind_dite]
  refine step_loadO_any fun v117 => ?_
  refine step_storeRow 4 (r' := 5) ?_ rfl (h0 := fun b => by fin_cases b <;> rfl)
  refine loadP_at 0 4 (fun v122 => ?_) (nsent_away c 0 4) rfl
  refine step_newP 0 4 (s' := (⟨5, nsent c 0 4, 0, 0, 0, 0⟩, ⟨4, nsent c 1 4, 0, 0, 0, 0⟩)) ?_ rfl (nsent_away c 0 4)
  refine loadP_at 1 4 (fun v127 => ?_) (nsent_away c 1 4) rfl
  refine step_newP 1 4 (s' := (⟨5, nsent c 0 4, 0, 0, 0, 0⟩, ⟨5, nsent c 1 4, 0, 0, 0, 0⟩)) ?_ rfl (nsent_away c 1 4)
  refine step_maybe 0 4 k1_cond9 (s' := (⟨5, nsent c 0 5, 0, 0, 0, 0⟩, ⟨5, nsent c 1 4, 0, 0, 0, 0⟩)) ?_ (fun h hr => step_maybeSend 0 2 4 k1_cond9 (fun c => k1_dev12 c) hr h)
  refine step_maybe 1 4 k1_cond10 (s' := (⟨5, nsent c 0 5, 0, 0, 0, 0⟩, ⟨5, nsent c 1 5, 0, 0, 0, 0⟩)) ?_ (fun h hr => step_maybeSend 1 0 4 k1_cond10 (fun c => k1_dev13 c) hr h)
  refine step_loadX 5 ?_
  refine step_loadO_any fun v140 => ?_
  refine step_storeRow 5 (r' := 6) ?_ rfl (h0 := fun b => by fin_cases b <;> rfl)
  refine loadP_at 0 5 (fun v145 => ?_) (nsent_away c 0 5) rfl
  exact hk _

theorem part6 (v2 : BitVec 32) (v14 : BitVec 32) (v17 : BitVec 32) (v145 : Vec F S1x1x256x512 .bf16) {k} {Q : α → sProp 𝕄}
    (hk : ∀ (c0_i32_124 : BitVec 32), St Xs Ws K c 7 (⟨7, nsent c 0 6, 0, 0, 0, 0⟩, ⟨7, nsent c 1 6, 0, 0, 0, 0⟩) ⊢ wpb c (k c0_i32_124) Q) :
    St Xs Ws K c 6 (⟨5, nsent c 0 5, 0, 0, 0, 0⟩, ⟨5, nsent c 1 5, 0, 0, 0, 0⟩) ⊢ wpb c (k1_part6 xM (Memref.isWhole_whole _) wM (Memref.isWhole_whole _) oM (Memref.isWhole_whole _) cM (Memref.isWhole_whole _) pM (Memref.isWhole_whole _) cc1_scratch2 cc1_scratch3 c v2 v14 v17 (k1_pay2 (Ws c)) (prod Xs Ws c 5) (truncf .bf16 (part Xs Ws 0 0 c 5) bitsLt_bf16_f32) v145 >>= k) Q := by
  rw [k1_part6_eq_skeleton]; unfold k1_part6_skel
  simp (config := { proj := false }) only [Prog.lift, Prog.bind_op, Prog.bind_ret, Prog.pure_eq_ret, bind_dite]
  refine step_newP 0 5 (s' := (⟨6, nsent c 0 5, 0, 0, 0, 0⟩, ⟨5, nsent c 1 5, 0, 0, 0, 0⟩)) ?_ rfl (nsent_away c 0 5)
  refine loadP_at 1 5 (fun v150 => ?_) (nsent_away c 1 5) rfl
  refine step_newP 1 5 (s' := (⟨6, nsent c 0 5, 0, 0, 0, 0⟩, ⟨6, nsent c 1 5, 0, 0, 0, 0⟩)) ?_ rfl (nsent_away c 1 5)
  refine step_maybe 0 5 k1_cond11 (s' := (⟨6, nsent c 0 6, 0, 0, 0, 0⟩, ⟨6, nsent c 1 5, 0, 0, 0, 0⟩)) ?_ (fun h hr => step_maybeSend 0 2 5 k1_cond11 (fun c => k1_dev14 c) hr h)
  refine step_maybe 1 5 k1_cond12 (s' := (⟨6, nsent c 0 6, 0, 0, 0, 0⟩, ⟨6, nsent c 1 6, 0, 0, 0, 0⟩)) ?_ (fun h hr => step_maybeSend 1 1 5 k1_cond12 (fun c => k1_dev15 c) hr h)
  refine step_loadX 6 ?_
  refine step_loadO_any fun v163 => ?_
  refine step_storeRow 6 (r' := 7) ?_ rfl (h0 := fun b => by fin_cases b <;> rfl)
  refine loadP_at 0 6 (fun v168 => ?_) (nsent_away c 0 6) rfl
  refine step_newP 0 6 (s' := (⟨7, nsent c 0 6, 0, 0, 0, 0⟩, ⟨6, nsent c 1 6, 0, 0, 0, 0⟩)) ?_ rfl (nsent_away c 0 6)
  refine loadP_at 1 6 (fun v173 => ?_) (nsent_away c 1 6) rfl
  refine step_newP 1 6 (s' := (⟨7, nsent c 0 6, 0, 0, 0, 0⟩, ⟨7, nsent c 1 6, 0, 0, 0, 0⟩)) ?_ rfl (nsent_away c 1 6)
  exact hk _

theorem part7 (v2 : BitVec 32) (v14 : BitVec 32) (v17 : BitVec 32) (c0_i32_124 : BitVec 32) {k} {Q : α → sProp 𝕄}
    (hk : ∀ (v205 : BitVec 32) (c1_i32_145 : BitVec 32), St Xs Ws K c 8 (⟨8, nsent c 0 8, 0, 0, 0, 0⟩, ⟨8, nsent c 1 8, 0, 0, 0, 0⟩) ⊢ wpb c (k ⟨v205, c1_i32_145⟩) Q) :
    St Xs Ws K c 7 (⟨7, nsent c 0 6, 0, 0, 0, 0⟩, ⟨7, nsent c 1 6, 0, 0, 0, 0⟩) ⊢ wpb c (k1_part7 xM (Memref.isWhole_whole _) wM (Memref.isWhole_whole _) oM (Memref.isWhole_whole _) cM (Memref.isWhole_whole _) pM (Memref.isWhole_whole _) cc1_scratch2 cc1_scratch3 c v2 v14 v17 (k1_pay2 (Ws c)) c0_i32_124 >>= k) Q := by
  rw [k1_part7_eq_skeleton]; unfold k1_part7_skel
  simp (config := { proj := false }) only [Prog.lift, Prog.bind_op, Prog.bind_ret, Prog.pure_eq_ret, bind_dite]
  refine step_maybe 0 6 k1_cond13 (s' := (⟨7, nsent c 0 7, 0, 0, 0, 0⟩, ⟨7, nsent c 1 6, 0, 0, 0, 0⟩)) ?_ (fun h hr => step_maybeSend 0 3 6 k1_cond13 (fun c => k1_dev16 c) hr h)
  refine step_maybe 1 6 k1_cond14 (s' := (⟨7, nsent c 0 7, 0, 0, 0, 0⟩, ⟨7, nsent c 1 7, 0, 0, 0, 0⟩)) ?_ (fun h hr => step_maybeSend 1 2 6 k1_cond14 (fun c => k1_dev17 c) hr h)
  refine step_loadX 7 ?_
  refine step_loadO_any fun v186 => ?_
  refine step_storeRow 7 (r' := 8) ?_ rfl (h0 := fun b => by fin_cases b <;> rfl)
  refine loadP_at 0 7 (fun v191 => ?_) (nsent_away c 0 7) rfl
  refine step_newP 0 7 (s' := (⟨8, nsent c 0 7, 0, 0, 0, 0⟩, ⟨7, nsent c 1 7, 0, 0, 0, 0⟩)) ?_ rfl (nsent_away c 0 7)
  refine loadP_at 1 7 (fun v196 => ?_) (nsent_away c 1 7) rfl
  refine step_newP 1 7 (s' := (⟨8, nsent c 0 7, 0, 0, 0, 0⟩, ⟨8, nsent c 1 7, 0, 0, 0, 0⟩)) ?_ rfl (nsent_away c 1 7)
  refine step_maybe 0 7 k1_cond15 (s' := (⟨8, nsent c 0 8, 0, 0, 0, 0⟩, ⟨8, nsent c 1 7, 0, 0, 0, 0⟩)) ?_ (fun h hr => step_maybeSend 0 3 7 k1_cond15 (fun c => k1_dev18 c) hr h)
  refine step_maybe 1 7 k1_cond16 (s' := (⟨8, nsent c 0 8, 0, 0, 0, 0⟩, ⟨8, nsent c 1 8, 0, 0, 0, 0⟩)) ?_ (fun h hr => step_maybeSend 1 3 7 k1_cond16 (fun c => k1_dev19 c) hr h)
  exact hk _ _

/-- No effects, and all first-stage copies are out. -/
theorem part8 (v2 v205 c1 : BitVec 32) {k} {Q : α → sProp 𝕄}
    (hk : ∀ (v214 v221 v228 v235 v236 : BitVec 32), St Xs Ws K c 8 (⟨8, 4, 0, 0, 0, 0⟩, ⟨8, 4, 0, 0, 0, 0⟩) ⊢ wpb c (k ⟨v214, v221, v228, v235, v236⟩) Q) :
    St Xs Ws K c 8 (⟨8, nsent c 0 8, 0, 0, 0, 0⟩, ⟨8, nsent c 1 8, 0, 0, 0, 0⟩) ⊢ wpb c (k1_part8 xM (Memref.isWhole_whole _) wM (Memref.isWhole_whole _) oM (Memref.isWhole_whole _) cM (Memref.isWhole_whole _) pM (Memref.isWhole_whole _) cc1_scratch2 cc1_scratch3 v2 v205 c1 >>= k) Q := by
  rw [k1_part8_eq_skeleton]; unfold k1_part8_skel
  simp (config := { proj := false }) only [Prog.bind_ret, Prog.pure_eq_ret]
  rw [nsent_end, nsent_end]
  exact hk _ _ _ _ _

end Cert.Exchange
-- ==== Proof.ScatterWalk.lean ====
/-
# The body, the reducing stages

The stretches of the body in which the three reducing stages run, both halves by turns. Each stretch waits for a copy,
adds what arrived to its chunk, rounds the sum into the staging copy and starts the copies of the next stage. What a
stretch needs and leaves is the state `St` at its counters.
-/
module

public import proofs.«01_k».proof.Proof.Access

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

theorem part9 (v214 : BitVec 32) (v236 : BitVec 32) {k} {Q : α → sProp 𝕄}
    (hk : ∀ (v264 : Vec F S1x1x256x512 .bf16), St Xs Ws K c 8 (⟨8, 4, 1, 1, 1, 0⟩, ⟨8, 4, 0, 0, 0, 0⟩) ⊢ wpb c (k ⟨(truncf .bf16 (part Xs Ws 0 (stage (0 : Fin 14).val + 1) c (rcv 0 0 c)) bitsLt_bf16_f32), v264⟩) Q) :
    St Xs Ws K c 8 (⟨8, 4, 0, 0, 0, 0⟩, ⟨8, 4, 0, 0, 0, 0⟩) ⊢ wpb c (k1_part9 xM (Memref.isWhole_whole _) wM (Memref.isWhole_whole _) oM (Memref.isWhole_whole _) cM (Memref.isWhole_whole _) pM (Memref.isWhole_whole _) cc1_scratch2 cc1_scratch3 c v214 v236 >>= k) Q := by
  rw [k1_part9_eq_skeleton]; unfold k1_part9_skel
  simp (config := { proj := false }) only [Prog.lift, Prog.bind_op, Prog.bind_ret, Prog.pure_eq_ret]
  refine step_sendWait 0 0 (s' := (⟨8, 4, 1, 0, 0, 0⟩, ⟨8, 4, 0, 0, 0, 0⟩)) ?_
  refine step_recvWait 0 0 (s' := (⟨8, 4, 1, 1, 0, 0⟩, ⟨8, 4, 0, 0, 0, 0⟩)) ?_
  refine step_loadO 0 0 (offf := fun c => k1_off2 c 0#32 0#32 0#32 0#32) ?_
  refine step_loadC 0 0 ?_
  refine step_loadO_any fun v259 => ?_
  refine step_foldO 0 0 (offf := fun c => k1_off2 c 0#32 0#32 0#32 0#32) (s' := (⟨8, 4, 1, 1, 1, 0⟩, ⟨8, 4, 0, 0, 0, 0⟩)) ?_ (by simp (config := { proj := false }) only [k1_pay38, k1_pay37, down_up3, down_up4, fold_eq c 0 0 (by decide)] <;> rfl)
  refine step_loadP 0 0 (offf := fun c => k1_off3 c 0#32 0#32 0#32 0#32) fun v264 => ?_
  simp (config := { proj := false }) only [k1_pay39, k1_pay37, down_up3, down_up4, fold_eq c 0 0 (by decide)]
  exact hk _

theorem part10 (v2 : BitVec 32) (v221 : BitVec 32) (v264 : Vec F S1x1x256x512 .bf16) {k} {Q : α → sProp 𝕄}
    (hk : St Xs Ws K c 8 (⟨8, 4, 2, 2, 1, 1⟩, ⟨8, 4, 0, 0, 0, 0⟩) ⊢ wpb c (k ((part Xs Ws 0 (stage (1 : Fin 14).val + 1) c (rcv 0 1 c)))) Q) :
    St Xs Ws K c 8 (⟨8, 4, 1, 1, 1, 0⟩, ⟨8, 4, 0, 0, 0, 0⟩) ⊢ wpb c (k1_part10 xM (Memref.isWhole_whole _) wM (Memref.isWhole_whole _) oM (Memref.isWhole_whole _) cM (Memref.isWhole_whole _) pM (Memref.isWhole_whole _) cc1_scratch2 cc1_scratch3 c v2 v221 (truncf .bf16 (part Xs Ws 0 (stage (0 : Fin 14).val + 1) c (rcv 0 0 c)) bitsLt_bf16_f32) v264 >>= k) Q := by
  rw [k1_part10_eq_skeleton]; unfold k1_part10_skel
  simp (config := { proj := false }) only [Prog.lift, Prog.bind_op, Prog.bind_ret, Prog.pure_eq_ret]
  refine step_foldP 0 0 (offf := fun c => k1_off3 c 0#32 0#32 0#32 0#32) (s' := (⟨8, 4, 1, 1, 1, 1⟩, ⟨8, 4, 0, 0, 0, 0⟩)) ?_ (by simp (config := { proj := false }) only [k1_pay40, down_up3, down_up4, fold_eq c 0 0 (by decide)] <;> rfl)
  refine step_sendWait 0 1 (s' := (⟨8, 4, 2, 1, 1, 1⟩, ⟨8, 4, 0, 0, 0, 0⟩)) ?_
  refine step_recvWait 0 1 (s' := (⟨8, 4, 2, 2, 1, 1⟩, ⟨8, 4, 0, 0, 0, 0⟩)) ?_
  refine step_loadO 0 1 (offf := fun c => k1_off2 c 2#32 0#32 0#32 0#32) ?_
  refine step_loadC 0 1 ?_
  simp (config := { proj := false }) only [k1_pay41, down_up3, down_up4, fold_eq c 0 1 (by decide)]
  exact hk

theorem part11 (v2 : BitVec 32) (v221 : BitVec 32) (v228 : BitVec 32) {k} {Q : α → sProp 𝕄}
    (hk : St Xs Ws K c 8 (⟨8, 4, 3, 3, 2, 2⟩, ⟨8, 4, 0, 0, 0, 0⟩) ⊢ wpb c (k ⟨⟩) Q) :
    St Xs Ws K c 8 (⟨8, 4, 2, 2, 1, 1⟩, ⟨8, 4, 0, 0, 0, 0⟩) ⊢ wpb c (k1_part11 xM (Memref.isWhole_whole _) wM (Memref.isWhole_whole _) oM (Memref.isWhole_whole _) cM (Memref.isWhole_whole _) pM (Memref.isWhole_whole _) cc1_scratch2 cc1_scratch3 c v2 v221 v228 (part Xs Ws 0 (stage (1 : Fin 14).val + 1) c (rcv 0 1 c)) >>= k) Q := by
  rw [k1_part11_eq_skeleton]; unfold k1_part11_skel
  simp (config := { proj := false }) only [Prog.lift, Prog.bind_op, Prog.bind_ret, Prog.pure_eq_ret]
  refine step_loadO_any fun v290 => ?_
  refine step_foldO 0 1 (offf := fun c => k1_off2 c 2#32 0#32 0#32 0#32) (s' := (⟨8, 4, 2, 2, 2, 1⟩, ⟨8, 4, 0, 0, 0, 0⟩)) ?_ (by simp (config := { proj := false }) only [k1_pay42, down_up3, down_up4, fold_eq c 0 1 (by decide)] <;> rfl)
  refine step_loadP 0 1 (offf := fun c => k1_off3 c 2#32 0#32 0#32 0#32) fun v295 => ?_
  refine step_foldP 0 1 (offf := fun c => k1_off3 c 2#32 0#32 0#32 0#32) (s' := (⟨8, 4, 2, 2, 2, 2⟩, ⟨8, 4, 0, 0, 0, 0⟩)) ?_ (by simp (config := { proj := false }) only [k1_pay43, down_up3, down_up4, fold_eq c 0 1 (by decide)] <;> rfl)
  refine step_sendWait 0 2 (s' := (⟨8, 4, 3, 2, 2, 2⟩, ⟨8, 4, 0, 0, 0, 0⟩)) ?_
  refine step_recvWait 0 2 (s' := (⟨8, 4, 3, 3, 2, 2⟩, ⟨8, 4, 0, 0, 0, 0⟩)) ?_
  exact hk

theorem part12 (v2 : BitVec 32) (v228 : BitVec 32) {k} {Q : α → sProp 𝕄}
    (hk : St Xs Ws K c 8 (⟨8, 4, 4, 3, 3, 3⟩, ⟨8, 4, 0, 0, 0, 0⟩) ⊢ wpb c (k ⟨⟩) Q) :
    St Xs Ws K c 8 (⟨8, 4, 3, 3, 2, 2⟩, ⟨8, 4, 0, 0, 0, 0⟩) ⊢ wpb c (k1_part12 xM (Memref.isWhole_whole _) wM (Memref.isWhole_whole _) oM (Memref.isWhole_whole _) cM (Memref.isWhole_whole _) pM (Memref.isWhole_whole _) cc1_scratch2 cc1_scratch3 c v2 v228 >>= k) Q := by
  rw [k1_part12_eq_skeleton]; unfold k1_part12_skel
  simp (config := { proj := false }) only [Prog.lift, Prog.bind_op, Prog.bind_ret, Prog.pure_eq_ret]
  refine step_loadO 0 2 (offf := fun c => k1_off2 c 4#32 0#32 0#32 0#32) ?_
  refine step_loadC 0 2 ?_
  refine step_loadO_any fun v321 => ?_
  refine step_foldO 0 2 (offf := fun c => k1_off2 c 4#32 0#32 0#32 0#32) (s' := (⟨8, 4, 3, 3, 3, 2⟩, ⟨8, 4, 0, 0, 0, 0⟩)) ?_ (by simp (config := { proj := false }) only [k1_pay45, k1_pay44, down_up3, down_up4, fold_eq c 0 2 (by decide)] <;> rfl)
  refine step_loadP 0 2 (offf := fun c => k1_off3 c 4#32 0#32 0#32 0#32) fun v326 => ?_
  refine step_foldP 0 2 (offf := fun c => k1_off3 c 4#32 0#32 0#32 0#32) (s' := (⟨8, 4, 3, 3, 3, 3⟩, ⟨8, 4, 0, 0, 0, 0⟩)) ?_ (by simp (config := { proj := false }) only [k1_pay46, k1_pay44, down_up3, down_up4, fold_eq c 0 2 (by decide)] <;> rfl)
  refine step_sendWait 0 3 (s' := (⟨8, 4, 4, 3, 3, 3⟩, ⟨8, 4, 0, 0, 0, 0⟩)) ?_
  exact hk

theorem part13 (v2 : BitVec 32) (v235 : BitVec 32) {k} {Q : α → sProp 𝕄}
    (hk : ∀ (c2_i32_323 : BitVec 32), St Xs Ws K c 8 (⟨8, 4, 4, 4, 4, 4⟩, ⟨8, 4, 0, 0, 0, 0⟩) ⊢ wpb c (k (c2_i32_323)) Q) :
    St Xs Ws K c 8 (⟨8, 4, 4, 3, 3, 3⟩, ⟨8, 4, 0, 0, 0, 0⟩) ⊢ wpb c (k1_part13 xM (Memref.isWhole_whole _) wM (Memref.isWhole_whole _) oM (Memref.isWhole_whole _) cM (Memref.isWhole_whole _) pM (Memref.isWhole_whole _) cc1_scratch2 cc1_scratch3 c v2 v235 >>= k) Q := by
  rw [k1_part13_eq_skeleton]; unfold k1_part13_skel
  simp (config := { proj := false }) only [Prog.lift, Prog.bind_op, Prog.bind_ret, Prog.pure_eq_ret]
  refine step_recvWait 0 3 (s' := (⟨8, 4, 4, 4, 3, 3⟩, ⟨8, 4, 0, 0, 0, 0⟩)) ?_
  refine step_loadO 0 3 (offf := fun c => k1_off2 c 6#32 0#32 0#32 0#32) ?_
  refine step_loadC 0 3 ?_
  refine step_loadO_any fun v352 => ?_
  refine step_foldO 0 3 (offf := fun c => k1_off2 c 6#32 0#32 0#32 0#32) (s' := (⟨8, 4, 4, 4, 4, 3⟩, ⟨8, 4, 0, 0, 0, 0⟩)) ?_ (by simp (config := { proj := false }) only [k1_pay48, k1_pay47, down_up3, down_up4, fold_eq c 0 3 (by decide)] <;> rfl)
  refine step_loadP 0 3 (offf := fun c => k1_off3 c 6#32 0#32 0#32 0#32) fun v357 => ?_
  refine step_foldP 0 3 (offf := fun c => k1_off3 c 6#32 0#32 0#32 0#32) (s' := (⟨8, 4, 4, 4, 4, 4⟩, ⟨8, 4, 0, 0, 0, 0⟩)) ?_ (by simp (config := { proj := false }) only [k1_pay49, k1_pay47, down_up3, down_up4, fold_eq c 0 3 (by decide)] <;> rfl)
  exact hk _

theorem part14 (v2 : BitVec 32) (c2_i32_323 : BitVec 32) {k} {Q : α → sProp 𝕄}
    (hk : ∀ (v394 : BitVec 32) (v395 : BitVec 32) (v396 : BitVec 32) (c2_i32_354 : BitVec 32), St Xs Ws K c 8 (⟨8, 6, 4, 4, 4, 4⟩, ⟨8, 4, 0, 0, 0, 0⟩) ⊢ wpb c (k ⟨v394, v395, v396, c2_i32_354⟩) Q) :
    St Xs Ws K c 8 (⟨8, 4, 4, 4, 4, 4⟩, ⟨8, 4, 0, 0, 0, 0⟩) ⊢ wpb c (k1_part14 xM (Memref.isWhole_whole _) wM (Memref.isWhole_whole _) oM (Memref.isWhole_whole _) cM (Memref.isWhole_whole _) pM (Memref.isWhole_whole _) cc1_scratch2 cc1_scratch3 c v2 c2_i32_323 >>= k) Q := by
  rw [k1_part14_eq_skeleton]; unfold k1_part14_skel
  simp (config := { proj := false }) only [Prog.lift, Prog.bind_op, Prog.bind_ret, Prog.pure_eq_ret]
  refine step_send 0 4 (devf := fun c => k1_dev20 c) (offp := fun c => k1_off1 c 0#32 1#32 1#32 1#32) (s' := (⟨8, 5, 4, 4, 4, 4⟩, ⟨8, 4, 0, 0, 0, 0⟩)) ?_
  refine step_send 0 5 (devf := fun c => k1_dev21 c) (offp := fun c => k1_off1 c 4#32 1#32 1#32 1#32) (s' := (⟨8, 6, 4, 4, 4, 4⟩, ⟨8, 4, 0, 0, 0, 0⟩)) ?_
  exact hk _ _ _ _

theorem part15 (v2 : BitVec 32) (v394 : BitVec 32) (v395 : BitVec 32) (v396 : BitVec 32) (c2_i32_354 : BitVec 32) {k} {Q : α → sProp 𝕄}
    (hk : ∀ (v402 : BitVec 32) (v409 : BitVec 32) (v416 : BitVec 32) (v423 : BitVec 32) (v424 : BitVec 32), St Xs Ws K c 8 (⟨8, 6, 4, 4, 4, 4⟩, ⟨8, 4, 0, 0, 0, 0⟩) ⊢ wpb c (k ⟨v402, v409, v416, v423, v424⟩) Q) :
    St Xs Ws K c 8 (⟨8, 6, 4, 4, 4, 4⟩, ⟨8, 4, 0, 0, 0, 0⟩) ⊢ wpb c (k1_part15 xM (Memref.isWhole_whole _) wM (Memref.isWhole_whole _) oM (Memref.isWhole_whole _) cM (Memref.isWhole_whole _) pM (Memref.isWhole_whole _) cc1_scratch2 cc1_scratch3 c v2 v394 v395 v396 c2_i32_354 >>= k) Q := by
  rw [k1_part15_eq_skeleton]; unfold k1_part15_skel
  simp (config := { proj := false }) only [Prog.lift, Prog.bind_op, Prog.bind_ret, Prog.pure_eq_ret]
  exact hk _ _ _ _ _

theorem part16 (v2 : BitVec 32) (v402 : BitVec 32) (v424 : BitVec 32) {k} {Q : α → sProp 𝕄}
    (hk : ∀ (v455 : BitVec 32), St Xs Ws K c 8 (⟨8, 6, 4, 4, 4, 4⟩, ⟨8, 4, 1, 1, 1, 1⟩) ⊢ wpb c (k (v455)) Q) :
    St Xs Ws K c 8 (⟨8, 6, 4, 4, 4, 4⟩, ⟨8, 4, 0, 0, 0, 0⟩) ⊢ wpb c (k1_part16 xM (Memref.isWhole_whole _) wM (Memref.isWhole_whole _) oM (Memref.isWhole_whole _) cM (Memref.isWhole_whole _) pM (Memref.isWhole_whole _) cc1_scratch2 cc1_scratch3 c v2 v402 v424 >>= k) Q := by
  rw [k1_part16_eq_skeleton]; unfold k1_part16_skel
  simp (config := { proj := false }) only [Prog.lift, Prog.bind_op, Prog.bind_ret, Prog.pure_eq_ret]
  refine step_sendWait 1 0 (s' := (⟨8, 6, 4, 4, 4, 4⟩, ⟨8, 4, 1, 0, 0, 0⟩)) ?_
  refine step_recvWait 1 0 (s' := (⟨8, 6, 4, 4, 4, 4⟩, ⟨8, 4, 1, 1, 0, 0⟩)) ?_
  refine step_loadO 1 0 (offf := fun c => k1_off5 c 0#32 2#32 2#32 0#32) ?_
  refine step_loadC 1 0 ?_
  refine step_loadO_any fun v447 => ?_
  refine step_foldO 1 0 (offf := fun c => k1_off5 c 0#32 2#32 2#32 0#32) (s' := (⟨8, 6, 4, 4, 4, 4⟩, ⟨8, 4, 1, 1, 1, 0⟩)) ?_ (by simp (config := { proj := false }) only [k1_pay51, k1_pay50, down_up3, down_up4, fold_eq c 1 0 (by decide)] <;> rfl)
  refine step_loadP 1 0 (offf := fun c => k1_off6 c 0#32 2#32 2#32 0#32) fun v452 => ?_
  refine step_foldP 1 0 (offf := fun c => k1_off6 c 0#32 2#32 2#32 0#32) (s' := (⟨8, 6, 4, 4, 4, 4⟩, ⟨8, 4, 1, 1, 1, 1⟩)) ?_ (by simp (config := { proj := false }) only [k1_pay52, k1_pay50, down_up3, down_up4, fold_eq c 1 0 (by decide)] <;> rfl)
  exact hk _

theorem part17 (v409 : BitVec 32) (v455 : BitVec 32) {k} {Q : α → sProp 𝕄}
    (hk : St Xs Ws K c 8 (⟨8, 6, 4, 4, 4, 4⟩, ⟨8, 4, 2, 2, 2, 1⟩) ⊢ wpb c (k ((part Xs Ws 1 (stage (1 : Fin 14).val + 1) c (rcv 1 1 c)))) Q) :
    St Xs Ws K c 8 (⟨8, 6, 4, 4, 4, 4⟩, ⟨8, 4, 1, 1, 1, 1⟩) ⊢ wpb c (k1_part17 xM (Memref.isWhole_whole _) wM (Memref.isWhole_whole _) oM (Memref.isWhole_whole _) cM (Memref.isWhole_whole _) pM (Memref.isWhole_whole _) cc1_scratch2 cc1_scratch3 c v409 v455 >>= k) Q := by
  rw [k1_part17_eq_skeleton]; unfold k1_part17_skel
  simp (config := { proj := false }) only [Prog.lift, Prog.bind_op, Prog.bind_ret, Prog.pure_eq_ret]
  refine step_sendWait 1 1 (s' := (⟨8, 6, 4, 4, 4, 4⟩, ⟨8, 4, 2, 1, 1, 1⟩)) ?_
  refine step_recvWait 1 1 (s' := (⟨8, 6, 4, 4, 4, 4⟩, ⟨8, 4, 2, 2, 1, 1⟩)) ?_
  refine step_loadO 1 1 (offf := fun c => k1_off5 c 0#32 2#32 2#32 1#32) ?_
  refine step_loadC 1 1 ?_
  refine step_loadO_any fun v478 => ?_
  refine step_foldO 1 1 (offf := fun c => k1_off5 c 0#32 2#32 2#32 1#32) (s' := (⟨8, 6, 4, 4, 4, 4⟩, ⟨8, 4, 2, 2, 2, 1⟩)) ?_ (by simp (config := { proj := false }) only [k1_pay54, k1_pay53, down_up3, down_up4, fold_eq c 1 1 (by decide)] <;> rfl)
  simp (config := { proj := false }) only [k1_pay53, down_up3, down_up4, fold_eq c 1 1 (by decide)]
  exact hk

theorem part18 (v2 : BitVec 32) (v409 : BitVec 32) (v416 : BitVec 32) {k} {Q : α → sProp 𝕄}
    (hk : St Xs Ws K c 8 (⟨8, 6, 4, 4, 4, 4⟩, ⟨8, 4, 3, 3, 2, 2⟩) ⊢ wpb c (k ((part Xs Ws 1 (stage (2 : Fin 14).val) c (rcv 1 2 c)))) Q) :
    St Xs Ws K c 8 (⟨8, 6, 4, 4, 4, 4⟩, ⟨8, 4, 2, 2, 2, 1⟩) ⊢ wpb c (k1_part18 xM (Memref.isWhole_whole _) wM (Memref.isWhole_whole _) oM (Memref.isWhole_whole _) cM (Memref.isWhole_whole _) pM (Memref.isWhole_whole _) cc1_scratch2 cc1_scratch3 c v2 v409 v416 (part Xs Ws 1 (stage (1 : Fin 14).val + 1) c (rcv 1 1 c)) >>= k) Q := by
  rw [k1_part18_eq_skeleton]; unfold k1_part18_skel
  simp (config := { proj := false }) only [Prog.lift, Prog.bind_op, Prog.bind_ret, Prog.pure_eq_ret]
  refine step_loadP 1 1 (offf := fun c => k1_off6 c 0#32 2#32 2#32 1#32) fun v483 => ?_
  refine step_foldP 1 1 (offf := fun c => k1_off6 c 0#32 2#32 2#32 1#32) (s' := (⟨8, 6, 4, 4, 4, 4⟩, ⟨8, 4, 2, 2, 2, 2⟩)) ?_ (by simp (config := { proj := false }) only [k1_pay55, down_up3, down_up4, fold_eq c 1 1 (by decide)] <;> rfl)
  refine step_sendWait 1 2 (s' := (⟨8, 6, 4, 4, 4, 4⟩, ⟨8, 4, 3, 2, 2, 2⟩)) ?_
  refine step_recvWait 1 2 (s' := (⟨8, 6, 4, 4, 4, 4⟩, ⟨8, 4, 3, 3, 2, 2⟩)) ?_
  refine step_loadO 1 2 (offf := fun c => k1_off5 c 0#32 2#32 2#32 2#32) ?_
  simp (config := { proj := false }) only [k1_pay56, down_up3, down_up4]
  exact hk

theorem part19 (v2 : BitVec 32) (v416 : BitVec 32) {k} {Q : α → sProp 𝕄}
    (hk : St Xs Ws K c 8 (⟨8, 6, 4, 4, 4, 4⟩, ⟨8, 4, 4, 3, 3, 3⟩) ⊢ wpb c (k ⟨⟩) Q) :
    St Xs Ws K c 8 (⟨8, 6, 4, 4, 4, 4⟩, ⟨8, 4, 3, 3, 2, 2⟩) ⊢ wpb c (k1_part19 xM (Memref.isWhole_whole _) wM (Memref.isWhole_whole _) oM (Memref.isWhole_whole _) cM (Memref.isWhole_whole _) pM (Memref.isWhole_whole _) cc1_scratch2 cc1_scratch3 c v2 v416 (part Xs Ws 1 (stage (2 : Fin 14).val) c (rcv 1 2 c)) >>= k) Q := by
  rw [k1_part19_eq_skeleton]; unfold k1_part19_skel
  simp (config := { proj := false }) only [Prog.lift, Prog.bind_op, Prog.bind_ret, Prog.pure_eq_ret]
  refine step_loadC 1 2 ?_
  refine step_loadO_any fun v509 => ?_
  refine step_foldO 1 2 (offf := fun c => k1_off5 c 0#32 2#32 2#32 2#32) (s' := (⟨8, 6, 4, 4, 4, 4⟩, ⟨8, 4, 3, 3, 3, 2⟩)) ?_ (by simp (config := { proj := false }) only [k1_pay58, k1_pay57, down_up3, down_up4, fold_eq c 1 2 (by decide)] <;> rfl)
  refine step_loadP 1 2 (offf := fun c => k1_off6 c 0#32 2#32 2#32 2#32) fun v514 => ?_
  refine step_foldP 1 2 (offf := fun c => k1_off6 c 0#32 2#32 2#32 2#32) (s' := (⟨8, 6, 4, 4, 4, 4⟩, ⟨8, 4, 3, 3, 3, 3⟩)) ?_ (by simp (config := { proj := false }) only [k1_pay59, k1_pay57, down_up3, down_up4, fold_eq c 1 2 (by decide)] <;> rfl)
  refine step_sendWait 1 3 (s' := (⟨8, 6, 4, 4, 4, 4⟩, ⟨8, 4, 4, 3, 3, 3⟩)) ?_
  exact hk

theorem part20 (v2 : BitVec 32) (v423 : BitVec 32) {k} {Q : α → sProp 𝕄}
    (hk : ∀ (v559 : BitVec 32), St Xs Ws K c 8 (⟨8, 6, 4, 4, 4, 4⟩, ⟨8, 4, 4, 4, 4, 4⟩) ⊢ wpb c (k (v559)) Q) :
    St Xs Ws K c 8 (⟨8, 6, 4, 4, 4, 4⟩, ⟨8, 4, 4, 3, 3, 3⟩) ⊢ wpb c (k1_part20 xM (Memref.isWhole_whole _) wM (Memref.isWhole_whole _) oM (Memref.isWhole_whole _) cM (Memref.isWhole_whole _) pM (Memref.isWhole_whole _) cc1_scratch2 cc1_scratch3 c v2 v423 >>= k) Q := by
  rw [k1_part20_eq_skeleton]; unfold k1_part20_skel
  simp (config := { proj := false }) only [Prog.lift, Prog.bind_op, Prog.bind_ret, Prog.pure_eq_ret]
  refine step_recvWait 1 3 (s' := (⟨8, 6, 4, 4, 4, 4⟩, ⟨8, 4, 4, 4, 3, 3⟩)) ?_
  refine step_loadO 1 3 (offf := fun c => k1_off5 c 0#32 2#32 2#32 3#32) ?_
  refine step_loadC 1 3 ?_
  refine step_loadO_any fun v540 => ?_
  refine step_foldO 1 3 (offf := fun c => k1_off5 c 0#32 2#32 2#32 3#32) (s' := (⟨8, 6, 4, 4, 4, 4⟩, ⟨8, 4, 4, 4, 4, 3⟩)) ?_ (by simp (config := { proj := false }) only [k1_pay61, k1_pay60, down_up3, down_up4, fold_eq c 1 3 (by decide)] <;> rfl)
  refine step_loadP 1 3 (offf := fun c => k1_off6 c 0#32 2#32 2#32 3#32) fun v545 => ?_
  refine step_foldP 1 3 (offf := fun c => k1_off6 c 0#32 2#32 2#32 3#32) (s' := (⟨8, 6, 4, 4, 4, 4⟩, ⟨8, 4, 4, 4, 4, 4⟩)) ?_ (by simp (config := { proj := false }) only [k1_pay62, k1_pay60, down_up3, down_up4, fold_eq c 1 3 (by decide)] <;> rfl)
  exact hk _

theorem part21 (v2 : BitVec 32) (v559 : BitVec 32) {k} {Q : α → sProp 𝕄}
    (hk : ∀ (v582 : BitVec 32) (v583 : BitVec 32) (v584 : BitVec 32) (v588 : BitVec 32), St Xs Ws K c 8 (⟨8, 6, 4, 4, 4, 4⟩, ⟨8, 6, 4, 4, 4, 4⟩) ⊢ wpb c (k ⟨v582, v583, v584, v588⟩) Q) :
    St Xs Ws K c 8 (⟨8, 6, 4, 4, 4, 4⟩, ⟨8, 4, 4, 4, 4, 4⟩) ⊢ wpb c (k1_part21 xM (Memref.isWhole_whole _) wM (Memref.isWhole_whole _) oM (Memref.isWhole_whole _) cM (Memref.isWhole_whole _) pM (Memref.isWhole_whole _) cc1_scratch2 cc1_scratch3 c v2 v559 >>= k) Q := by
  rw [k1_part21_eq_skeleton]; unfold k1_part21_skel
  simp (config := { proj := false }) only [Prog.lift, Prog.bind_op, Prog.bind_ret, Prog.pure_eq_ret]
  refine step_send 1 4 (devf := fun c => k1_dev22 c) (offp := fun c => k1_off4 c 4#32 1#32 1#32 0#32) (s' := (⟨8, 6, 4, 4, 4, 4⟩, ⟨8, 5, 4, 4, 4, 4⟩)) ?_
  refine step_send 1 5 (devf := fun c => k1_dev23 c) (offp := fun c => k1_off4 c 4#32 1#32 1#32 1#32) (s' := (⟨8, 6, 4, 4, 4, 4⟩, ⟨8, 6, 4, 4, 4, 4⟩)) ?_
  exact hk _ _ _ _

theorem part22 (v2 : BitVec 32) (v582 : BitVec 32) (v583 : BitVec 32) (v584 : BitVec 32) (v588 : BitVec 32) {k} {Q : α → sProp 𝕄}
    (hk : ∀ (v590 : BitVec 32) (v597 : BitVec 32), St Xs Ws K c 8 (⟨8, 6, 5, 5, 4, 4⟩, ⟨8, 6, 4, 4, 4, 4⟩) ⊢ wpb c (k ⟨v590, v597⟩) Q) :
    St Xs Ws K c 8 (⟨8, 6, 4, 4, 4, 4⟩, ⟨8, 6, 4, 4, 4, 4⟩) ⊢ wpb c (k1_part22 xM (Memref.isWhole_whole _) wM (Memref.isWhole_whole _) oM (Memref.isWhole_whole _) cM (Memref.isWhole_whole _) pM (Memref.isWhole_whole _) cc1_scratch2 cc1_scratch3 c v2 v582 v583 v584 v588 >>= k) Q := by
  rw [k1_part22_eq_skeleton]; unfold k1_part22_skel
  simp (config := { proj := false }) only [Prog.lift, Prog.bind_op, Prog.bind_ret, Prog.pure_eq_ret]
  refine step_sendWait 0 4 (s' := (⟨8, 6, 5, 4, 4, 4⟩, ⟨8, 6, 4, 4, 4, 4⟩)) ?_
  refine step_recvWait 0 4 (s' := (⟨8, 6, 5, 5, 4, 4⟩, ⟨8, 6, 4, 4, 4, 4⟩)) ?_
  exact hk _ _

theorem part23 (v2 : BitVec 32) (v590 : BitVec 32) {k} {Q : α → sProp 𝕄}
    (hk : St Xs Ws K c 8 (⟨8, 6, 6, 5, 5, 5⟩, ⟨8, 6, 4, 4, 4, 4⟩) ⊢ wpb c (k ⟨⟩) Q) :
    St Xs Ws K c 8 (⟨8, 6, 5, 5, 4, 4⟩, ⟨8, 6, 4, 4, 4, 4⟩) ⊢ wpb c (k1_part23 xM (Memref.isWhole_whole _) wM (Memref.isWhole_whole _) oM (Memref.isWhole_whole _) cM (Memref.isWhole_whole _) pM (Memref.isWhole_whole _) cc1_scratch2 cc1_scratch3 c v2 v590 >>= k) Q := by
  rw [k1_part23_eq_skeleton]; unfold k1_part23_skel
  simp (config := { proj := false }) only [Prog.lift, Prog.bind_op, Prog.bind_ret, Prog.pure_eq_ret]
  refine step_loadO 0 4 (offf := fun c => k1_off2 c 0#32 1#32 1#32 1#32) ?_
  refine step_loadC 0 4 ?_
  refine step_loadO_any fun v621 => ?_
  refine step_foldO 0 4 (offf := fun c => k1_off2 c 0#32 1#32 1#32 1#32) (s' := (⟨8, 6, 5, 5, 5, 4⟩, ⟨8, 6, 4, 4, 4, 4⟩)) ?_ (by simp (config := { proj := false }) only [k1_pay64, k1_pay63, down_up3, down_up4, fold_eq c 0 4 (by decide)] <;> rfl)
  refine step_loadP 0 4 (offf := fun c => k1_off3 c 0#32 1#32 1#32 1#32) fun v626 => ?_
  refine step_foldP 0 4 (offf := fun c => k1_off3 c 0#32 1#32 1#32 1#32) (s' := (⟨8, 6, 5, 5, 5, 5⟩, ⟨8, 6, 4, 4, 4, 4⟩)) ?_ (by simp (config := { proj := false }) only [k1_pay65, k1_pay63, down_up3, down_up4, fold_eq c 0 4 (by decide)] <;> rfl)
  refine step_sendWait 0 5 (s' := (⟨8, 6, 6, 5, 5, 5⟩, ⟨8, 6, 4, 4, 4, 4⟩)) ?_
  exact hk

theorem part24 (v2 : BitVec 32) (v597 : BitVec 32) {k} {Q : α → sProp 𝕄}
    (hk : ∀ (v667 : BitVec 32), St Xs Ws K c 8 (⟨8, 6, 6, 6, 6, 6⟩, ⟨8, 6, 4, 4, 4, 4⟩) ⊢ wpb c (k (v667)) Q) :
    St Xs Ws K c 8 (⟨8, 6, 6, 5, 5, 5⟩, ⟨8, 6, 4, 4, 4, 4⟩) ⊢ wpb c (k1_part24 xM (Memref.isWhole_whole _) wM (Memref.isWhole_whole _) oM (Memref.isWhole_whole _) cM (Memref.isWhole_whole _) pM (Memref.isWhole_whole _) cc1_scratch2 cc1_scratch3 c v2 v597 >>= k) Q := by
  rw [k1_part24_eq_skeleton]; unfold k1_part24_skel
  simp (config := { proj := false }) only [Prog.lift, Prog.bind_op, Prog.bind_ret, Prog.pure_eq_ret]
  refine step_recvWait 0 5 (s' := (⟨8, 6, 6, 6, 5, 5⟩, ⟨8, 6, 4, 4, 4, 4⟩)) ?_
  refine step_loadO 0 5 (offf := fun c => k1_off2 c 4#32 1#32 1#32 1#32) ?_
  refine step_loadC 0 5 ?_
  refine step_loadO_any fun v652 => ?_
  refine step_foldO 0 5 (offf := fun c => k1_off2 c 4#32 1#32 1#32 1#32) (s' := (⟨8, 6, 6, 6, 6, 5⟩, ⟨8, 6, 4, 4, 4, 4⟩)) ?_ (by simp (config := { proj := false }) only [k1_pay67, k1_pay66, down_up3, down_up4, fold_eq c 0 5 (by decide)] <;> rfl)
  refine step_loadP 0 5 (offf := fun c => k1_off3 c 4#32 1#32 1#32 1#32) fun v657 => ?_
  refine step_foldP 0 5 (offf := fun c => k1_off3 c 4#32 1#32 1#32 1#32) (s' := (⟨8, 6, 6, 6, 6, 6⟩, ⟨8, 6, 4, 4, 4, 4⟩)) ?_ (by simp (config := { proj := false }) only [k1_pay68, k1_pay66, down_up3, down_up4, fold_eq c 0 5 (by decide)] <;> rfl)
  exact hk _

theorem part25 (v2 : BitVec 32) (v667 : BitVec 32) {k} {Q : α → sProp 𝕄}
    (hk : ∀ (v687 : BitVec 32) (v694 : BitVec 32) (v695 : BitVec 32), St Xs Ws K c 8 (⟨8, 7, 6, 6, 6, 6⟩, ⟨8, 6, 4, 4, 4, 4⟩) ⊢ wpb c (k ⟨v687, v694, v695⟩) Q) :
    St Xs Ws K c 8 (⟨8, 6, 6, 6, 6, 6⟩, ⟨8, 6, 4, 4, 4, 4⟩) ⊢ wpb c (k1_part25 xM (Memref.isWhole_whole _) wM (Memref.isWhole_whole _) oM (Memref.isWhole_whole _) cM (Memref.isWhole_whole _) pM (Memref.isWhole_whole _) cc1_scratch2 cc1_scratch3 c v2 v667 >>= k) Q := by
  rw [k1_part25_eq_skeleton]; unfold k1_part25_skel
  simp (config := { proj := false }) only [Prog.lift, Prog.bind_op, Prog.bind_ret, Prog.pure_eq_ret]
  refine step_send 0 6 (devf := fun c => k1_dev24 c) (offp := fun c => k1_off1 c 0#32 2#32 2#32 3#32) (s' := (⟨8, 7, 6, 6, 6, 6⟩, ⟨8, 6, 4, 4, 4, 4⟩)) ?_
  exact hk _ _ _

theorem part26 (v687 : BitVec 32) (v695 : BitVec 32) {k} {Q : α → sProp 𝕄}
    (hk : St Xs Ws K c 8 (⟨8, 7, 6, 6, 6, 6⟩, ⟨8, 6, 5, 5, 5, 5⟩) ⊢ wpb c (k ⟨⟩) Q) :
    St Xs Ws K c 8 (⟨8, 7, 6, 6, 6, 6⟩, ⟨8, 6, 4, 4, 4, 4⟩) ⊢ wpb c (k1_part26 xM (Memref.isWhole_whole _) wM (Memref.isWhole_whole _) oM (Memref.isWhole_whole _) cM (Memref.isWhole_whole _) pM (Memref.isWhole_whole _) cc1_scratch2 cc1_scratch3 c v687 v695 >>= k) Q := by
  rw [k1_part26_eq_skeleton]; unfold k1_part26_skel
  simp (config := { proj := false }) only [Prog.lift, Prog.bind_op, Prog.bind_ret, Prog.pure_eq_ret]
  refine step_sendWait 1 4 (s' := (⟨8, 7, 6, 6, 6, 6⟩, ⟨8, 6, 5, 4, 4, 4⟩)) ?_
  refine step_recvWait 1 4 (s' := (⟨8, 7, 6, 6, 6, 6⟩, ⟨8, 6, 5, 5, 4, 4⟩)) ?_
  refine step_loadO 1 4 (offf := fun c => k1_off5 c 4#32 1#32 1#32 0#32) ?_
  refine step_loadC 1 4 ?_
  refine step_loadO_any fun v718 => ?_
  refine step_foldO 1 4 (offf := fun c => k1_off5 c 4#32 1#32 1#32 0#32) (s' := (⟨8, 7, 6, 6, 6, 6⟩, ⟨8, 6, 5, 5, 5, 4⟩)) ?_ (by simp (config := { proj := false }) only [k1_pay70, k1_pay69, down_up3, down_up4, fold_eq c 1 4 (by decide)] <;> rfl)
  refine step_loadP 1 4 (offf := fun c => k1_off6 c 4#32 1#32 1#32 0#32) fun v723 => ?_
  refine step_foldP 1 4 (offf := fun c => k1_off6 c 4#32 1#32 1#32 0#32) (s' := (⟨8, 7, 6, 6, 6, 6⟩, ⟨8, 6, 5, 5, 5, 5⟩)) ?_ (by simp (config := { proj := false }) only [k1_pay71, k1_pay69, down_up3, down_up4, fold_eq c 1 4 (by decide)] <;> rfl)
  exact hk

end Cert.Exchange
-- ==== Proof.MiddleWalk.lean ====
/-
# The body, where reducing ends and gathering begins

The stretches of the body in which each half's last reducing copy is taken in, after which the device's own chunk is
finished, and the first gathering stages send the finished chunks back.
-/
module

public import proofs.«01_k».proof.Proof.Access

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

theorem part27 (v2 : BitVec 32) (v694 : BitVec 32) {k} {Q : α → sProp 𝕄}
    (hk : ∀ (v749 : Vec F S1x256x512 .f32), St Xs Ws K c 8 (⟨8, 7, 6, 6, 6, 6⟩, ⟨8, 6, 6, 6, 5, 5⟩) ⊢ wpb c (k ⟨(part Xs Ws 1 (stage (5 : Fin 14).val + 1) c (rcv 1 5 c)), v749⟩) Q) :
    St Xs Ws K c 8 (⟨8, 7, 6, 6, 6, 6⟩, ⟨8, 6, 5, 5, 5, 5⟩) ⊢ wpb c (k1_part27 xM (Memref.isWhole_whole _) wM (Memref.isWhole_whole _) oM (Memref.isWhole_whole _) cM (Memref.isWhole_whole _) pM (Memref.isWhole_whole _) cc1_scratch2 cc1_scratch3 c v2 v694 >>= k) Q := by
  rw [k1_part27_eq_skeleton]; unfold k1_part27_skel
  simp (config := { proj := false }) only [Prog.lift, Prog.bind_op, Prog.bind_ret, Prog.pure_eq_ret]
  refine step_sendWait 1 5 (s' := (⟨8, 7, 6, 6, 6, 6⟩, ⟨8, 6, 6, 5, 5, 5⟩)) ?_
  refine step_recvWait 1 5 (s' := (⟨8, 7, 6, 6, 6, 6⟩, ⟨8, 6, 6, 6, 5, 5⟩)) ?_
  refine step_loadO 1 5 (offf := fun c => k1_off5 c 4#32 1#32 1#32 1#32) ?_
  refine step_loadC 1 5 ?_
  refine step_loadO_any fun v749 => ?_
  simp (config := { proj := false }) only [k1_pay72, down_up3, down_up4, fold_eq c 1 5 (by decide)]
  exact hk _

theorem part28 (v2 : BitVec 32) (v694 : BitVec 32) (v749 : Vec F S1x256x512 .f32) {k} {Q : α → sProp 𝕄}
    (hk : ∀ (v776 : BitVec 32) (v777 : BitVec 32) (v778 : BitVec 32) (c2_i32_776 : BitVec 32), St Xs Ws K c 8 (⟨8, 7, 6, 6, 6, 6⟩, ⟨8, 7, 6, 6, 6, 6⟩) ⊢ wpb c (k ⟨v776, v777, v778, c2_i32_776⟩) Q) :
    St Xs Ws K c 8 (⟨8, 7, 6, 6, 6, 6⟩, ⟨8, 6, 6, 6, 5, 5⟩) ⊢ wpb c (k1_part28 xM (Memref.isWhole_whole _) wM (Memref.isWhole_whole _) oM (Memref.isWhole_whole _) cM (Memref.isWhole_whole _) pM (Memref.isWhole_whole _) cc1_scratch2 cc1_scratch3 c v2 v694 (part Xs Ws 1 (stage (5 : Fin 14).val + 1) c (rcv 1 5 c)) v749 >>= k) Q := by
  rw [k1_part28_eq_skeleton]; unfold k1_part28_skel
  simp (config := { proj := false }) only [Prog.lift, Prog.bind_op, Prog.bind_ret, Prog.pure_eq_ret]
  refine step_foldO 1 5 (offf := fun c => k1_off5 c 4#32 1#32 1#32 1#32) (s' := (⟨8, 7, 6, 6, 6, 6⟩, ⟨8, 6, 6, 6, 6, 5⟩)) ?_ (by simp (config := { proj := false }) only [k1_pay73, down_up3, down_up4, fold_eq c 1 5 (by decide)] <;> rfl)
  refine step_loadP 1 5 (offf := fun c => k1_off6 c 4#32 1#32 1#32 1#32) fun v754 => ?_
  refine step_foldP 1 5 (offf := fun c => k1_off6 c 4#32 1#32 1#32 1#32) (s' := (⟨8, 7, 6, 6, 6, 6⟩, ⟨8, 6, 6, 6, 6, 6⟩)) ?_ (by simp (config := { proj := false }) only [k1_pay74, down_up3, down_up4, fold_eq c 1 5 (by decide)] <;> rfl)
  refine step_send 1 6 (devf := fun c => k1_dev25 c) (offp := fun c => k1_off4 c 6#32 0#32 0#32 0#32) (s' := (⟨8, 7, 6, 6, 6, 6⟩, ⟨8, 7, 6, 6, 6, 6⟩)) ?_
  exact hk _ _ _ _

theorem part29 (v2 : BitVec 32) (v776 : BitVec 32) (v777 : BitVec 32) (v778 : BitVec 32) (c2_i32_776 : BitVec 32) {k} {Q : α → sProp 𝕄}
    (hk : ∀ (v784 : BitVec 32), St Xs Ws K c 8 (⟨8, 7, 7, 7, 6, 6⟩, ⟨8, 7, 6, 6, 6, 6⟩) ⊢ wpb c (k ⟨v784, (part Xs Ws 0 (stage (6 : Fin 14).val) c (rcv 0 6 c))⟩) Q) :
    St Xs Ws K c 8 (⟨8, 7, 6, 6, 6, 6⟩, ⟨8, 7, 6, 6, 6, 6⟩) ⊢ wpb c (k1_part29 xM (Memref.isWhole_whole _) wM (Memref.isWhole_whole _) oM (Memref.isWhole_whole _) cM (Memref.isWhole_whole _) pM (Memref.isWhole_whole _) cc1_scratch2 cc1_scratch3 c v2 v776 v777 v778 c2_i32_776 >>= k) Q := by
  rw [k1_part29_eq_skeleton]; unfold k1_part29_skel
  simp (config := { proj := false }) only [Prog.lift, Prog.bind_op, Prog.bind_ret, Prog.pure_eq_ret]
  refine step_sendWait 0 6 (s' := (⟨8, 7, 7, 6, 6, 6⟩, ⟨8, 7, 6, 6, 6, 6⟩)) ?_
  refine step_recvWait 0 6 (s' := (⟨8, 7, 7, 7, 6, 6⟩, ⟨8, 7, 6, 6, 6, 6⟩)) ?_
  refine step_loadO 0 6 (offf := fun c => k1_off2 c 0#32 2#32 2#32 3#32) ?_
  simp (config := { proj := false }) only [k1_pay75, down_up3, down_up4]
  exact hk _

theorem part30 (v2 : BitVec 32) (v784 : BitVec 32) {k} {Q : α → sProp 𝕄}
    (hk : ∀ (v830 : BitVec 32) (v831 : BitVec 32) (v832 : BitVec 32) (c0_i32_836 : BitVec 32), St Xs Ws K c 8 (⟨8, 8, 7, 7, 7, 7⟩, ⟨8, 7, 6, 6, 6, 6⟩) ⊢ wpb c (k ⟨v830, v831, v832, c0_i32_836⟩) Q) :
    St Xs Ws K c 8 (⟨8, 7, 7, 7, 6, 6⟩, ⟨8, 7, 6, 6, 6, 6⟩) ⊢ wpb c (k1_part30 xM (Memref.isWhole_whole _) wM (Memref.isWhole_whole _) oM (Memref.isWhole_whole _) cM (Memref.isWhole_whole _) pM (Memref.isWhole_whole _) cc1_scratch2 cc1_scratch3 c v2 v784 (part Xs Ws 0 (stage (6 : Fin 14).val) c (rcv 0 6 c)) >>= k) Q := by
  rw [k1_part30_eq_skeleton]; unfold k1_part30_skel
  simp (config := { proj := false }) only [Prog.lift, Prog.bind_op, Prog.bind_ret, Prog.pure_eq_ret]
  refine step_loadC 0 6 ?_
  refine step_loadO_any fun v808 => ?_
  refine step_foldO 0 6 (offf := fun c => k1_off2 c 0#32 2#32 2#32 3#32) (s' := (⟨8, 7, 7, 7, 7, 6⟩, ⟨8, 7, 6, 6, 6, 6⟩)) ?_ (by simp (config := { proj := false }) only [k1_pay77, k1_pay76, down_up3, down_up4, fold_eq c 0 6 (by decide)] <;> rfl)
  refine step_loadP 0 6 (offf := fun c => k1_off3 c 0#32 2#32 2#32 3#32) fun v813 => ?_
  refine step_foldP 0 6 (offf := fun c => k1_off3 c 0#32 2#32 2#32 3#32) (s' := (⟨8, 7, 7, 7, 7, 7⟩, ⟨8, 7, 6, 6, 6, 6⟩)) ?_ (by simp (config := { proj := false }) only [k1_pay78, k1_pay76, down_up3, down_up4, fold_eq c 0 6 (by decide)] <;> rfl)
  refine step_send 0 7 (devf := fun c => k1_dev26 c) (offp := fun c => k1_off7 c 7#32 0#32) (s' := (⟨8, 8, 7, 7, 7, 7⟩, ⟨8, 7, 6, 6, 6, 6⟩)) ?_
  exact hk _ _ _ _

theorem part31 (v2 : BitVec 32) (v830 : BitVec 32) (v831 : BitVec 32) (v832 : BitVec 32) (c0_i32_836 : BitVec 32) {k} {Q : α → sProp 𝕄}
    (hk : ∀ (v838 : BitVec 32), St Xs Ws K c 8 (⟨8, 8, 7, 7, 7, 7⟩, ⟨8, 7, 7, 7, 6, 6⟩) ⊢ wpb c (k ⟨v838, (part Xs Ws 1 (stage (6 : Fin 14).val) c (rcv 1 6 c))⟩) Q) :
    St Xs Ws K c 8 (⟨8, 8, 7, 7, 7, 7⟩, ⟨8, 7, 6, 6, 6, 6⟩) ⊢ wpb c (k1_part31 xM (Memref.isWhole_whole _) wM (Memref.isWhole_whole _) oM (Memref.isWhole_whole _) cM (Memref.isWhole_whole _) pM (Memref.isWhole_whole _) cc1_scratch2 cc1_scratch3 c v2 v830 v831 v832 c0_i32_836 >>= k) Q := by
  rw [k1_part31_eq_skeleton]; unfold k1_part31_skel
  simp (config := { proj := false }) only [Prog.lift, Prog.bind_op, Prog.bind_ret, Prog.pure_eq_ret]
  refine step_sendWait 1 6 (s' := (⟨8, 8, 7, 7, 7, 7⟩, ⟨8, 7, 7, 6, 6, 6⟩)) ?_
  refine step_recvWait 1 6 (s' := (⟨8, 8, 7, 7, 7, 7⟩, ⟨8, 7, 7, 7, 6, 6⟩)) ?_
  refine step_loadO 1 6 (offf := fun c => k1_off5 c 6#32 0#32 0#32 0#32) ?_
  simp (config := { proj := false }) only [k1_pay79, down_up3, down_up4]
  exact hk _

theorem part32 (v2 : BitVec 32) (v838 : BitVec 32) {k} {Q : α → sProp 𝕄}
    (hk : ∀ (v886 : BitVec 32) (c0_i32_897 : BitVec 32), St Xs Ws K c 8 (⟨8, 8, 7, 7, 7, 7⟩, ⟨8, 8, 7, 7, 7, 7⟩) ⊢ wpb c (k ⟨v886, c0_i32_897⟩) Q) :
    St Xs Ws K c 8 (⟨8, 8, 7, 7, 7, 7⟩, ⟨8, 7, 7, 7, 6, 6⟩) ⊢ wpb c (k1_part32 xM (Memref.isWhole_whole _) wM (Memref.isWhole_whole _) oM (Memref.isWhole_whole _) cM (Memref.isWhole_whole _) pM (Memref.isWhole_whole _) cc1_scratch2 cc1_scratch3 c v2 v838 (part Xs Ws 1 (stage (6 : Fin 14).val) c (rcv 1 6 c)) >>= k) Q := by
  rw [k1_part32_eq_skeleton]; unfold k1_part32_skel
  simp (config := { proj := false }) only [Prog.lift, Prog.bind_op, Prog.bind_ret, Prog.pure_eq_ret]
  refine step_loadC 1 6 ?_
  refine step_loadO_any fun v862 => ?_
  refine step_foldO 1 6 (offf := fun c => k1_off5 c 6#32 0#32 0#32 0#32) (s' := (⟨8, 8, 7, 7, 7, 7⟩, ⟨8, 7, 7, 7, 7, 6⟩)) ?_ (by simp (config := { proj := false }) only [k1_pay81, k1_pay80, down_up3, down_up4, fold_eq c 1 6 (by decide)] <;> rfl)
  refine step_loadP 1 6 (offf := fun c => k1_off6 c 6#32 0#32 0#32 0#32) fun v867 => ?_
  refine step_foldP 1 6 (offf := fun c => k1_off6 c 6#32 0#32 0#32 0#32) (s' := (⟨8, 8, 7, 7, 7, 7⟩, ⟨8, 7, 7, 7, 7, 7⟩)) ?_ (by simp (config := { proj := false }) only [k1_pay82, k1_pay80, down_up3, down_up4, fold_eq c 1 6 (by decide)] <;> rfl)
  refine step_send 1 7 (devf := fun c => k1_dev27 c) (offp := fun c => k1_off8 c 7#32 0#32) (s' := (⟨8, 8, 7, 7, 7, 7⟩, ⟨8, 8, 7, 7, 7, 7⟩)) ?_
  exact hk _ _

theorem part33 (v2 : BitVec 32) (v886 : BitVec 32) (c0_i32_897 : BitVec 32) {k} {Q : α → sProp 𝕄}
    (hk : ∀ (v887 : BitVec 32), St Xs Ws K c 8 (⟨8, 8, 8, 8, 8, 7⟩, ⟨8, 8, 7, 7, 7, 7⟩) ⊢ wpb c (k (v887)) Q) :
    St Xs Ws K c 8 (⟨8, 8, 7, 7, 7, 7⟩, ⟨8, 8, 7, 7, 7, 7⟩) ⊢ wpb c (k1_part33 xM (Memref.isWhole_whole _) wM (Memref.isWhole_whole _) oM (Memref.isWhole_whole _) cM (Memref.isWhole_whole _) pM (Memref.isWhole_whole _) cc1_scratch2 cc1_scratch3 c v2 v886 c0_i32_897 >>= k) Q := by
  rw [k1_part33_eq_skeleton]; unfold k1_part33_skel
  simp (config := { proj := false }) only [Prog.lift, Prog.bind_op, Prog.bind_ret, Prog.pure_eq_ret]
  refine step_sendWait 0 7 (s' := (⟨8, 8, 8, 7, 7, 7⟩, ⟨8, 8, 7, 7, 7, 7⟩)) ?_
  refine step_recvWait 0 7 (s' := (⟨8, 8, 8, 8, 7, 7⟩, ⟨8, 8, 7, 7, 7, 7⟩)) ?_
  refine step_loadC 0 7 ?_
  refine step_loadO_any fun v907 => ?_
  refine step_copyO 0 7 (offf := fun c => k1_off9 c 4#32 7#32 0#32) (s' := (⟨8, 8, 8, 8, 8, 7⟩, ⟨8, 8, 7, 7, 7, 7⟩)) ?_ (by simp (config := { proj := false }) only [k1_pay83, down_up3, down_up4] <;> rfl)
  exact hk _

theorem part34 (v2 : BitVec 32) (v887 : BitVec 32) {k} {Q : α → sProp 𝕄}
    (hk : St Xs Ws K c 8 (⟨8, 9, 8, 8, 8, 8⟩, ⟨8, 8, 7, 7, 7, 7⟩) ⊢ wpb c (k ⟨⟩) Q) :
    St Xs Ws K c 8 (⟨8, 8, 8, 8, 8, 7⟩, ⟨8, 8, 7, 7, 7, 7⟩) ⊢ wpb c (k1_part34 xM (Memref.isWhole_whole _) wM (Memref.isWhole_whole _) oM (Memref.isWhole_whole _) cM (Memref.isWhole_whole _) pM (Memref.isWhole_whole _) cc1_scratch2 cc1_scratch3 c v2 v887 >>= k) Q := by
  rw [k1_part34_eq_skeleton]; unfold k1_part34_skel
  simp (config := { proj := false }) only [Prog.lift, Prog.bind_op, Prog.bind_ret, Prog.pure_eq_ret]
  refine step_loadC 0 7 ?_
  refine step_loadP 0 7 (offf := fun c => k1_off10 c 4#32 7#32 0#32) fun v913 => ?_
  refine step_copyP 0 7 (offf := fun c => k1_off10 c 4#32 7#32 0#32) (s' := (⟨8, 8, 8, 8, 8, 8⟩, ⟨8, 8, 7, 7, 7, 7⟩)) ?_ (by simp (config := { proj := false }) only [k1_pay84, down_up3, down_up4] <;> rfl)
  refine step_send 0 8 (devf := fun c => k1_dev28 c) (offp := fun c => k1_off7 c 3#32 0#32) (s' := (⟨8, 9, 8, 8, 8, 8⟩, ⟨8, 8, 7, 7, 7, 7⟩)) ?_
  exact hk

theorem part35 (v2 : BitVec 32) {k} {Q : α → sProp 𝕄}
    (hk : ∀ (v946 : BitVec 32), St Xs Ws K c 8 (⟨8, 10, 8, 8, 8, 8⟩, ⟨8, 8, 8, 7, 7, 7⟩) ⊢ wpb c (k (v946)) Q) :
    St Xs Ws K c 8 (⟨8, 9, 8, 8, 8, 8⟩, ⟨8, 8, 7, 7, 7, 7⟩) ⊢ wpb c (k1_part35 xM (Memref.isWhole_whole _) wM (Memref.isWhole_whole _) oM (Memref.isWhole_whole _) cM (Memref.isWhole_whole _) pM (Memref.isWhole_whole _) cc1_scratch2 cc1_scratch3 c v2 >>= k) Q := by
  rw [k1_part35_eq_skeleton]; unfold k1_part35_skel
  simp (config := { proj := false }) only [Prog.lift, Prog.bind_op, Prog.bind_ret, Prog.pure_eq_ret]
  refine step_send 0 9 (devf := fun c => k1_dev29 c) (offp := fun c => k1_off7 c 3#32 4#32) (s' := (⟨8, 10, 8, 8, 8, 8⟩, ⟨8, 8, 7, 7, 7, 7⟩)) ?_
  refine step_sendWait 1 7 (s' := (⟨8, 10, 8, 8, 8, 8⟩, ⟨8, 8, 8, 7, 7, 7⟩)) ?_
  exact hk _

theorem part36 (v2 : BitVec 32) (v946 : BitVec 32) {k} {Q : α → sProp 𝕄}
    (hk : St Xs Ws K c 8 (⟨8, 10, 8, 8, 8, 8⟩, ⟨8, 8, 8, 8, 8, 8⟩) ⊢ wpb c (k ⟨⟩) Q) :
    St Xs Ws K c 8 (⟨8, 10, 8, 8, 8, 8⟩, ⟨8, 8, 8, 7, 7, 7⟩) ⊢ wpb c (k1_part36 xM (Memref.isWhole_whole _) wM (Memref.isWhole_whole _) oM (Memref.isWhole_whole _) cM (Memref.isWhole_whole _) pM (Memref.isWhole_whole _) cc1_scratch2 cc1_scratch3 c v2 v946 >>= k) Q := by
  rw [k1_part36_eq_skeleton]; unfold k1_part36_skel
  simp (config := { proj := false }) only [Prog.lift, Prog.bind_op, Prog.bind_ret, Prog.pure_eq_ret]
  refine step_recvWait 1 7 (s' := (⟨8, 10, 8, 8, 8, 8⟩, ⟨8, 8, 8, 8, 7, 7⟩)) ?_
  refine step_loadC 1 7 ?_
  refine step_loadO_any fun v966 => ?_
  refine step_copyO 1 7 (offf := fun c => k1_off11 c 1#32 7#32 0#32) (s' := (⟨8, 10, 8, 8, 8, 8⟩, ⟨8, 8, 8, 8, 8, 7⟩)) ?_ (by simp (config := { proj := false }) only [k1_pay85, down_up3, down_up4] <;> rfl)
  refine step_loadC 1 7 ?_
  refine step_loadP 1 7 (offf := fun c => k1_off12 c 1#32 7#32 0#32) fun v972 => ?_
  refine step_copyP 1 7 (offf := fun c => k1_off12 c 1#32 7#32 0#32) (s' := (⟨8, 10, 8, 8, 8, 8⟩, ⟨8, 8, 8, 8, 8, 8⟩)) ?_ (by simp (config := { proj := false }) only [k1_pay86, down_up3, down_up4] <;> rfl)
  exact hk

theorem part37 (v2 : BitVec 32) {k} {Q : α → sProp 𝕄}
    (hk : ∀ (v1005 : BitVec 32) (v1010 : BitVec 32) (v1011 : BitVec 32), St Xs Ws K c 8 (⟨8, 10, 8, 8, 8, 8⟩, ⟨8, 10, 8, 8, 8, 8⟩) ⊢ wpb c (k ⟨v1005, v1010, v1011⟩) Q) :
    St Xs Ws K c 8 (⟨8, 10, 8, 8, 8, 8⟩, ⟨8, 8, 8, 8, 8, 8⟩) ⊢ wpb c (k1_part37 xM (Memref.isWhole_whole _) wM (Memref.isWhole_whole _) oM (Memref.isWhole_whole _) cM (Memref.isWhole_whole _) pM (Memref.isWhole_whole _) cc1_scratch2 cc1_scratch3 c v2 >>= k) Q := by
  rw [k1_part37_eq_skeleton]; unfold k1_part37_skel
  simp (config := { proj := false }) only [Prog.lift, Prog.bind_op, Prog.bind_ret, Prog.pure_eq_ret]
  refine step_send 1 8 (devf := fun c => k1_dev30 c) (offp := fun c => k1_off8 c 6#32 0#32) (s' := (⟨8, 10, 8, 8, 8, 8⟩, ⟨8, 9, 8, 8, 8, 8⟩)) ?_
  refine step_send 1 9 (devf := fun c => k1_dev31 c) (offp := fun c => k1_off8 c 6#32 1#32) (s' := (⟨8, 10, 8, 8, 8, 8⟩, ⟨8, 10, 8, 8, 8, 8⟩)) ?_
  exact hk _ _ _

theorem part38 (v1005 : BitVec 32) (v1011 : BitVec 32) {k} {Q : α → sProp 𝕄}
    (hk : St Xs Ws K c 8 (⟨8, 10, 9, 9, 9, 8⟩, ⟨8, 10, 8, 8, 8, 8⟩) ⊢ wpb c (k ((got Xs Ws c 0 8))) Q) :
    St Xs Ws K c 8 (⟨8, 10, 8, 8, 8, 8⟩, ⟨8, 10, 8, 8, 8, 8⟩) ⊢ wpb c (k1_part38 xM (Memref.isWhole_whole _) wM (Memref.isWhole_whole _) oM (Memref.isWhole_whole _) cM (Memref.isWhole_whole _) pM (Memref.isWhole_whole _) cc1_scratch2 cc1_scratch3 c v1005 v1011 >>= k) Q := by
  rw [k1_part38_eq_skeleton]; unfold k1_part38_skel
  simp (config := { proj := false }) only [Prog.lift, Prog.bind_op, Prog.bind_ret, Prog.pure_eq_ret]
  refine step_sendWait 0 8 (s' := (⟨8, 10, 9, 8, 8, 8⟩, ⟨8, 10, 8, 8, 8, 8⟩)) ?_
  refine step_recvWait 0 8 (s' := (⟨8, 10, 9, 9, 8, 8⟩, ⟨8, 10, 8, 8, 8, 8⟩)) ?_
  refine step_loadC 0 8 ?_
  refine step_loadO_any fun v1030 => ?_
  refine step_copyO 0 8 (offf := fun c => k1_off9 c 2#32 3#32 0#32) (s' := (⟨8, 10, 9, 9, 9, 8⟩, ⟨8, 10, 8, 8, 8, 8⟩)) ?_ (by simp (config := { proj := false }) only [k1_pay87, down_up3, down_up4] <;> rfl)
  refine step_loadC 0 8 ?_
  simp (config := { proj := false }) only [k1_pay88, down_up3, down_up4]
  exact hk

theorem part39 (v2 : BitVec 32) (v1010 : BitVec 32) {k} {Q : α → sProp 𝕄}
    (hk : St Xs Ws K c 8 (⟨8, 10, 10, 10, 9, 9⟩, ⟨8, 10, 8, 8, 8, 8⟩) ⊢ wpb c (k ((up3 (extf .f32 (got Xs Ws c 0 9) bitsLt_bf16_f32)))) Q) :
    St Xs Ws K c 8 (⟨8, 10, 9, 9, 9, 8⟩, ⟨8, 10, 8, 8, 8, 8⟩) ⊢ wpb c (k1_part39 xM (Memref.isWhole_whole _) wM (Memref.isWhole_whole _) oM (Memref.isWhole_whole _) cM (Memref.isWhole_whole _) pM (Memref.isWhole_whole _) cc1_scratch2 cc1_scratch3 c v2 v1010 (got Xs Ws c 0 8) >>= k) Q := by
  rw [k1_part39_eq_skeleton]; unfold k1_part39_skel
  simp (config := { proj := false }) only [Prog.lift, Prog.bind_op, Prog.bind_ret, Prog.pure_eq_ret]
  refine step_loadP 0 8 (offf := fun c => k1_off10 c 2#32 3#32 0#32) fun v1036 => ?_
  refine step_copyP 0 8 (offf := fun c => k1_off10 c 2#32 3#32 0#32) (s' := (⟨8, 10, 9, 9, 9, 9⟩, ⟨8, 10, 8, 8, 8, 8⟩)) ?_ (by simp (config := { proj := false }) only [k1_pay89, down_up3, down_up4] <;> rfl)
  refine step_sendWait 0 9 (s' := (⟨8, 10, 10, 9, 9, 9⟩, ⟨8, 10, 8, 8, 8, 8⟩)) ?_
  refine step_recvWait 0 9 (s' := (⟨8, 10, 10, 10, 9, 9⟩, ⟨8, 10, 8, 8, 8, 8⟩)) ?_
  refine step_loadC 0 9 ?_
  refine step_loadO_any fun v1058 => ?_
  simp (config := { proj := false }) only [k1_pay90, down_up3, down_up4]
  exact hk

theorem part40 (v2 : BitVec 32) (v1010 : BitVec 32) {k} {Q : α → sProp 𝕄}
    (hk : ∀ (v1086 : BitVec 32), St Xs Ws K c 8 (⟨8, 11, 10, 10, 10, 10⟩, ⟨8, 10, 8, 8, 8, 8⟩) ⊢ wpb c (k (v1086)) Q) :
    St Xs Ws K c 8 (⟨8, 10, 10, 10, 9, 9⟩, ⟨8, 10, 8, 8, 8, 8⟩) ⊢ wpb c (k1_part40 xM (Memref.isWhole_whole _) wM (Memref.isWhole_whole _) oM (Memref.isWhole_whole _) cM (Memref.isWhole_whole _) pM (Memref.isWhole_whole _) cc1_scratch2 cc1_scratch3 c v2 v1010 (up3 (extf .f32 (got Xs Ws c 0 9) bitsLt_bf16_f32)) >>= k) Q := by
  rw [k1_part40_eq_skeleton]; unfold k1_part40_skel
  simp (config := { proj := false }) only [Prog.lift, Prog.bind_op, Prog.bind_ret, Prog.pure_eq_ret]
  refine step_copyO 0 9 (offf := fun c => k1_off9 c 2#32 3#32 4#32) (s' := (⟨8, 10, 10, 10, 10, 9⟩, ⟨8, 10, 8, 8, 8, 8⟩)) ?_ rfl
  refine step_loadC 0 9 ?_
  refine step_loadP 0 9 (offf := fun c => k1_off10 c 2#32 3#32 4#32) fun v1064 => ?_
  refine step_copyP 0 9 (offf := fun c => k1_off10 c 2#32 3#32 4#32) (s' := (⟨8, 10, 10, 10, 10, 10⟩, ⟨8, 10, 8, 8, 8, 8⟩)) ?_ (by simp (config := { proj := false }) only [k1_pay91, down_up3, down_up4] <;> rfl)
  refine step_send 0 10 (devf := fun c => k1_dev32 c) (offp := fun c => k1_off7 c 1#32 0#32) (s' := (⟨8, 11, 10, 10, 10, 10⟩, ⟨8, 10, 8, 8, 8, 8⟩)) ?_
  exact hk _

end Cert.Exchange
-- ==== Proof.GatherWalk.lean ====
/-
# The body, the last gathering stage

The stretches of the body in which the last finished chunks travel: each copy that arrives is stored in the result, and
the last copies sent are waited for.
-/
module

public import proofs.«01_k».proof.Proof.Access

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

theorem part41 (v2 : BitVec 32) (v1086 : BitVec 32) {k} {Q : α → sProp 𝕄}
    (hk : ∀ (v1109 : BitVec 32), St Xs Ws K c 8 (⟨8, 13, 10, 10, 10, 10⟩, ⟨8, 10, 8, 8, 8, 8⟩) ⊢ wpb c (k (v1109)) Q) :
    St Xs Ws K c 8 (⟨8, 11, 10, 10, 10, 10⟩, ⟨8, 10, 8, 8, 8, 8⟩) ⊢ wpb c (k1_part41 xM (Memref.isWhole_whole _) wM (Memref.isWhole_whole _) oM (Memref.isWhole_whole _) cM (Memref.isWhole_whole _) pM (Memref.isWhole_whole _) cc1_scratch2 cc1_scratch3 c v2 v1086 >>= k) Q := by
  rw [k1_part41_eq_skeleton]; unfold k1_part41_skel
  simp (config := { proj := false }) only [Prog.lift, Prog.bind_op, Prog.bind_ret, Prog.pure_eq_ret]
  refine step_send 0 11 (devf := fun c => k1_dev33 c) (offp := fun c => k1_off7 c 1#32 2#32) (s' := (⟨8, 12, 10, 10, 10, 10⟩, ⟨8, 10, 8, 8, 8, 8⟩)) ?_
  refine step_send 0 12 (devf := fun c => k1_dev34 c) (offp := fun c => k1_off7 c 1#32 4#32) (s' := (⟨8, 13, 10, 10, 10, 10⟩, ⟨8, 10, 8, 8, 8, 8⟩)) ?_
  exact hk _

theorem part42 (v2 : BitVec 32) (v1109 : BitVec 32) {k} {Q : α → sProp 𝕄}
    (hk : ∀ (v1123 : BitVec 32) (v1128 : BitVec 32) (v1129 : BitVec 32), St Xs Ws K c 8 (⟨8, 14, 10, 10, 10, 10⟩, ⟨8, 10, 9, 8, 8, 8⟩) ⊢ wpb c (k ⟨v1123, v1128, v1129⟩) Q) :
    St Xs Ws K c 8 (⟨8, 13, 10, 10, 10, 10⟩, ⟨8, 10, 8, 8, 8, 8⟩) ⊢ wpb c (k1_part42 xM (Memref.isWhole_whole _) wM (Memref.isWhole_whole _) oM (Memref.isWhole_whole _) cM (Memref.isWhole_whole _) pM (Memref.isWhole_whole _) cc1_scratch2 cc1_scratch3 c v2 v1109 >>= k) Q := by
  rw [k1_part42_eq_skeleton]; unfold k1_part42_skel
  simp (config := { proj := false }) only [Prog.lift, Prog.bind_op, Prog.bind_ret, Prog.pure_eq_ret]
  refine step_send 0 13 (devf := fun c => k1_dev35 c) (offp := fun c => k1_off7 c 1#32 6#32) (s' := (⟨8, 14, 10, 10, 10, 10⟩, ⟨8, 10, 8, 8, 8, 8⟩)) ?_
  refine step_sendWait 1 8 (s' := (⟨8, 14, 10, 10, 10, 10⟩, ⟨8, 10, 9, 8, 8, 8⟩)) ?_
  exact hk _ _ _

theorem part43 (v2 : BitVec 32) (v1123 : BitVec 32) (v1129 : BitVec 32) {k} {Q : α → sProp 𝕄}
    (hk : ∀ (v1157 : BitVec 32), St Xs Ws K c 8 (⟨8, 14, 10, 10, 10, 10⟩, ⟨8, 10, 9, 9, 9, 9⟩) ⊢ wpb c (k (v1157)) Q) :
    St Xs Ws K c 8 (⟨8, 14, 10, 10, 10, 10⟩, ⟨8, 10, 9, 8, 8, 8⟩) ⊢ wpb c (k1_part43 xM (Memref.isWhole_whole _) wM (Memref.isWhole_whole _) oM (Memref.isWhole_whole _) cM (Memref.isWhole_whole _) pM (Memref.isWhole_whole _) cc1_scratch2 cc1_scratch3 c v2 v1123 v1129 >>= k) Q := by
  rw [k1_part43_eq_skeleton]; unfold k1_part43_skel
  simp (config := { proj := false }) only [Prog.lift, Prog.bind_op, Prog.bind_ret, Prog.pure_eq_ret]
  refine step_recvWait 1 8 (s' := (⟨8, 14, 10, 10, 10, 10⟩, ⟨8, 10, 9, 9, 8, 8⟩)) ?_
  refine step_loadC 1 8 ?_
  refine step_loadO_any fun v1148 => ?_
  refine step_copyO 1 8 (offf := fun c => k1_off11 c 2#32 6#32 0#32) (s' := (⟨8, 14, 10, 10, 10, 10⟩, ⟨8, 10, 9, 9, 9, 8⟩)) ?_ (by simp (config := { proj := false }) only [k1_pay92, down_up3, down_up4] <;> rfl)
  refine step_loadC 1 8 ?_
  refine step_loadP 1 8 (offf := fun c => k1_off12 c 2#32 6#32 0#32) fun v1154 => ?_
  refine step_copyP 1 8 (offf := fun c => k1_off12 c 2#32 6#32 0#32) (s' := (⟨8, 14, 10, 10, 10, 10⟩, ⟨8, 10, 9, 9, 9, 9⟩)) ?_ (by simp (config := { proj := false }) only [k1_pay93, down_up3, down_up4] <;> rfl)
  exact hk _

theorem part44 (v2 : BitVec 32) (v1128 : BitVec 32) (v1157 : BitVec 32) {k} {Q : α → sProp 𝕄}
    (hk : ∀ (v1185 : BitVec 32) (c0_i32_1279 : BitVec 32), St Xs Ws K c 8 (⟨8, 14, 10, 10, 10, 10⟩, ⟨8, 10, 10, 10, 10, 10⟩) ⊢ wpb c (k ⟨v1185, c0_i32_1279⟩) Q) :
    St Xs Ws K c 8 (⟨8, 14, 10, 10, 10, 10⟩, ⟨8, 10, 9, 9, 9, 9⟩) ⊢ wpb c (k1_part44 xM (Memref.isWhole_whole _) wM (Memref.isWhole_whole _) oM (Memref.isWhole_whole _) cM (Memref.isWhole_whole _) pM (Memref.isWhole_whole _) cc1_scratch2 cc1_scratch3 c v2 v1128 v1157 >>= k) Q := by
  rw [k1_part44_eq_skeleton]; unfold k1_part44_skel
  simp (config := { proj := false }) only [Prog.lift, Prog.bind_op, Prog.bind_ret, Prog.pure_eq_ret]
  refine step_sendWait 1 9 (s' := (⟨8, 14, 10, 10, 10, 10⟩, ⟨8, 10, 10, 9, 9, 9⟩)) ?_
  refine step_recvWait 1 9 (s' := (⟨8, 14, 10, 10, 10, 10⟩, ⟨8, 10, 10, 10, 9, 9⟩)) ?_
  refine step_loadC 1 9 ?_
  refine step_loadO_any fun v1176 => ?_
  refine step_copyO 1 9 (offf := fun c => k1_off11 c 2#32 6#32 1#32) (s' := (⟨8, 14, 10, 10, 10, 10⟩, ⟨8, 10, 10, 10, 10, 9⟩)) ?_ (by simp (config := { proj := false }) only [k1_pay94, down_up3, down_up4] <;> rfl)
  refine step_loadC 1 9 ?_
  refine step_loadP 1 9 (offf := fun c => k1_off12 c 2#32 6#32 1#32) fun v1182 => ?_
  refine step_copyP 1 9 (offf := fun c => k1_off12 c 2#32 6#32 1#32) (s' := (⟨8, 14, 10, 10, 10, 10⟩, ⟨8, 10, 10, 10, 10, 10⟩)) ?_ (by simp (config := { proj := false }) only [k1_pay95, down_up3, down_up4] <;> rfl)
  exact hk _ _

theorem part45 (v2 : BitVec 32) (v1185 : BitVec 32) (c0_i32_1279 : BitVec 32) {k} {Q : α → sProp 𝕄}
    (hk : St Xs Ws K c 8 (⟨8, 14, 10, 10, 10, 10⟩, ⟨8, 11, 10, 10, 10, 10⟩) ⊢ wpb c (k ⟨⟩) Q) :
    St Xs Ws K c 8 (⟨8, 14, 10, 10, 10, 10⟩, ⟨8, 10, 10, 10, 10, 10⟩) ⊢ wpb c (k1_part45 xM (Memref.isWhole_whole _) wM (Memref.isWhole_whole _) oM (Memref.isWhole_whole _) cM (Memref.isWhole_whole _) pM (Memref.isWhole_whole _) cc1_scratch2 cc1_scratch3 c v2 v1185 c0_i32_1279 >>= k) Q := by
  rw [k1_part45_eq_skeleton]; unfold k1_part45_skel
  simp (config := { proj := false }) only [Prog.lift, Prog.bind_op, Prog.bind_ret, Prog.pure_eq_ret]
  refine step_send 1 10 (devf := fun c => k1_dev36 c) (offp := fun c => k1_off8 c 4#32 0#32) (s' := (⟨8, 14, 10, 10, 10, 10⟩, ⟨8, 11, 10, 10, 10, 10⟩)) ?_
  exact hk

theorem part46 (v2 : BitVec 32) {k} {Q : α → sProp 𝕄}
    (hk : ∀ (v1237 : BitVec 32) (c0_i32_1343 : BitVec 32), St Xs Ws K c 8 (⟨8, 14, 10, 10, 10, 10⟩, ⟨8, 14, 10, 10, 10, 10⟩) ⊢ wpb c (k ⟨v1237, c0_i32_1343⟩) Q) :
    St Xs Ws K c 8 (⟨8, 14, 10, 10, 10, 10⟩, ⟨8, 11, 10, 10, 10, 10⟩) ⊢ wpb c (k1_part46 xM (Memref.isWhole_whole _) wM (Memref.isWhole_whole _) oM (Memref.isWhole_whole _) cM (Memref.isWhole_whole _) pM (Memref.isWhole_whole _) cc1_scratch2 cc1_scratch3 c v2 >>= k) Q := by
  rw [k1_part46_eq_skeleton]; unfold k1_part46_skel
  simp (config := { proj := false }) only [Prog.lift, Prog.bind_op, Prog.bind_ret, Prog.pure_eq_ret]
  refine step_send 1 11 (devf := fun c => k1_dev37 c) (offp := fun c => k1_off8 c 4#32 1#32) (s' := (⟨8, 14, 10, 10, 10, 10⟩, ⟨8, 12, 10, 10, 10, 10⟩)) ?_
  refine step_send 1 12 (devf := fun c => k1_dev38 c) (offp := fun c => k1_off8 c 4#32 2#32) (s' := (⟨8, 14, 10, 10, 10, 10⟩, ⟨8, 13, 10, 10, 10, 10⟩)) ?_
  refine step_send 1 13 (devf := fun c => k1_dev39 c) (offp := fun c => k1_off8 c 4#32 3#32) (s' := (⟨8, 14, 10, 10, 10, 10⟩, ⟨8, 14, 10, 10, 10, 10⟩)) ?_
  exact hk _ _

theorem part47 (v2 : BitVec 32) (v1237 : BitVec 32) (c0_i32_1343 : BitVec 32) {k} {Q : α → sProp 𝕄}
    (hk : ∀ (v1241 : BitVec 32) (v1246 : BitVec 32) (v1251 : BitVec 32) (v1256 : BitVec 32) (v1257 : BitVec 32), St Xs Ws K c 8 (⟨8, 14, 11, 10, 10, 10⟩, ⟨8, 14, 10, 10, 10, 10⟩) ⊢ wpb c (k ⟨v1241, v1246, v1251, v1256, v1257⟩) Q) :
    St Xs Ws K c 8 (⟨8, 14, 10, 10, 10, 10⟩, ⟨8, 14, 10, 10, 10, 10⟩) ⊢ wpb c (k1_part47 xM (Memref.isWhole_whole _) wM (Memref.isWhole_whole _) oM (Memref.isWhole_whole _) cM (Memref.isWhole_whole _) pM (Memref.isWhole_whole _) cc1_scratch2 cc1_scratch3 c v2 v1237 c0_i32_1343 >>= k) Q := by
  rw [k1_part47_eq_skeleton]; unfold k1_part47_skel
  simp (config := { proj := false }) only [Prog.lift, Prog.bind_op, Prog.bind_ret, Prog.pure_eq_ret]
  refine step_sendWait 0 10 (s' := (⟨8, 14, 11, 10, 10, 10⟩, ⟨8, 14, 10, 10, 10, 10⟩)) ?_
  exact hk _ _ _ _ _

theorem part48 (v2 : BitVec 32) (v1241 : BitVec 32) (v1257 : BitVec 32) {k} {Q : α → sProp 𝕄}
    (hk : ∀ (v1279 : BitVec 32), St Xs Ws K c 8 (⟨8, 14, 12, 11, 11, 10⟩, ⟨8, 14, 10, 10, 10, 10⟩) ⊢ wpb c (k (v1279)) Q) :
    St Xs Ws K c 8 (⟨8, 14, 11, 10, 10, 10⟩, ⟨8, 14, 10, 10, 10, 10⟩) ⊢ wpb c (k1_part48 xM (Memref.isWhole_whole _) wM (Memref.isWhole_whole _) oM (Memref.isWhole_whole _) cM (Memref.isWhole_whole _) pM (Memref.isWhole_whole _) cc1_scratch2 cc1_scratch3 c v2 v1241 v1257 >>= k) Q := by
  rw [k1_part48_eq_skeleton]; unfold k1_part48_skel
  simp (config := { proj := false }) only [Prog.lift, Prog.bind_op, Prog.bind_ret, Prog.pure_eq_ret]
  refine step_recvWait 0 10 (s' := (⟨8, 14, 11, 11, 10, 10⟩, ⟨8, 14, 10, 10, 10, 10⟩)) ?_
  refine step_loadC 0 10 ?_
  refine step_loadO_any fun v1276 => ?_
  refine step_copyO 0 10 (offf := fun c => k1_off9 c 1#32 1#32 0#32) (s' := (⟨8, 14, 11, 11, 11, 10⟩, ⟨8, 14, 10, 10, 10, 10⟩)) ?_ (by simp (config := { proj := false }) only [k1_pay96, down_up3, down_up4] <;> rfl)
  refine step_sendWait 0 11 (s' := (⟨8, 14, 12, 11, 11, 10⟩, ⟨8, 14, 10, 10, 10, 10⟩)) ?_
  exact hk _

theorem part49 (v2 : BitVec 32) (v1246 : BitVec 32) (v1279 : BitVec 32) {k} {Q : α → sProp 𝕄}
    (hk : ∀ (v1301 : BitVec 32) (c1_i32_1444 : BitVec 32), St Xs Ws K c 8 (⟨8, 14, 13, 12, 12, 10⟩, ⟨8, 14, 10, 10, 10, 10⟩) ⊢ wpb c (k ⟨v1301, c1_i32_1444⟩) Q) :
    St Xs Ws K c 8 (⟨8, 14, 12, 11, 11, 10⟩, ⟨8, 14, 10, 10, 10, 10⟩) ⊢ wpb c (k1_part49 xM (Memref.isWhole_whole _) wM (Memref.isWhole_whole _) oM (Memref.isWhole_whole _) cM (Memref.isWhole_whole _) pM (Memref.isWhole_whole _) cc1_scratch2 cc1_scratch3 c v2 v1246 v1279 >>= k) Q := by
  rw [k1_part49_eq_skeleton]; unfold k1_part49_skel
  simp (config := { proj := false }) only [Prog.lift, Prog.bind_op, Prog.bind_ret, Prog.pure_eq_ret]
  refine step_recvWait 0 11 (s' := (⟨8, 14, 12, 12, 11, 10⟩, ⟨8, 14, 10, 10, 10, 10⟩)) ?_
  refine step_loadC 0 11 ?_
  refine step_loadO_any fun v1298 => ?_
  refine step_copyO 0 11 (offf := fun c => k1_off9 c 1#32 1#32 2#32) (s' := (⟨8, 14, 12, 12, 12, 10⟩, ⟨8, 14, 10, 10, 10, 10⟩)) ?_ (by simp (config := { proj := false }) only [k1_pay97, down_up3, down_up4] <;> rfl)
  refine step_sendWait 0 12 (s' := (⟨8, 14, 13, 12, 12, 10⟩, ⟨8, 14, 10, 10, 10, 10⟩)) ?_
  exact hk _ _

theorem part50 (v2 : BitVec 32) (v1251 : BitVec 32) (v1301 : BitVec 32) (c1_i32_1444 : BitVec 32) {k} {Q : α → sProp 𝕄}
    (hk : St Xs Ws K c 8 (⟨8, 14, 14, 13, 13, 10⟩, ⟨8, 14, 10, 10, 10, 10⟩) ⊢ wpb c (k ⟨⟩) Q) :
    St Xs Ws K c 8 (⟨8, 14, 13, 12, 12, 10⟩, ⟨8, 14, 10, 10, 10, 10⟩) ⊢ wpb c (k1_part50 xM (Memref.isWhole_whole _) wM (Memref.isWhole_whole _) oM (Memref.isWhole_whole _) cM (Memref.isWhole_whole _) pM (Memref.isWhole_whole _) cc1_scratch2 cc1_scratch3 c v2 v1251 v1301 c1_i32_1444 >>= k) Q := by
  rw [k1_part50_eq_skeleton]; unfold k1_part50_skel
  simp (config := { proj := false }) only [Prog.lift, Prog.bind_op, Prog.bind_ret, Prog.pure_eq_ret]
  refine step_recvWait 0 12 (s' := (⟨8, 14, 13, 13, 12, 10⟩, ⟨8, 14, 10, 10, 10, 10⟩)) ?_
  refine step_loadC 0 12 ?_
  refine step_loadO_any fun v1320 => ?_
  refine step_copyO 0 12 (offf := fun c => k1_off9 c 1#32 1#32 4#32) (s' := (⟨8, 14, 13, 13, 13, 10⟩, ⟨8, 14, 10, 10, 10, 10⟩)) ?_ (by simp (config := { proj := false }) only [k1_pay98, down_up3, down_up4] <;> rfl)
  refine step_sendWait 0 13 (s' := (⟨8, 14, 14, 13, 13, 10⟩, ⟨8, 14, 10, 10, 10, 10⟩)) ?_
  exact hk

theorem part51 (v2 : BitVec 32) (v1256 : BitVec 32) {k} {Q : α → sProp 𝕄}
    (hk : ∀ (v1349 : BitVec 32) (v1354 : BitVec 32) (v1359 : BitVec 32) (c4_i32_1503 : BitVec 32), St Xs Ws K c 8 (⟨8, 14, 14, 14, 14, 10⟩, ⟨8, 14, 10, 10, 10, 10⟩) ⊢ wpb c (k ⟨v1349, v1354, v1359, c4_i32_1503⟩) Q) :
    St Xs Ws K c 8 (⟨8, 14, 14, 13, 13, 10⟩, ⟨8, 14, 10, 10, 10, 10⟩) ⊢ wpb c (k1_part51 xM (Memref.isWhole_whole _) wM (Memref.isWhole_whole _) oM (Memref.isWhole_whole _) cM (Memref.isWhole_whole _) pM (Memref.isWhole_whole _) cc1_scratch2 cc1_scratch3 c v2 v1256 >>= k) Q := by
  rw [k1_part51_eq_skeleton]; unfold k1_part51_skel
  simp (config := { proj := false }) only [Prog.lift, Prog.bind_op, Prog.bind_ret, Prog.pure_eq_ret]
  refine step_recvWait 0 13 (s' := (⟨8, 14, 14, 14, 13, 10⟩, ⟨8, 14, 10, 10, 10, 10⟩)) ?_
  refine step_loadC 0 13 ?_
  refine step_loadO_any fun v1342 => ?_
  refine step_copyO 0 13 (offf := fun c => k1_off9 c 1#32 1#32 6#32) (s' := (⟨8, 14, 14, 14, 14, 10⟩, ⟨8, 14, 10, 10, 10, 10⟩)) ?_ (by simp (config := { proj := false }) only [k1_pay99, down_up3, down_up4] <;> rfl)
  exact hk _ _ _ _

theorem part52 (v2 : BitVec 32) (v1349 : BitVec 32) (c4_i32_1503 : BitVec 32) {k} {Q : α → sProp 𝕄}
    (hk : ∀ (v1364 : BitVec 32), St Xs Ws K c 8 (⟨8, 14, 14, 14, 14, 10⟩, ⟨8, 14, 11, 11, 10, 10⟩) ⊢ wpb c (k ⟨v1364, (extf .f32 (got Xs Ws c 1 10) bitsLt_bf16_f32)⟩) Q) :
    St Xs Ws K c 8 (⟨8, 14, 14, 14, 14, 10⟩, ⟨8, 14, 10, 10, 10, 10⟩) ⊢ wpb c (k1_part52 xM (Memref.isWhole_whole _) wM (Memref.isWhole_whole _) oM (Memref.isWhole_whole _) cM (Memref.isWhole_whole _) pM (Memref.isWhole_whole _) cc1_scratch2 cc1_scratch3 c v2 v1349 c4_i32_1503 >>= k) Q := by
  rw [k1_part52_eq_skeleton]; unfold k1_part52_skel
  simp (config := { proj := false }) only [Prog.lift, Prog.bind_op, Prog.bind_ret, Prog.pure_eq_ret]
  refine step_sendWait 1 10 (s' := (⟨8, 14, 14, 14, 14, 10⟩, ⟨8, 14, 11, 10, 10, 10⟩)) ?_
  refine step_recvWait 1 10 (s' := (⟨8, 14, 14, 14, 14, 10⟩, ⟨8, 14, 11, 11, 10, 10⟩)) ?_
  refine step_loadC 1 10 ?_
  refine step_loadO_any fun v1384 => ?_
  simp (config := { proj := false }) only [k1_pay100, down_up3, down_up4]
  exact hk _

theorem part53 (v2 : BitVec 32) (v1354 : BitVec 32) {k} {Q : α → sProp 𝕄}
    (hk : ∀ (c4_i32_1570 : BitVec 32), St Xs Ws K c 8 (⟨8, 14, 14, 14, 14, 10⟩, ⟨8, 14, 12, 12, 12, 10⟩) ⊢ wpb c (k (c4_i32_1570)) Q) :
    St Xs Ws K c 8 (⟨8, 14, 14, 14, 14, 10⟩, ⟨8, 14, 11, 11, 10, 10⟩) ⊢ wpb c (k1_part53 xM (Memref.isWhole_whole _) wM (Memref.isWhole_whole _) oM (Memref.isWhole_whole _) cM (Memref.isWhole_whole _) pM (Memref.isWhole_whole _) cc1_scratch2 cc1_scratch3 c v2 v1354 (extf .f32 (got Xs Ws c 1 10) bitsLt_bf16_f32) >>= k) Q := by
  rw [k1_part53_eq_skeleton]; unfold k1_part53_skel
  simp (config := { proj := false }) only [Prog.lift, Prog.bind_op, Prog.bind_ret, Prog.pure_eq_ret]
  refine step_copyO 1 10 (offf := fun c => k1_off11 c 4#32 4#32 0#32) (s' := (⟨8, 14, 14, 14, 14, 10⟩, ⟨8, 14, 11, 11, 11, 10⟩)) ?_ (by simp (config := { proj := false }) only [k1_pay101, down_up3, down_up4] <;> rfl)
  refine step_sendWait 1 11 (s' := (⟨8, 14, 14, 14, 14, 10⟩, ⟨8, 14, 12, 11, 11, 10⟩)) ?_
  refine step_recvWait 1 11 (s' := (⟨8, 14, 14, 14, 14, 10⟩, ⟨8, 14, 12, 12, 11, 10⟩)) ?_
  refine step_loadC 1 11 ?_
  refine step_loadO_any fun v1406 => ?_
  refine step_copyO 1 11 (offf := fun c => k1_off11 c 4#32 4#32 1#32) (s' := (⟨8, 14, 14, 14, 14, 10⟩, ⟨8, 14, 12, 12, 12, 10⟩)) ?_ (by simp (config := { proj := false }) only [k1_pay102, down_up3, down_up4] <;> rfl)
  exact hk _

theorem part54 (v2 : BitVec 32) (v1359 : BitVec 32) (c4_i32_1570 : BitVec 32) {k} {Q : α → sProp 𝕄}
    (hk : ∀ (v1431 : BitVec 32), St Xs Ws K c 8 (⟨8, 14, 14, 14, 14, 10⟩, ⟨8, 14, 13, 13, 13, 10⟩) ⊢ wpb c (k (v1431)) Q) :
    St Xs Ws K c 8 (⟨8, 14, 14, 14, 14, 10⟩, ⟨8, 14, 12, 12, 12, 10⟩) ⊢ wpb c (k1_part54 xM (Memref.isWhole_whole _) wM (Memref.isWhole_whole _) oM (Memref.isWhole_whole _) cM (Memref.isWhole_whole _) pM (Memref.isWhole_whole _) cc1_scratch2 cc1_scratch3 c v2 v1359 c4_i32_1570 >>= k) Q := by
  rw [k1_part54_eq_skeleton]; unfold k1_part54_skel
  simp (config := { proj := false }) only [Prog.lift, Prog.bind_op, Prog.bind_ret, Prog.pure_eq_ret]
  refine step_sendWait 1 12 (s' := (⟨8, 14, 14, 14, 14, 10⟩, ⟨8, 14, 13, 12, 12, 10⟩)) ?_
  refine step_recvWait 1 12 (s' := (⟨8, 14, 14, 14, 14, 10⟩, ⟨8, 14, 13, 13, 12, 10⟩)) ?_
  refine step_loadC 1 12 ?_
  refine step_loadO_any fun v1428 => ?_
  refine step_copyO 1 12 (offf := fun c => k1_off11 c 4#32 4#32 2#32) (s' := (⟨8, 14, 14, 14, 14, 10⟩, ⟨8, 14, 13, 13, 13, 10⟩)) ?_ (by simp (config := { proj := false }) only [k1_pay103, down_up3, down_up4] <;> rfl)
  exact hk _

end Cert.Exchange
-- ==== Proof.Body.lean ====
/-
# The kernel's body as a whole

The parts one after the other, from a device's start to the exchange's last state.
-/
module

public import proofs.«01_k».proof.Proof.Entry
public import proofs.«01_k».proof.Proof.FirstWalk
public import proofs.«01_k».proof.Proof.ScatterWalk
public import proofs.«01_k».proof.Proof.MiddleWalk
public import proofs.«01_k».proof.Proof.GatherWalk

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD} {r : ℕ} {s : Ctrs} {α : Type}

/-- Every counter at its end but those of the last copy. -/
abbrev last : Ctrs := (⟨8, 14, 14, 14, 14, 10⟩, ⟨8, 14, 13, 13, 13, 10⟩)
/-- Everything done. -/
abbrev done : Ctrs := (⟨8, 14, 14, 14, 14, 10⟩, ⟨8, 14, 14, 14, 14, 10⟩)

/-- The parts in turn, up to the last copy's arrival. -/
theorem walk : Start Xs Ws K c ⊢ wpb c (k1_part55 (F := F) xM (Memref.isWhole_whole _) wM (Memref.isWhole_whole _) oM (Memref.isWhole_whole _) cM (Memref.isWhole_whole _) pM (Memref.isWhole_whole _) cc1_scratch2 cc1_scratch3) (fun x => iprop(⌜x.1 = c⌝ ∗ St Xs Ws K c 8 last)) := by
  rw [k1_part55_eq_skeleton]; unfold k1_part55_skel
  refine part1 fun _ _ _ _ => ?_
  rw [show (zero : Ctrs) = (⟨0, nsent c 0 0, 0, 0, 0, 0⟩, ⟨0, nsent c 1 0, 0, 0, 0, 0⟩) by rw [nsent_zero, nsent_zero]]
  refine part2 _ _ _ _ ?_
  refine part3 _ _ _ ?_
  refine part4 _ _ _ ?_
  refine part5 _ _ _ (fun _ => ?_)
  refine part6 _ _ _ _ (fun _ => ?_)
  refine part7 _ _ _ _ (fun _ _ => ?_)
  refine part8 _ _ _ (fun _ _ _ _ _ => ?_)
  refine part9 _ _ (fun _ => ?_)
  refine part10 _ _ _ ?_
  refine part11 _ _ _ ?_
  refine part12 _ _ ?_
  refine part13 _ _ (fun _ => ?_)
  refine part14 _ _ (fun _ _ _ _ => ?_)
  refine part15 _ _ _ _ _ (fun _ _ _ _ _ => ?_)
  refine part16 _ _ _ (fun _ => ?_)
  refine part17 _ _ ?_
  refine part18 _ _ _ ?_
  refine part19 _ _ ?_
  refine part20 _ _ (fun _ => ?_)
  refine part21 _ _ (fun _ _ _ _ => ?_)
  refine part22 _ _ _ _ _ (fun _ _ => ?_)
  refine part23 _ _ ?_
  refine part24 _ _ (fun _ => ?_)
  refine part25 _ _ (fun _ _ _ => ?_)
  refine part26 _ _ ?_
  refine part27 _ _ (fun _ => ?_)
  refine part28 _ _ _ (fun _ _ _ _ => ?_)
  refine part29 _ _ _ _ _ (fun _ => ?_)
  refine part30 _ _ (fun _ _ _ _ => ?_)
  refine part31 _ _ _ _ _ (fun _ => ?_)
  refine part32 _ _ (fun _ _ => ?_)
  refine part33 _ _ _ (fun _ => ?_)
  refine part34 _ _ ?_
  refine part35 _ (fun _ => ?_)
  refine part36 _ _ ?_
  refine part37 _ (fun _ _ _ => ?_)
  refine part38 _ _ ?_
  refine part39 _ _ ?_
  refine part40 _ _ (fun _ => ?_)
  refine part41 _ _ (fun _ => ?_)
  refine part42 _ _ (fun _ _ _ => ?_)
  refine part43 _ _ _ (fun _ => ?_)
  refine part44 _ _ _ (fun _ _ => ?_)
  refine part45 _ _ _ ?_
  refine part46 _ (fun _ _ => ?_)
  refine part47 _ _ _ (fun _ _ _ _ _ => ?_)
  refine part48 _ _ _ (fun _ => ?_)
  refine part49 _ _ _ (fun _ _ => ?_)
  refine part50 _ _ _ _ ?_
  refine part51 _ _ (fun _ _ _ _ => ?_)
  refine part52 _ _ _ (fun _ => ?_)
  refine part53 _ _ (fun _ => ?_)
  refine part54 _ _ _ (fun _ => ?_)
  show (_ : sProp 𝕄) ⊢ wpb c (pure _) _
  rw [wpb, wp_pure]
  show (_ : sProp 𝕄) ⊢ _
  iintro H
  imodintro
  isplitr; · ipureintro; rfl
  iexact H

theorem of_fst {p : Prop} {P R : sProp 𝕄} (h : p → P ⊢ R) : iprop(⌜p⌝ ∗ P) ⊢ R := by
  iintro ⟨%hp, H⟩
  have := h hp
  iapply this; iexact H

/-- The body, from start to end. -/
theorem body : Start Xs Ws K c ⊢ wpb c (cc1__proj_ar_body (F := F) xM (Memref.isWhole_whole _) wM (Memref.isWhole_whole _) oM (Memref.isWhole_whole _) cM (Memref.isWhole_whole _) pM (Memref.isWhole_whole _) cc1_scratch2 cc1_scratch3) (fun _ => St Xs Ws K c 8 done) := by
  rw [cc1__proj_ar_body_eq_skeleton]; unfold cc1__proj_ar_body_skel
  refine BI.Entails.trans walk ?_
  refine BI.Entails.trans ?_ (Entails.of_eq (wp_bind _ _ _ _ _ _).symm)
  refine wp_mono _ _ _ ?_
  rintro ⟨d0, a, b⟩
  refine of_fst fun h => ?_
  subst h
  simp (config := { proj := false }) only [Prog.lift, Prog.bind_op, Prog.bind_ret, Prog.pure_eq_ret]
  refine step_sendWait 1 13 (s' := (⟨8, 14, 14, 14, 14, 10⟩, ⟨8, 14, 14, 13, 13, 10⟩)) ?_
  refine step_recvWait 1 13 (s' := (⟨8, 14, 14, 14, 14, 10⟩, ⟨8, 14, 14, 14, 13, 10⟩)) ?_
  refine step_loadC 1 13 ?_
  refine step_loadO_any fun v1450 => ?_
  refine step_copyO 1 13 (offf := fun c => k1_off11 c 4#32 4#32 3#32) (s' := done) ?_ (by simp (config := { proj := false }) only [k1_pay1, down_up3, down_up4] <;> rfl)
  show (_ : sProp 𝕄) ⊢ wp _ _ _ (.ret _) _
  rw [wp_ret]
  exact fupd_intro

end Cert.Exchange
-- ==== Proof.Finish.lean ====
/-
# Before and after the exchange

The scratch buffers cut into the blocks the exchange moves and put together again, the cells closed at the end, and the
result read off its blocks.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Xs : Dev nD → (cc1_stg0_0 : Ref sig .tc).ty.Contents (Elt F)} {Ws : Dev nD → (cc1_stg1_0 : Ref sig .tc).ty.Contents (Elt F)}
variable {K : Dev nD × CK → ℕ} {c : Dev nD}

/-! ## The scratch buffers -/

def cSet (j : Fin 2 × Fin 14) : Finset (Shape.Idx S2x14x256x512) := (cRect j.1 j.2).set
def pSet (j : Fin 2 × Fin 8) : Finset (Shape.Idx S2x8x256x512) := (pRect j.1 j.2).set
theorem cSet_disj (j j' : Fin 2 × Fin 14) (h : j ≠ j') : Disjoint (cSet j) (cSet j') := cBlk_disj h
theorem pSet_disj (j j' : Fin 2 × Fin 8) (h : j ≠ j') : Disjoint (pSet j) (pSet j') := pBlk_disj h
theorem cSet_cover : Finset.univ.biUnion cSet = Finset.univ := cBlk_cover.symm
theorem pSet_cover : Finset.univ.biUnion pSet = Finset.univ := pBlk_cover.symm

section scratch
variable (c : Dev nD)

abbrev commPts : sProp 𝕄 := iprop(∃ f : Buf (Elt F) ((c : Thread nD τ).loc cc1_scratch0), ((c : Thread nD τ).loc cc1_scratch0) ↦{fullShare} f)
abbrev stagePts : sProp 𝕄 := iprop(∃ f : Buf (Elt F) ((c : Thread nD τ).loc cc1_scratch1), ((c : Thread nD τ).loc cc1_scratch1) ↦{fullShare} f)

theorem cBlk_pts (b : Fin 2) (n : Fin 14) (f : Buf (Elt F) ((c : Thread nD τ).loc cc1_scratch0)) :
    (((c : Thread nD τ).loc cc1_scratch0 ↦[cSet (b, n)]{fullShare} f : sProp 𝕄)) ⊢ iprop(∃ X, cPts c b n X) := by
  rw [cSet, ← cBlk_set']
  have h := owns_intro (Ix := Unit) (Val := Elt F) (Name := ℕ) (U := UU) (Lvl := ℕ) (c : Thread nD τ) (cBlk b n) fullShare f
  iintro H
  iexists ((cBlk b n).view.read (Elt F) f)
  iapply h; iexact H
theorem pBlk_pts (b : Fin 2) (n : Fin 8) (f : Buf (Elt F) ((c : Thread nD τ).loc cc1_scratch1)) :
    (((c : Thread nD τ).loc cc1_scratch1 ↦[pSet (b, n)]{fullShare} f : sProp 𝕄)) ⊢ iprop(∃ X, pPts c b n X) := by
  rw [pSet, ← pBlk_set']
  have h := owns_intro (Ix := Unit) (Val := Elt F) (Name := ℕ) (U := UU) (Lvl := ℕ) (c : Thread nD τ) (pBlk b n) fullShare f
  iintro H
  iexists ((pBlk b n).view.read (Elt F) f)
  iapply h; iexact H
theorem pts_cBlk (b : Fin 2) (n : Fin 14) (X) : (cPts c b n X : sProp 𝕄)
    ⊢ iprop(∃ f : Buf (Elt F) ((c : Thread nD τ).loc cc1_scratch0), ((c : Thread nD τ).loc cc1_scratch0) ↦[cSet (b, n)]{fullShare} f) := by
  rw [cSet, ← cBlk_set']
  unfold cPts owns
  iintro ⟨%f, -, H⟩
  iexists f; iexact H
theorem pts_pBlk (b : Fin 2) (n : Fin 8) (X) : (pPts c b n X : sProp 𝕄)
    ⊢ iprop(∃ f : Buf (Elt F) ((c : Thread nD τ).loc cc1_scratch1), ((c : Thread nD τ).loc cc1_scratch1) ↦[pSet (b, n)]{fullShare} f) := by
  rw [pSet, ← pBlk_set']
  unfold pPts owns
  iintro ⟨%f, -, H⟩
  iexists f; iexact H

/-- The landing buffer cut into blocks; -/
theorem comm_cut : (commPts c : sProp 𝕄) ⊢ bigSep Finset.univ fun j : Fin 2 × Fin 14 => iprop(∃ X, cPts c j.1 j.2 X) := by
  iintro ⟨%f, H⟩
  have h : (((c : Thread nD τ).loc cc1_scratch0 ↦{fullShare} f : sProp 𝕄)) ⊢ bigSep Finset.univ fun j : Fin 2 × Fin 14 => iprop(∃ X, cPts c j.1 j.2 X) :=
    (Entails.of_eq (Ring.pointsTo_blocks (Ix := Unit) (Name := ℕ) (U := UU) (Lvl := ℕ) (q := fullShare) (ℓ := (c : Thread nD τ).loc cc1_scratch0) cSet cSet_disj cSet_cover f)).trans
      (BI.bigSep_mono fun j _ => cBlk_pts c j.1 j.2 f)
  iapply h; iexact H
/-- the staging copy too, nothing of it filled in yet; -/
theorem stage_cut (Xs : Dev nD → (cc1_stg0_0 : Ref sig .tc).ty.Contents (Elt F)) (Ws : Dev nD → (cc1_stg1_0 : Ref sig .tc).ty.Contents (Elt F)) :
    (stagePts c : sProp 𝕄) ⊢ pSt Xs Ws c zero := by
  iintro ⟨%f, H⟩
  have h : (((c : Thread nD τ).loc cc1_scratch1 ↦{fullShare} f : sProp 𝕄)) ⊢ pSt Xs Ws c zero :=
    (Entails.of_eq (Ring.pointsTo_blocks (Ix := Unit) (Name := ℕ) (U := UU) (Lvl := ℕ) (q := fullShare) (ℓ := (c : Thread nD τ).loc cc1_scratch1) pSet pSet_disj pSet_cover f)).trans
      (BI.bigSep_mono fun j _ => (pBlk_pts c j.1 j.2 f).trans (by
        have hz : get j.1 zero = ⟨0, 0, 0, 0, 0, 0⟩ := by obtain ⟨b, n⟩ := j; fin_cases b <;> rfl
        unfold pOne; rw [hz, if_neg (fun ⟨n, _, h, _⟩ => Nat.not_lt_zero _ h)]
        show (_ : sProp 𝕄) ⊢ _
        iintro ⟨%X, H⟩
        iexists X
        isplitr; · ipureintro; intro h; exact absurd h (Nat.not_lt_zero _)
        iexact H))
  iapply h; iexact H
/-- and the blocks put together. -/
theorem comm_join : (bigSep Finset.univ fun j : Fin 2 × Fin 14 => iprop(∃ X, cPts c j.1 j.2 X)) ⊢ (commPts c : sProp 𝕄) :=
  (BI.bigSep_mono fun j _ => (show iprop(∃ X, cPts c j.1 j.2 X)
      ⊢ iprop(∃ f : Buf (Elt F) ((c : Thread nD τ).loc cc1_scratch0), ((c : Thread nD τ).loc cc1_scratch0) ↦[cSet j]{fullShare} f) by
    iintro ⟨%X, H⟩
    have h := pts_cBlk c j.1 j.2 X
    iapply h; iexact H)).trans
    (Ring.pointsTo_blocks_join_exists (Ix := Unit) (Name := ℕ) (U := UU) (Lvl := ℕ) (q := fullShare) (ℓ := (c : Thread nD τ).loc cc1_scratch0) cSet cSet_disj cSet_cover (fun _ => Classical.arbitrary _))
theorem stage_join : (bigSep Finset.univ fun j : Fin 2 × Fin 8 => iprop(∃ X, pPts c j.1 j.2 X)) ⊢ (stagePts c : sProp 𝕄) :=
  (BI.bigSep_mono fun j _ => (show iprop(∃ X, pPts c j.1 j.2 X)
      ⊢ iprop(∃ f : Buf (Elt F) ((c : Thread nD τ).loc cc1_scratch1), ((c : Thread nD τ).loc cc1_scratch1) ↦[pSet j]{fullShare} f) by
    iintro ⟨%X, H⟩
    have h := pts_pBlk c j.1 j.2 X
    iapply h; iexact H)).trans
    (Ring.pointsTo_blocks_join_exists (Ix := Unit) (Name := ℕ) (U := UU) (Lvl := ℕ) (q := fullShare) (ℓ := (c : Thread nD τ).loc cc1_scratch1) pSet pSet_disj pSet_cover (fun _ => Classical.arbitrary _))
end scratch

/-! ## The end -/

/-- A family changed conjunct by conjunct with the help of what stays true. -/
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact BI.bigSep_mono h)

/-- A cell whose round is over closes. -/
theorem close (j : Dev nD × CK) : iprop(recs Xs Ws K ∗ atPos ER (kcell j) 1 ∅ 0) ⊢ (|={Set.univ}=> semVal (kcell j) 0 : sProp 𝕄) := by
  have h := Rounds.cell_close ER (Rd (F := F) Xs Ws) (κ := K j) (g := kcell j) (Set.mem_univ _) (fun h => h) (R := 0 + 1) (duties_later Xs Ws (kcell j))
  have hr := recs_at Xs Ws K j
  iintro ⟨#HR, Hat⟩
  ihave Hc := hr $$ HR
  iapply h
  isplitl [Hc]; · iexact Hc
  iexact Hat

theorem get_done (b : Fin 2) : get b done = ⟨8, 14, 14, 14, 14, 10⟩ := by fin_cases b <;> rfl

theorem end_c : iprop(recs Xs Ws K ∗ cSt Xs Ws c done) ⊢ (|={Set.univ}=> (commPts c ∗ bigSep Finset.univ fun j : Fin 2 × Fin 14 => semVal (recvCell c j.1 j.2) 0) : sProp 𝕄) := by
  have h : iprop(recs Xs Ws K ∗ cSt Xs Ws c done)
      ⊢ bigSep Finset.univ fun j : Fin 2 × Fin 14 => iprop(|={Set.univ}=> ((∃ X, cPts c j.1 j.2 X) ∗ semVal (recvCell c j.1 j.2) 0)) := by
    unfold cSt
    refine family_with fun j _ => ?_
    have hc := close (Xs := Xs) (Ws := Ws) (K := K) (c, some (true, j.1, j.2))
    unfold cOne; rw [get_done, if_pos j.2.isLt]
    show (_ : sProp 𝕄) ⊢ _
    iintro ⟨#HR, Hp, Hat⟩
    imod hc $$ [Hat] with Hv
    · isplitr; · iexact HR
      iexact Hat
    imodintro
    isplitl [Hp]; · iexists _; iexact Hp
    iexact Hv
  refine (h.trans (bigSep_fupd _ _)).trans (BI.fupd_mono ?_)
  rw [bigSep_sep']
  exact sep_mono_left (comm_join c)

theorem end_s : iprop(recs Xs Ws K ∗ sSt c done) ⊢ (|={Set.univ}=> (bigSep Finset.univ fun j : Fin 2 × Fin 14 => semVal (sendCell c j.1 j.2) 0) : sProp 𝕄) := by
  have h : iprop(recs Xs Ws K ∗ sSt c done)
      ⊢ bigSep Finset.univ fun j : Fin 2 × Fin 14 => iprop(|={Set.univ}=> semVal (sendCell c j.1 j.2) 0) := by
    unfold sSt
    refine family_with fun j _ => ?_
    unfold sOne; rw [get_done, if_pos j.2.isLt]
    exact close (Xs := Xs) (Ws := Ws) (K := K) (c, some (false, j.1, j.2))
  exact h.trans (bigSep_fupd _ _)

theorem end_p : pSt Xs Ws c done ⊢ (stagePts c : sProp 𝕄) := by
  refine BI.Entails.trans ?_ (stage_join c)
  unfold pSt
  refine BI.bigSep_mono fun j _ => ?_
  unfold pOne; rw [get_done, if_neg (fun ⟨n, h, h', _⟩ => absurd h (Nat.not_le.mpr h'))]
  show (_ : sProp 𝕄) ⊢ _
  iintro ⟨%X, -, H⟩
  iexists X; iexact H

/-! ## The result -/

section result
variable (Xs : Dev nD → (cc1_stg0_0 : Ref sig .tc).ty.Contents (Elt F)) (Ws : Dev nD → (cc1_stg1_0 : Ref sig .tc).ty.Contents (Elt F)) (c : Dev nD)

/-- The half and the chunk an entry of the result lies in, and its place there. -/
def half (i : S8x256x1024.Idx) : Fin 2 := ⟨(i 2).val / 512, by have := (i 2).isLt; simp [S8x256x1024] at this; omega⟩
def chunk (i : S8x256x1024.Idx) : Fin 8 := ⟨(i 0).val, (i 0).isLt⟩
def place (i : S8x256x1024.Idx) : S256x512.Idx := fun
  | 0 => ⟨(i 1).val, (i 1).isLt⟩
  | 1 => ⟨(i 2).val % 512, Nat.mod_lt _ (by decide)⟩

/-- What device `c` ends with. -/
def res : (cc1_stg2_0 : Ref sig .tc).ty.Contents (Elt F) :=
  fun i => ov Xs Ws c (half i) (chunk i) (lvl c (half i) 14 (chunk i)) (place i)

theorem res_of_blocks (f : (cc1_stg2_0 : Ref sig .tc).ty.Contents (Elt F))
    (h : ∀ b (k : Fin 8), (oBlk b k).read (Elt F) f = up3 (ov Xs Ws c b k (lvl c b 14 k))) : f = res Xs Ws c := by
  funext i
  have h1 : (i 1).val < 256 := (i 1).isLt
  let j : S1x256x512.Idx := fun | 0 => ⟨0, by decide⟩ | 1 => ⟨(i 1).val, h1⟩ | 2 => ⟨(i 2).val % 512, Nat.mod_lt _ (by decide)⟩
  have hj : (oBlk (half i) (chunk i)).emb j = i := by
    funext a
    refine Fin.ext ?_
    fin_cases a
    · show (i 0).val + 1 * 0 = (i 0).val
      omega
    · show 0 + 1 * (i 1).val = (i 1).val
      omega
    · show 512 * ((i 2).val / 512) + 1 * ((i 2).val % 512) = (i 2).val
      omega
  have hp : Shape.reshapeEquiv shapeCasts_S256x512_S1x256x512 j = place i := Shape.reshapeEquiv_eq_of_rowMajor _ (by
    rw [Shape.rowMajor_val_two, Shape.rowMajor_val_three]
    show (i 1).val * 512 + (i 2).val % 512 = (0 * 256 + (i 1).val) * 512 + (i 2).val % 512
    omega)
  have hh := congrFun (h (half i) (chunk i)) j
  rw [View.read_apply, hj, cast_eq] at hh
  refine hh.trans ?_
  show ov Xs Ws c (half i) (chunk i) _ (Shape.reshapeEquiv shapeCasts_S256x512_S1x256x512 j) = _
  rw [hp]; rfl
end result

/-- What the exchange's last state is worth. -/
theorem finish : St Xs Ws K c 8 done ⊢ (|={Set.univ}=>
    ((∃ W, owes (c : Thread nD τ) 0 W) ∗ ((c : Thread nD τ).loc cc1_stg2_0 ↦{fullShare} res Xs Ws c)
      ∗ ((c : Thread nD τ).loc cc1_stg0_0 ↦{fullShare} Xs c) ∗ ((c : Thread nD τ).loc cc1_stg1_0 ↦{fullShare} Ws c)
      ∗ commPts c ∗ stagePts c
      ∗ (bigSep Finset.univ fun j : Fin 2 × Fin 14 => semVal (sendCell c j.1 j.2) 0)
      ∗ (bigSep Finset.univ fun j : Fin 2 × Fin 14 => semVal (recvCell c j.1 j.2) 0)
      ∗ semVal (barCell c) 0) : sProp 𝕄) := by
  unfold St dSt oSt iSt
  rw [Owe_done c done (fun b => by rw [get_done])]
  have hb := close (Xs := Xs) (Ws := Ws) (K := K) (c, none)
  iintro ⟨#HR, HO, ⟨%f, %hf, Ho⟩, Hp, Hc, Hs, Hx, Hw, Hat⟩
  have hf' : f = res Xs Ws c := res_of_blocks Xs Ws c f fun b k => by
    have := hf b k k.isLt
    rwa [get_done] at this
  subst hf'
  imod hb $$ [Hat] with Hb
  · isplitr; · iexact HR
    iexact Hat
  imod end_c $$ [Hc] with ⟨Hc, Hvr⟩
  · isplitr; · iexact HR
    iexact Hc
  imod end_s $$ [Hs] with Hvs
  · isplitr; · iexact HR
    iexact Hs
  imodintro
  isplitl [HO]; · iexact HO
  isplitl [Ho]; · iexact Ho
  isplitl [Hx]; · iexact Hx
  isplitl [Hw]; · iexact Hw
  isplitl [Hc]; · iexact Hc
  isplitl [Hp]; · iapply end_p; iexact Hp
  isplitl [Hvs]; · iexact Hvs
  isplitl [Hvr]; · iexact Hvr
  iexact Hb

end Cert.Exchange
-- ==== Proof.AttentionRegion.lean ====
/-
# The attention call

One run of the attention body on its staging buffers, and the proof data of the whole call over its eight grid points: the
device may owe anything meanwhile, since the body neither signals nor waits.
-/
module

public import proofs.«01_k».proof.Proof.Proto
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Attend

open Cert.KernelIdeal Cert.KernelIdeal.Gen Cert.Exchange
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- An input window's staging buffer holds its block at every point, for any proof data whose arrays are those the call
    finds and whose body leaves the block in place. -/
theorem before0_0_of {c : Dev nD} (dat : Dat τ (Elt F) Unit ℕ UU ℕ cfg0 c) (hA : dat.A 0 = V1 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ UU ℕ cfg0 c) (hA : dat.A 1 = V1 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ UU ℕ cfg0 c) (hA : dat.A 2 = V1 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ UU ℕ cfg0 c) (hA : dat.A 3 = V1 m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ UU ℕ cfg0 c) (hA : dat.A 4 = V1 m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ UU ℕ cfg0 c) (hA : dat.A 5 = V1 m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ UU ℕ cfg0 c) (hA : dat.A 6 = V1 m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S2048x1024 := Rect.unit (s := S2048x1024) ![0, 0] S2048x1024.size inb_S2048x1024_S2048x1024_0_0
abbrev r0_1 : Rect S128x128 := Rect.unit (s := S128x128) ![0, 0] S128x128.size inb_S128x128_S128x128_0_0
abbrev r0_2 : Rect S2048x128 := Rect.unit (s := S2048x128) ![0, 0] S2048x128.size inb_S2048x128_S2048x128_0_0
abbrev r0_3 : Rect S1024x128 := Rect.unit (s := S1024x128) ![0, 0] S1024x128.size inb_S1024x128_S1024x128_0_0
abbrev r0_4 : Rect S2048x128 := Rect.unit (s := S2048x128) ![0, 0] S512x128.size inb_S2048x128_S512x128_0_0
abbrev r0_5 : Rect S2048x128 := Rect.unit (s := S2048x128) ![512, 0] S512x128.size inb_S2048x128_S512x128_512_0
abbrev r0_6 : Rect S2048x128 := Rect.unit (s := S2048x128) ![1024, 0] S512x128.size inb_S2048x128_S512x128_1024_0
abbrev r0_7 : Rect S2048x128 := Rect.unit (s := S2048x128) ![1536, 0] S512x128.size inb_S2048x128_S512x128_1536_0

/-! ## What the body leaves in each output window's buffer -/

/-! ### The three projections -/

def pay13 (x0 : Vec F S2048x1024 .bf16) (x1 : Vec F S1024x128 .f32) (x2 : Vec F S1024x128 .f32) (x3 : Vec F S1024x128 .f32) (x4 : Vec F S2048x128 .f32) (x5 : Vec F S2048x128 .f32) (x6 : Vec F S128x128 .f32) : FVec F S2048x128 .bf16 :=
  k0_pay6 (View.ld x0 r0_0) (View.ld x6 r0_1) (View.ld x4 r0_2) (View.ld x5 r0_2) (View.ld x1 r0_3)
def pay14 (x0 : Vec F S2048x1024 .bf16) (x1 : Vec F S1024x128 .f32) (x2 : Vec F S1024x128 .f32) (x3 : Vec F S1024x128 .f32) (x4 : Vec F S2048x128 .f32) (x5 : Vec F S2048x128 .f32) (x6 : Vec F S128x128 .f32) : FVec F S2048x128 .bf16 :=
  k0_pay7 (View.ld x0 r0_0) (View.ld x6 r0_1) (View.ld x4 r0_2) (View.ld x5 r0_2) (View.ld x2 r0_3)
def pay15 (x0 : Vec F S2048x1024 .bf16) (x1 : Vec F S1024x128 .f32) (x2 : Vec F S1024x128 .f32) (x3 : Vec F S1024x128 .f32) (x4 : Vec F S2048x128 .f32) (x5 : Vec F S2048x128 .f32) (x6 : Vec F S128x128 .f32) : FVec F S2048x128 .bf16 :=
  k0_pay8 (View.ld x0 r0_0) (View.ld x3 r0_3)

/-- What the body leaves in the result's staging buffer: its four stores, the last first. -/
def out0_7 (x0 : Vec F S2048x1024 .bf16) (x1 : Vec F S1024x128 .f32) (x2 : Vec F S1024x128 .f32) (x3 : Vec F S1024x128 .f32) (x4 : Vec F S2048x128 .f32) (x5 : Vec F S2048x128 .f32) (x6 : Vec F S128x128 .f32) : Vec F S2048x128 .f32 :=
  View.canon [⟨r0_7, k0_pay1 (pay15 x0 x1 x2 x3 x4 x5 x6) (k0_pay13 (pay13 x0 x1 x2 x3 x4 x5 x6) (pay14 x0 x1 x2 x3 x4 x5 x6)) (k0_pay14 (pay13 x0 x1 x2 x3 x4 x5 x6) (pay14 x0 x1 x2 x3 x4 x5 x6))⟩,
    ⟨r0_6, k0_pay12 (pay13 x0 x1 x2 x3 x4 x5 x6) (pay14 x0 x1 x2 x3 x4 x5 x6) (pay15 x0 x1 x2 x3 x4 x5 x6)⟩,
    ⟨r0_5, k0_pay11 (pay13 x0 x1 x2 x3 x4 x5 x6) (pay14 x0 x1 x2 x3 x4 x5 x6) (pay15 x0 x1 x2 x3 x4 x5 x6)⟩,
    ⟨r0_4, k0_pay10 (pay15 x0 x1 x2 x3 x4 x5 x6) (k0_pay9 (View.ld x0 r0_0) (View.ld x6 r0_1) (View.ld x4 r0_2) (View.ld x5 r0_2) (View.ld x1 r0_3) (View.ld x2 r0_3))⟩]

/-- Its stores tile the buffer (checked by evaluation), so they cover it. -/
theorem cover0_7 (p0 : Vec F S512x128 .f32) (p1 : Vec F S512x128 .f32) (p2 : Vec F S512x128 .f32) (p3 : Vec F S512x128 .f32) (y : S2048x128.Idx) :
    ∃ pc ∈ ([⟨r0_7, p0⟩, ⟨r0_6, p1⟩, ⟨r0_5, p2⟩, ⟨r0_4, p3⟩] : List (View.Piece (Elt F) S2048x128 .f32)), y ∈ pc.1.set :=
  View.cover_of_tiled [⟨r0_7, p0⟩, ⟨r0_6, p1⟩, ⟨r0_5, p2⟩, ⟨r0_4, p3⟩] S512x128.size (by rfl) y

/-! ## The body's triple -/

set_option maxHeartbeats 1000000 in
/-- The body on whole staging buffers leaves the operands as they were and the result at `out0_7` of them. -/
theorem sound_kernel (c : Dev nD) (E : Set ℕ) (i : grid0.Coords) (arg1 : Memref sig .tc .vmem S2048x1024 .bf16) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S2048x128 .f32) (harg8 : arg8.IsWhole)
    (x0 : Vec F S2048x1024 .bf16) (x1 : Vec F S1024x128 .f32) (x2 : Vec F S1024x128 .f32) (x3 : Vec F S1024x128 .f32) (x4 : Vec F S2048x128 .f32) (x5 : Vec F S2048x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__qkv_attn_body i arg1 harg1 arg2 harg2 arg3 harg3 arg4 harg4 arg5 harg5 arg6 harg6 arg7 harg7 arg8 harg8) K := by
  simp only [cc0__qkv_attn_body_eq_skeleton]; unfold cc0__qkv_attn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover0_7 _ _ _ _)).trans ?_
  rfl

/-! ## The pipeline's proof data -/

variable (D : Dev nD → CellTallies nD τ sig Unit)

/-- The proof data of the attention call: its arrays as found, each operand's buffer at its block and the result's at
    `out0_7` of the blocks after each point, the other scoped buffers and the generator register untouched, and `D c` owed
    throughout. -/
def adat (c : Dev nD) : Dat τ (Elt F) Unit ℕ UU ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := D c

/-- The arrays are the contents the call finds. -/
theorem A_eq (c : Dev nD) (w : Fin cfg0.W) : (adat m D c).A w = V1 m c (Pipeline.arrRef spec0 w) := by
  dsimp only [adat]

/-- What the body leaves, window by window. -/
theorem after0_0 (c : Dev nD) (t : Fin cfg0.N) : (adat m D c).after 0 t = iblk m c 0 t := by dsimp only [adat]
theorem after0_1 (c : Dev nD) (t : Fin cfg0.N) : (adat m D c).after 1 t = iblk m c 1 t := by dsimp only [adat]
theorem after0_2 (c : Dev nD) (t : Fin cfg0.N) : (adat m D c).after 2 t = iblk m c 2 t := by dsimp only [adat]
theorem after0_3 (c : Dev nD) (t : Fin cfg0.N) : (adat m D c).after 3 t = iblk m c 3 t := by dsimp only [adat]
theorem after0_4 (c : Dev nD) (t : Fin cfg0.N) : (adat m D c).after 4 t = iblk m c 4 t := by dsimp only [adat]
theorem after0_5 (c : Dev nD) (t : Fin cfg0.N) : (adat m D c).after 5 t = iblk m c 5 t := by dsimp only [adat]
theorem after0_6 (c : Dev nD) (t : Fin cfg0.N) : (adat m D c).after 6 t = iblk m c 6 t := by dsimp only [adat]
theorem after0_7 (c : Dev nD) (t : Fin cfg0.N) : (adat m D c).after 7 t = out0_7 (iblk m c 0 t) (iblk m c 1 t) (iblk m c 2 t) (iblk m c 3 t) (iblk m c 4 t) (iblk m c 5 t) (iblk m c 6 t) := by dsimp only [adat]

/-- Each operand's staging buffer holds its block at every point. -/
theorem before0_0 (c : Dev nD) (t : Fin cfg0.N) (d) : (adat m D c).before 0 t d = iblk m c 0 t :=
  before0_0_of m (adat m D c) (A_eq m D c 0) (after0_0 m D c) t d
theorem before0_1 (c : Dev nD) (t : Fin cfg0.N) (d) : (adat m D c).before 1 t d = iblk m c 1 t :=
  before0_1_of m (adat m D c) (A_eq m D c 1) (after0_1 m D c) t d
theorem before0_2 (c : Dev nD) (t : Fin cfg0.N) (d) : (adat m D c).before 2 t d = iblk m c 2 t :=
  before0_2_of m (adat m D c) (A_eq m D c 2) (after0_2 m D c) t d
theorem before0_3 (c : Dev nD) (t : Fin cfg0.N) (d) : (adat m D c).before 3 t d = iblk m c 3 t :=
  before0_3_of m (adat m D c) (A_eq m D c 3) (after0_3 m D c) t d
theorem before0_4 (c : Dev nD) (t : Fin cfg0.N) (d) : (adat m D c).before 4 t d = iblk m c 4 t :=
  before0_4_of m (adat m D c) (A_eq m D c 4) (after0_4 m D c) t d
theorem before0_5 (c : Dev nD) (t : Fin cfg0.N) (d) : (adat m D c).before 5 t d = iblk m c 5 t :=
  before0_5_of m (adat m D c) (A_eq m D c 5) (after0_5 m D c) t d
theorem before0_6 (c : Dev nD) (t : Fin cfg0.N) (d) : (adat m D c).before 6 t d = iblk m c 6 t :=
  before0_6_of m (adat m D c) (A_eq m D c 6) (after0_6 m D c) t d

/-! ## The body obligation, at a generic point -/

/-- What the body is called with at point `t`, the windows one by one, -/
def bodyPre (c : Dev nD) (t : Fin cfg0.N) : sProp 𝕄 :=
  iprop((adat m D c).Φ t.castSucc ∗ (adat m D c).owesAt () t.castSucc
    ∗ (∃ d, owns (c : Thread nD τ) (st0_0 t) fullShare ((adat m D c).before 0 t d))
    ∗ (∃ d, owns (c : Thread nD τ) (st0_1 t) fullShare ((adat m D c).before 1 t d))
    ∗ (∃ d, owns (c : Thread nD τ) (st0_2 t) fullShare ((adat m D c).before 2 t d))
    ∗ (∃ d, owns (c : Thread nD τ) (st0_3 t) fullShare ((adat m D c).before 3 t d))
    ∗ (∃ d, owns (c : Thread nD τ) (st0_4 t) fullShare ((adat m D c).before 4 t d))
    ∗ (∃ d, owns (c : Thread nD τ) (st0_5 t) fullShare ((adat m D c).before 5 t d))
    ∗ (∃ d, owns (c : Thread nD τ) (st0_6 t) fullShare ((adat m D c).before 6 t d))
    ∗ (∃ d, owns (c : Thread nD τ) (st0_7 t) fullShare ((adat m D c).before 7 t d)))

/-- and what it returns. -/
def bodyPost (c : Dev nD) (t : Fin cfg0.N) : sProp 𝕄 :=
  iprop((adat m D c).Φ t.succ ∗ (adat m D c).owesAt () t.succ
    ∗ owns (c : Thread nD τ) (st0_0 t) fullShare ((adat m D c).after 0 t)
    ∗ owns (c : Thread nD τ) (st0_1 t) fullShare ((adat m D c).after 1 t)
    ∗ owns (c : Thread nD τ) (st0_2 t) fullShare ((adat m D c).after 2 t)
    ∗ owns (c : Thread nD τ) (st0_3 t) fullShare ((adat m D c).after 3 t)
    ∗ owns (c : Thread nD τ) (st0_4 t) fullShare ((adat m D c).after 4 t)
    ∗ owns (c : Thread nD τ) (st0_5 t) fullShare ((adat m D c).after 5 t)
    ∗ owns (c : Thread nD τ) (st0_6 t) fullShare ((adat m D c).after 6 t)
    ∗ owns (c : Thread nD τ) (st0_7 t) fullShare ((adat m D c).after 7 t))

/-- The body at any point; the invariant and what the device owes pass through unread. -/
theorem sound_body (c : Dev nD) (t : Fin cfg0.N) :
    bodyPre m D c t ⊢ wp frame (wpE (defs₀ (F := F)) Variants.none c none) Set.univ (bodyAt0 t) (fun _ => bodyPost m D c t) := by
  unfold bodyPre bodyPost bodyAt0
  simp only [before0_0, before0_1, before0_2, before0_3, before0_4, before0_5, before0_6]
  rw [show (adat m D c).Φ t.succ = (adat m D c).Φ t.castSucc from rfl,
    show (adat m D c).owesAt () t.succ = (adat m D c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The body's triple as the pipeline asks for it. -/
theorem body_obligation (c : Dev nD) : BodyObligation (adat (F := F) m D c) (defs₀ (F := F)) Variants.none () Set.univ := fun t => by
  rw [bigSep_W0, bigSep_W0, defs₀_row]
  exact triple_restated (sound_body m D c t) rfl .rfl fun _ => .rfl

end Cert.Attend
-- ==== Proof.Launch.lean ====
/-
# What the launch deals, and the exchange as a call

The ghost state the launch deals, what each device enters the exchange with, and the exchange's body between the two.
-/
module

public import proofs.«01_k».proof.Proof.Finish
public import proofs.«01_k».proof.Proof.AttentionRegion
public import Idealize.ShloMosaic.Lib.Quiescent
public import Idealize.ShloMosaic.Lib.Pipeline.CollectiveSegs
public import Idealize.ShloMosaic.Lib.Pipeline.RegionArrays
public import Idealize.ShloMosaic.Lib.Pipeline.RegionTalk

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- A device's arrays once the attention call is done, -/
def U2 (c : Dev nD) : Valuation τ sig (Elt F) := Function.update (V1 m c) main_v3 ((Attend.adat m Owe₀ c).arrAt 7 cfg0.N)

/-- and what the exchange stages of them. -/
def xstg (c : Dev nD) : (cc1_stg0_0 : Ref sig .tc).ty.Contents (Elt F) := (win1_0.blk (0 : Fin 1)).view.read (Elt F) (U2 m c main_v3)
def wstg (c : Dev nD) : (cc1_stg1_0 : Ref sig .tc).ty.Contents (Elt F) := (win1_1.blk (0 : Fin 1)).view.read (Elt F) (U2 m c main_arg4)

/-! ## The cells and their tokens -/

theorem csem_inj : Function.Injective csem := by
  have h : ∀ k : CK, (match csem k with | .reg _ => none | .dma q => sel q) = k := by
    rintro (_ | ⟨_ | _, b, n⟩)
    · rfl
    · exact sel_send b n
    · exact sel_recv b n
  intro k k' e
  rw [← h k, ← h k', e]
theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]
def barEmb : Dev nD ↪ GSem nD τ sig := ⟨fun c => barCell c, fun _ _ h => congrArg (fun g : GSem nD τ sig => g.1.1) h⟩
def copyEmb : Dev nD × (Bool × Fin 2 × Fin 14) ↪ GSem nD τ sig :=
  ⟨fun j => kcell (j.1, some j.2), fun j j' h => by
    have e := Prod.mk.inj (kcell_inj h)
    exact Prod.ext e.1 (Option.some.inj e.2)⟩
/-- The barriers are live from the launch on, the copies' cells open with the exchange. -/
abbrev barCells : Finset (GSem nD τ sig) := Finset.univ.map barEmb
abbrev copyCells : Finset (GSem nD τ sig) := Finset.univ.map copyEmb

theorem cells_disjoint : Disjoint (barCells : Finset (GSem nD τ sig)) copyCells := by
  rw [Finset.disjoint_left]
  rintro g h₁ h₂
  obtain ⟨c, -, rfl⟩ := Finset.mem_map.mp h₁
  obtain ⟨j, -, h⟩ := Finset.mem_map.mp h₂
  have h' : kcell (j.1, some j.2) = kcell (c, none) := h
  exact absurd (Prod.mk.inj (kcell_inj h')).2 (by simp)

theorem cells_eq : (barCells ∪ copyCells : Finset (GSem nD τ sig)) = Finset.univ.map ⟨kcell, kcell_inj⟩ := by
  ext g
  rw [Finset.mem_union, Finset.mem_map, Finset.mem_map, Finset.mem_map]
  constructor
  · rintro (⟨c, -, h⟩ | ⟨j, -, h⟩)
    · exact ⟨(c, none), Finset.mem_univ _, h⟩
    · exact ⟨(j.1, some j.2), Finset.mem_univ _, h⟩
  · rintro ⟨⟨c, _ | k⟩, -, h⟩
    · exact Or.inl ⟨c, Finset.mem_univ _, h⟩
    · exact Or.inr ⟨(c, k), Finset.mem_univ _, h⟩

/-- The tokens of a device's own cells: three of the barrier's, one of each copy cell's. -/
abbrev TK : Type := Fin 3 ⊕ (Bool × Fin 2 × Fin 14)
def tokOf (j : Dev nD × TK) : GSem nD τ sig × ℕ × Fin 3 := match j.2 with
  | .inl d => (kcell (j.1, none), 0, d)
  | .inr k => (kcell (j.1, some k), 0, 0)
theorem tokOf_inj : Function.Injective tokOf := by
  rintro ⟨c, d | k⟩ ⟨c', d' | k'⟩ h
  · have h1 := kcell_inj (congrArg Prod.fst h)
    have h2 : d = d' := congrArg (fun x : GSem nD τ sig × ℕ × Fin 3 => x.2.2) h
    have h3 : c = c' := (Prod.mk.inj h1).1
    rw [h3, h2]
  · exact absurd (Prod.mk.inj (kcell_inj (congrArg Prod.fst h))).2 (by simp)
  · exact absurd (Prod.mk.inj (kcell_inj (congrArg Prod.fst h))).2 (by simp)
  · have h1 := Prod.mk.inj (kcell_inj (congrArg Prod.fst h))
    have h3 : c = c' := h1.1
    rw [h3, Option.some.inj h1.2]
def tokens : Finset (GSem nD τ sig × ℕ × Fin 3) := Finset.univ.map ⟨tokOf, tokOf_inj⟩

def u₀ : UU := (initOf (Pipeline.cells cfgs cellOf_inj) (Pipeline.launchToks cfgs cellOf_inj), launchOf barCells copyCells tokens)

/-- Everything on one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have he : ∀ c ∈ Finset.univ.erase c₀, onDev c₀ X c = (BI.emp : sProp 𝕄) := fun c hc => if_neg (Finset.ne_of_mem_erase hc)
  have h0 : onDev c₀ X c₀ = X := if_pos rfl
  rw [bigSep_univ_at _ c₀, bigSep_congr he, BI.bigSep_emp_const, h0]
  exact BI.equiv_iff.mp sep_emp

def G : Dev nD → sProp 𝕄 := onDev 0 (BI.own (ER (launchOf barCells copyCells tokens)))

theorem bigSep_bool (Φ : Bool × Fin 2 × Fin 14 → sProp 𝕄) : bigSep Finset.univ Φ
    = iprop((bigSep Finset.univ fun j : Fin 2 × Fin 14 => Φ (false, j.1, j.2)) ∗ bigSep Finset.univ fun j : Fin 2 × Fin 14 => Φ (true, j.1, j.2)) := by
  rw [bigSep_univ_prod, bigSep_univ_eq_bigSepL [false, true] (by decide) (by decide), bigSepL_cons_cons, bigSepL_singleton]; rfl

/-! ## What the launch deals -/

section deal
variable (Xs : Dev nD → (cc1_stg0_0 : Ref sig .tc).ty.Contents (Elt F)) (Ws : Dev nD → (cc1_stg1_0 : Ref sig .tc).ty.Contents (Elt F))

/-- The tokens of device `c`'s own cells, -/
def toks (c : Dev nD) : sProp 𝕄 :=
  iprop((bigSep Finset.univ fun d : Fin 3 => dutyTok ER (barCell c) 0 d)
    ∗ (bigSep Finset.univ fun j : Fin 2 × Fin 14 => dutyTok ER (sendCell c j.1 j.2) 0 0)
    ∗ (bigSep Finset.univ fun j : Fin 2 × Fin 14 => dutyTok ER (recvCell c j.1 j.2) 0 0))
/-- and those it pays with. -/
def pays (c : Dev nD) : sProp 𝕄 :=
  iprop((bigSep Finset.univ fun d : Fin 3 => dutyTok ER (barCell (across d.val c)) 0 d)
    ∗ (bigSep Finset.univ fun j : Fin 2 × Fin 14 => dutyTok ER (sendCell c j.1 j.2) 0 0)
    ∗ (bigSep Finset.univ fun j : Fin 2 × Fin 14 => dutyTok ER (recvCell (peer j.1 j.2 c) j.1 j.2) 0 0))

def acrossE (d : Fin 3) : Dev nD ≃ Dev nD := ⟨across d.val, across d.val, across_across d, across_across d⟩
def peerE (j : Fin 2 × Fin 14) : Dev nD ≃ Dev nD := ⟨peer j.1 j.2, peer j.1 j.2, peer_peer j.1 j.2, peer_peer j.1 j.2⟩

/-- Tokens dealt along a family of bijections of the devices. -/
theorem deal_around {J : Type} [Fintype J] [DecidableEq J] (e : J → (Dev nD ≃ Dev nD)) (Φ : J → Dev nD → sProp 𝕄) :
    (bigSep Finset.univ fun c => bigSep Finset.univ fun j => Φ j c) = bigSep Finset.univ fun c => bigSep Finset.univ fun j => Φ j (e j c) := by
  rw [← bigSep_univ_prod (fun p : Dev nD × J => Φ p.2 p.1), ← bigSep_univ_prod (fun p : Dev nD × J => Φ p.2 (e p.2 p.1))]
  exact bigSep_univ_equiv ⟨fun p : Dev nD × J => (e p.2 p.1, p.2), fun p => ((e p.2).symm p.1, p.2), fun p => by simp, fun p => by simp⟩ _

theorem toks_around : (bigSep Finset.univ fun c : Dev nD => (toks c : sProp 𝕄)) ⊢ bigSep Finset.univ fun c : Dev nD => pays c := by
  unfold toks pays
  rw [bigSep_sep', bigSep_sep', bigSep_sep', bigSep_sep', deal_around acrossE (fun d c => (dutyTok ER (barCell c) 0 d : sProp 𝕄)),
    deal_around peerE (fun j c => (dutyTok ER (recvCell c j.1 j.2) 0 0 : sProp 𝕄))]
  exact BI.Entails.refl _

theorem toks_eq : bigSep tokens (fun x => (dutyTok ER x.1 x.2.1 x.2.2 : sProp 𝕄)) = bigSep Finset.univ fun c : Dev nD => toks c := by
  unfold tokens; rw [bigSep_map, bigSep_univ_prod]
  exact bigSep_congr fun c _ => by unfold toks; rw [bigSep_univ_sum, bigSep_bool]; rfl

/-- The invariants of all cells, and the barriers' first round. -/
def invs (K : Dev nD × CK → ℕ) : sProp 𝕄 :=
  iprop((bigSep Finset.univ fun j : Dev nD × CK => cellInv ER (Rd Xs Ws) (K j) (kcell j)) ∗ bigSep Finset.univ fun c : Dev nD => reached ER (barCell c) 0)
instance invs_persistent (K : Dev nD × CK → ℕ) : BI.Persistent (invs Xs Ws K) := by unfold invs; infer_instance

/-- What stays with device `c` until the exchange opens, -/
def kept (c : Dev nD) : sProp 𝕄 :=
  iprop(atPos ER (barCell c) 0 ∅ 0 ∗ (bigSep Finset.univ fun k : Bool × Fin 2 × Fin 14 => openTok ER (kcell (c, some k))) ∗ pays c)
/-- and once its own cells are open. -/
def mine (c : Dev nD) : sProp 𝕄 :=
  iprop(atPos ER (barCell c) 0 ∅ 0 ∗ (bigSep Finset.univ fun k : Bool × Fin 2 × Fin 14 => atStart (kcell (c, some k))) ∗ pays c)
def credit (c : Dev nD) : sProp 𝕄 :=
  iprop(cred (tallyAt (barCell c) () 3) ∗ bigSep Finset.univ fun j : Fin 2 × Fin 14 => cred (tallyAt (recvCell c j.1 j.2) () N))

def before (c : Dev nD) : sProp 𝕄 := iprop((∃ K, invs Xs Ws K ∗ kept c) ∗ credit c)
def start (c : Dev nD) : sProp 𝕄 := iprop((∃ K, recs Xs Ws K ∗ mine c) ∗ credit c)

/-! ## The kernel's semaphores -/

/-- The copies' semaphores are the kernel's own, -/
def osem (k : Bool × Fin 2 × Fin 14) : SemLoc sig := csem (some k)
theorem ownSemFacts : Pipeline.OwnSemFacts cfg1.spec osem where
  isScoped := by decide +kernel
  inj := fun k k' h => Option.some.inj (csem_inj h)
  disj := by
    have h : ∀ k w s, osem k ≠ .dma ((spec1 w).sem s) := by decide +kernel
    exact h

abbrev own0 (c : Dev nD) : sProp 𝕄 := Pipeline.ownSems0 (Ix := Unit) (Name := ℕ) (U := UU) (Lvl := ℕ) (Val := Elt F) (τ := τ) osem c
theorem own0_eq (c : Dev nD) : (own0 c : sProp 𝕄) = bigSep Finset.univ fun k : Bool × Fin 2 × Fin 14 => semVal (kcell (c, some k)) 0 := by
  unfold own0 Pipeline.ownSems0; rfl
/-- the barrier semaphore the runtime's. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

/-- A device's copy cells open. -/
theorem open_all (K : Dev nD × CK → ℕ) (c : Dev nD) :
    iprop(invs Xs Ws K ∗ bigSep Finset.univ fun k : Bool × Fin 2 × Fin 14 => iprop(openTok ER (kcell (c, some k)) ∗ semVal (kcell (c, some k)) 0))
      ⊢ (|={Set.univ}=> bigSep Finset.univ fun k : Bool × Fin 2 × Fin 14 => atStart (kcell (c, some k)) : sProp 𝕄) := by
  have h1 : ∀ k ∈ (Finset.univ : Finset (Bool × Fin 2 × Fin 14)), iprop(invs Xs Ws K ∗ iprop(openTok ER (kcell (c, some k)) ∗ semVal (kcell (c, some k)) 0))
      ⊢ (|={Set.univ}=> atStart (kcell (c, some k)) : sProp 𝕄) := fun k _ => by
    have hi : (bigSep Finset.univ fun j : Dev nD × CK => (cellInv ER (Rd Xs Ws) (K j) (kcell j) : sProp 𝕄)) ⊢ cellInv ER (Rd Xs Ws) (K (c, some k)) (kcell (c, some k)) :=
      BI.bigSep_elim (Finset.mem_univ (c, some k))
    have ho := Rounds.cell_open ER (Rd (F := F) Xs Ws) (κ := K (c, some k)) (g := kcell (c, some k)) (Set.mem_univ (K (c, some k)))
    unfold invs atStart
    iintro ⟨⟨#HI, -⟩, Ho, Hv⟩
    iapply ho
    isplitr; · iapply hi; iexact HI
    isplitl [Ho] <;> iassumption
  exact (family_with h1).trans (bigSep_fupd _ _)

theorem enter (c : Dev nD) : iprop(before Xs Ws c ∗ Pipeline.ownSems0 osem c ∗ levAts L lv) ⊢ (|={Set.univ}=> start Xs Ws c : sProp 𝕄) := by
  have ho := fun K => open_all Xs Ws K c
  rw [show (Pipeline.ownSems0 osem c : sProp 𝕄) = own0 c from rfl, own0_eq]
  unfold before start kept mine
  iintro ⟨⟨⟨%K, #HI, Hb, Ht, Hp⟩, Hc⟩, Hv, #HL⟩
  have hoK := ho K
  imod hoK $$ [Ht Hv] with Ha
  · isplitr; · iexact HI
    rw [bigSep_sep']
    isplitl [Ht] <;> iassumption
  imodintro
  isplitr [Hc]
  · iexists K
    isplitr
    · unfold recs invs
      icases HI with ⟨#H1, #H2⟩
      isplitr; · iexact H1
      isplitr; · iexact H2
      iexact HL
    isplitl [Hb]; · iexact Hb
    isplitl [Ha]; · iexact Ha
    iexact Hp
  · iexact Hc

/-! ## The launch credit -/

theorem Owe_zero (c : Dev nD) : Owe c zero = ∑ j : Fin 2 × Fin 14, tallyAt (recvCell (peer j.1 j.2 c) j.1 j.2) () N := by
  unfold Owe
  refine Finset.sum_congr rfl fun j _ => if_pos ?_
  obtain ⟨b, n⟩ := j
  fin_cases b <;> exact Nat.zero_le _

theorem creds (c : Dev nD) : (Pipeline.launchCred Owe₀ c : sProp 𝕄) ⊢ credit c := by
  unfold credit
  have hb (d : Fin 3) := Pipeline.launchCred_tallyAt (Val := Elt F) (Name := ℕ) (U := UU) (Lvl := ℕ) (τ := τ) (nD := nD) (sig := sig) (.reg barS) (across d.val) (across d.val) (across_across d) (across_across d) () 1 c
  have hr (j : Fin 2 × Fin 14) := Pipeline.launchCred_tallyAt (Val := Elt F) (Name := ℕ) (U := UU) (Lvl := ℕ) (τ := τ) (nD := nD) (sig := sig) (.dma (recvQ j.1 j.2)) (peer j.1 j.2) (peer j.1 j.2) (peer_peer j.1 j.2) (peer_peer j.1 j.2) () N c
  have h3 : (tallyAt (barCell c) () 3 : CellTallies nD τ sig Unit) = tallyAt (barCell c) () 1 + tallyAt (barCell c) () 1 + tallyAt (barCell c) () 1 := by
    rw [show 3 = 1 + 1 + 1 from rfl, tallyAt_add, tallyAt_add]
  have hO : (Owe₀ : Dev nD → CellTallies nD τ sig Unit) = fun d => (fun d => (fun d => (fun d => ∑ j ∈ Finset.univ, (fun (j : Fin 2 × Fin 14) d => tallyAt (recvCell (peer j.1 j.2 d) j.1 j.2) () N) j d) d + barOwe d 2) d + barOwe d 1) d + barOwe d 0 := by
    funext d; unfold Owe₀; rw [Owe_zero]
  rw [hO, Pipeline.launchCred_add, Pipeline.launchCred_add, Pipeline.launchCred_add, Pipeline.launchCred_sum, h3]
  have hall : (bigSep Finset.univ fun j : Fin 2 × Fin 14 => Pipeline.launchCred (fun d => tallyAt (recvCell (peer j.1 j.2 d) j.1 j.2) () N) c : sProp 𝕄)
      ⊢ bigSep Finset.univ fun j : Fin 2 × Fin 14 => cred (tallyAt (recvCell c j.1 j.2) () N) := BI.bigSep_mono fun j _ => hr j
  have hadd (x y : CellTallies nD τ sig Unit) : iprop(cred x ∗ cred y) ⊢ (cred (x + y) : sProp 𝕄) := (cred_add x y).2
  have h0 := hb 0; have h1 := hb 1; have h2 := hb 2
  iintro ⟨⟨⟨Hr, H2⟩, H1⟩, H0⟩
  ihave H0 := h0 $$ H0
  ihave H1 := h1 $$ H1
  ihave H2 := h2 $$ H2
  isplitl [H0 H1 H2]
  · iapply hadd
    isplitl [H0 H1]
    · iapply hadd
      isplitl [H0]; · iexact H0
      iexact H1
    · iexact H2
  · iapply hall; iexact Hr

end deal

/-! ## The exchange's data -/

/-- The generator register at some contents. -/
abbrev gen (c : Dev nD) : sProp 𝕄 := iprop(∃ r, prngReg c r)
abbrev rest1 (c : Dev nD) : sProp 𝕄 := Pipeline.scopedRest (Ix := Unit) (Name := ℕ) (U := UU) (Lvl := ℕ) (Val := Elt F) (τ := τ) spec1 c

def Φ₀ (c : Dev nD) : sProp 𝕄 := iprop(start (xstg m) (wstg m) c ∗ rest1 c ∗ gen c)
def Φ₁ (c : Dev nD) : sProp 𝕄 := iprop(rest1 c ∗ gen c
  ∗ (bigSep Finset.univ fun j : Fin 2 × Fin 14 => semVal (sendCell c j.1 j.2) 0)
  ∗ (bigSep Finset.univ fun j : Fin 2 × Fin 14 => semVal (recvCell c j.1 j.2) 0) ∗ semVal (barCell c) 0)

def xdat (c : Dev nD) : Dat τ (Elt F) Unit ℕ UU ℕ cfg1 c where
  A w := U2 m c (Pipeline.arrRef spec1 w)
  after w _ := match w with
    | ⟨0, _⟩ => xstg m c
    | ⟨1, _⟩ => wstg m c
    | ⟨2, _⟩ => res (xstg m) (wstg m) c
  Φ t := match t with
    | ⟨0, _⟩ => Φ₀ m c
    | ⟨_ + 1, _⟩ => Φ₁ c
  q _ := fullShare
  owed t := match t with
    | ⟨0, _⟩ => Owe₀ c
    | ⟨_ + 1, _⟩ => 0

def pdats : (p : Fin 2) → (c : Dev nD) → Dat τ (Elt F) Unit ℕ UU ℕ (cfgs p) c
  | 0 => Attend.adat m Owe₀
  | 1 => xdat m

theorem share_eq (c : Dev nD) (w : Fin cfg1.W) : (xdat m c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (xdat m c).owesAt () t1_0.castSucc
    ∗ (∃ d, stg c cc1_stg0_0 ((xdat m c).before (0 : Fin 3) t1_0 d))
    ∗ (∃ d, stg c cc1_stg1_0 ((xdat m c).before (1 : Fin 3) t1_0 d))
    ∗ (∃ d, stg c cc1_stg2_0 ((xdat m c).before (2 : Fin 3) t1_0 d)))
def bodyPost (c : Dev nD) : sProp 𝕄 :=
  iprop(Φ₁ c ∗ (xdat m c).owesAt () t1_0.succ ∗ stg c cc1_stg0_0 (xstg m c) ∗ stg c cc1_stg1_0 (wstg m c)
    ∗ stg c cc1_stg2_0 (res (xstg m) (wstg m) c))

/-- The positions and tokens dealt to a device are what its state at the start is made of. -/
theorem mine_split (Xs : Dev nD → (cc1_stg0_0 : Ref sig .tc).ty.Contents (Elt F)) (Ws : Dev nD → (cc1_stg1_0 : Ref sig .tc).ty.Contents (Elt F)) (c : Dev nD) :
    iprop(mine c ∗ (bigSep Finset.univ fun j : Fin 2 × Fin 14 => cred (tallyAt (recvCell c j.1 j.2) () N)) ∗ commPts c)
      ⊢ iprop(cSt Xs Ws c zero ∗ sPre c ∗ atPos ER (barCell c) 0 ∅ 0 ∗ (bigSep Finset.univ fun d : Fin 3 => dutyTok ER (barCell (across d.val c)) 0 d)
          ∗ (bigSep Finset.univ fun j : Fin 2 × Fin 14 => land c j.1 j.2) : sProp 𝕄) := by
  have hc : iprop((bigSep Finset.univ fun j : Fin 2 × Fin 14 => cred (tallyAt (recvCell c j.1 j.2) () N))
      ∗ bigSep Finset.univ fun j : Fin 2 × Fin 14 => atPos ER (kcell (c, some (true, j.1, j.2))) 0 ∅ 0) ⊢ cSt Xs Ws c zero := by
    rw [← bigSep_sep']; unfold cSt
    refine BI.bigSep_mono fun j _ => ?_
    have hz : (get j.1 zero).nR = 0 := by obtain ⟨b, n⟩ := j; fin_cases b <;> rfl
    unfold cOne; rw [hz, if_neg (Nat.not_lt_zero _)]
    exact BI.Entails.refl _
  have hs : iprop((bigSep Finset.univ fun j : Fin 2 × Fin 14 => dutyTok ER (sendCell c j.1 j.2) 0 0)
      ∗ (bigSep Finset.univ fun j : Fin 2 × Fin 14 => dutyTok ER (recvCell (peer j.1 j.2 c) j.1 j.2) 0 0)
      ∗ bigSep Finset.univ fun j : Fin 2 × Fin 14 => atStart (kcell (c, some (false, j.1, j.2)))) ⊢ (sPre c : sProp 𝕄) := by
    rw [← bigSep_sep', ← bigSep_sep']; unfold sPre
    exact BI.Entails.refl _
  have hr : (bigSep Finset.univ fun j : Fin 2 × Fin 14 => (atStart (kcell (c, some (true, j.1, j.2))) : sProp 𝕄))
      ⊢ iprop((bigSep Finset.univ fun j : Fin 2 × Fin 14 => atPos ER (kcell (c, some (true, j.1, j.2))) 0 ∅ 0)
        ∗ bigSep Finset.univ fun j : Fin 2 × Fin 14 => reached ER (kcell (c, some (true, j.1, j.2))) 0) := by
    rw [← bigSep_sep']; unfold atStart
    exact BI.Entails.refl _
  have hl : iprop(commPts c ∗ bigSep Finset.univ fun j : Fin 2 × Fin 14 => reached ER (kcell (c, some (true, j.1, j.2))) 0)
      ⊢ (bigSep Finset.univ fun j : Fin 2 × Fin 14 => land c j.1 j.2 : sProp 𝕄) := by
    refine (sep_mono_left (comm_cut (F := F) c)).trans ?_
    rw [← bigSep_sep']; unfold land
    exact BI.Entails.refl _
  unfold mine pays
  rw [bigSep_bool]
  iintro ⟨⟨Hb, ⟨Hs, Hr⟩, Htb, Hts, Htr⟩, Hcr, Hcm⟩
  ihave Hr := hr $$ Hr
  icases Hr with ⟨Hr, Hrr⟩
  isplitl [Hcr Hr]
  · iapply hc
    isplitl [Hcr]; · iexact Hcr
    iexact Hr
  isplitl [Hts Htr Hs]
  · iapply hs
    isplitl [Hts]; · iexact Hts
    isplitl [Htr]; · iexact Htr
    iexact Hs
  isplitl [Hb]; · iexact Hb
  isplitl [Htb]; · iexact Htb
  iapply hl
  isplitl [Hcm]; · iexact Hcm
  iexact Hrr

/-- The exchange's scratch buffers, taken out of the scoped ones and put back. -/
theorem scratch (c : Dev nD) : (rest1 c : sProp 𝕄) ⊢ iprop(commPts c ∗ stagePts c ∗ (iprop(commPts c ∗ stagePts c) -∗ rest1 c)) := by
  unfold rest1
  rw [scopedRest1_eq]
  iintro ⟨H1, H2, H3, H4, H5, H6, H7, H8, H9, H10, H11, H12, Hc, Hp⟩
  isplitl [Hc]; · iexact Hc
  isplitl [Hp]; · iexact Hp
  iintro ⟨Hc, Hp⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hc]; · iexact Hc
  iexact Hp

theorem sound (c : Dev nD) : bodyPre m c ⊢ wpb c (cc1__proj_ar_body (F := F) xM (Memref.isWhole_whole _) wM (Memref.isWhole_whole _) oM (Memref.isWhole_whole _) cM (Memref.isWhole_whole _) pM (Memref.isWhole_whole _) cc1_scratch2 cc1_scratch3) (fun _ => bodyPost m c) := by
  have hs : ∀ K, iprop(iprop(gen c ∗ (iprop(commPts c ∗ stagePts c) -∗ rest1 c)) ∗ Start (xstg m) (wstg m) K c) ⊢ wpb c (cc1__proj_ar_body (F := F) xM (Memref.isWhole_whole _) wM (Memref.isWhole_whole _) oM (Memref.isWhole_whole _) cM (Memref.isWhole_whole _) pM (Memref.isWhole_whole _) cc1_scratch2 cc1_scratch3) (fun _ => bodyPost m c) := by
    intro K
    have hf : iprop(iprop(gen c ∗ (iprop(commPts c ∗ stagePts c) -∗ rest1 c)) ∗ St (xstg m) (wstg m) K c 8 done) ⊢ (|={Set.univ}=> bodyPost m c : sProp 𝕄) := by
      have hfin := finish (Xs := xstg m) (Ws := wstg m) (K := K) (c := c)
      unfold bodyPost Φ₁ Dat.owesAt Pipeline.owesWithin
      rw [show (xdat m c).owed t1_0.succ = 0 from rfl]
      iintro ⟨⟨Hg, Hre⟩, HS⟩
      imod hfin $$ HS with ⟨⟨%W, HO⟩, Ho, Hx, Hw, Hc, Hp, Hvs, Hvr, Hvb⟩
      imodintro
      isplitl [Hg Hre Hc Hp Hvs Hvr Hvb]
      · isplitl [Hre Hc Hp]
        · iapply Hre
          isplitl [Hc]; · iexact Hc
          iexact Hp
        isplitl [Hg]; · iexact Hg
        isplitl [Hvs]; · iexact Hvs
        isplitl [Hvr]; · iexact Hvr
        iexact Hvb
      isplitl [HO]
      · iexists W
        isplitr; · ipureintro; exact fun _ _ => Or.inl trivial
        iexact HO
      isplitl [Hx]
      · iexists _; isplitr; · (ipureintro; rfl)
        iexact Hx
      isplitl [Hw]
      · iexists _; isplitr; · (ipureintro; rfl)
        iexact Hw
      iexists _; isplitr; · (ipureintro; rfl)
      iexact Ho
    refine BI.Entails.trans ((sep_mono_right (body (Xs := xstg m) (Ws := wstg m) (K := K) (c := c))).trans ((wp_frame_l _ _ _).trans (wp_mono _ _ _ fun _ => hf))) ?_
    exact wp_fupd _ _ _ _ _
  have hm := mine_split (xstg m) (wstg m) c
  have hsc := stage_cut c (xstg m) (wstg m)
  have hscr := scratch (F := F) c
  unfold bodyPre Φ₀ start credit Dat.owesAt Pipeline.owesWithin
  rw [show (xdat m c).owed t1_0.castSucc = Owe₀ c from rfl]
  iintro ⟨⟨⟨⟨%K, #HR, Hm⟩, Hcb, Hcr⟩, Hre, Hg⟩, ⟨%W, %hW, HO⟩, ⟨%d0, %g0, %hg0, Hx⟩, ⟨%d1, %g1, %hg1, Hw⟩, ⟨%d2, %g2, %hg2, Ho⟩⟩
  have hx : g0 = xstg m c := by rw [hg0]; unfold Dat.before; rw [if_pos (fetch1_0 t1_0)]; rfl
  have hw : g1 = wstg m c := by rw [hg1]; unfold Dat.before; rw [if_pos (fetch1_1 t1_0)]; rfl
  subst hx
  subst hw
  have hK := hs K
  ihave Hre := hscr $$ Hre
  icases Hre with ⟨Hc, Hp, Hre⟩
  ihave Hm := hm $$ [Hm Hcr Hc]
  · isplitl [Hm]; · iexact Hm
    isplitl [Hcr]; · iexact Hcr
    iexact Hc
  icases Hm with ⟨HcS, HsP, Hab, Htb, Hln⟩
  iapply hK
  isplitl [Hg Hre]
  · isplitl [Hg]; · iexact Hg
    iexact Hre
  unfold Start
  isplitr; · iexact HR
  isplitl [HO]; · iexists W; iexact HO
  isplitl [Ho]; · iexists g2; iexact Ho
  isplitl [Hp]; · iapply hsc; iexact Hp
  isplitl [HcS]; · iexact HcS
  isplitl [HsP]; · iexact HsP
  isplitl [Hx]; · iexact Hx
  isplitl [Hw]; · iexact Hw
  isplitl [Hab]; · iexact Hab
  isplitl [Hcb]; · iexact Hcb
  isplitl [Htb]; · iexact Htb
  iexact Hln

set_option maxRecDepth 4000 in
theorem body_obligation (c : Dev nD) : BodyObligation (xdat (F := F) m c) (defs₀ (F := F)) 𝒱₀ () Set.univ := fun t => by
  obtain rfl := fin_N1 t
  rw [bigSep_W1, bigSep_W1]
  simp only [owns_whole_eq]
  exact sound m c

theorem Owe₀_pos {c : Dev nD} {g : GSem nD τ sig} {u : Unit} (h : 0 < Owe₀ c g u) : (∃ d, g = barCell d) ∨ ∃ d b n, g = recvCell d b n := by
  unfold Owe₀ at h
  simp only [Pi.add_apply, Finsupp.add_apply] at h
  rcases Nat.pos_of_ne_zero (n := Owe c zero g u) |> fun _ => (by omega : 0 < Owe c zero g u ∨ 0 < barOwe c 2 g u ∨ 0 < barOwe c 1 g u ∨ 0 < barOwe c 0 g u) with h | h | h | h
  · obtain ⟨b, n, -, e⟩ := Owe_pos h
    exact Or.inr ⟨_, b, n, e⟩
  all_goals exact Or.inl ⟨_, (Pipeline.tallyAt_pos h).1⟩

end Cert.Exchange
-- ==== Proof.Run.lean ====
/-
# The run

The host's operations, the attention call and the exchange, one after the other: from any memory with zero counters every
execution ends with each device's result array at `res` of what the attention calls left and of the output weights, the
arguments as they were and every counter at zero.
-/
module

public import proofs.«01_k».proof.Proof.Launch

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- A device's arrays at the end. -/
def U3 (c : Dev nD) : Valuation τ sig (Elt F) := Function.update (U2 m c) main_v4 ((xdat m c).arrAt 2 cfg1.N)

theorem U2_ne (c : Dev nD) (r : Ref sig .tc) (h : r ≠ main_v3) : U2 m c r = V1 m c r :=
  Function.update_of_ne (StableHlo.devRef_ne_of_ne h) _ _
theorem U2_v3 (c : Dev nD) : U2 m c main_v3 = (Attend.adat m Owe₀ c).arrAt 7 cfg0.N := Function.update_self _ _ _
theorem U3_ne (c : Dev nD) (r : Ref sig .tc) (h : r ≠ main_v4) : U3 m c r = U2 m c r :=
  Function.update_of_ne (StableHlo.devRef_ne_of_ne h) _ _
theorem U3_v4 (c : Dev nD) : U3 m c main_v4 = (xdat m c).arrAt 2 cfg1.N := Function.update_self _ _ _

/-- The arguments are never written. -/
theorem U3_arg (c : Dev nD) (r : Ref sig .tc) (h : r ∉ ([main_cst, main_v1, main_v2, main_v3, main_v4] : List (Ref sig .tc))) :
    U3 m c r = m ((c : Thread nD τ).loc r) := by
  simp only [List.mem_cons, List.not_mem_nil, or_false, not_or] at h
  obtain ⟨h0, h1, h2, h3, h4⟩ := h
  refine (U3_ne m c r h4).trans ((U2_ne m c r h3).trans ((V1_of m c r ?_).trans rfl))
  simp only [List.mem_cons, List.not_mem_nil, or_false, not_or]
  exact ⟨h0, h1, h2⟩

/-! ## The attention call -/

theorem stage_sel0 : ∀ (w : Fin 8) (s : Fin (spec0 w).nbuf), sel ((spec0 w).sem s) = none := by decide +kernel
theorem stage_sel1 : ∀ (w : Fin 3) (s : Fin (spec1 w).nbuf), sel ((spec1 w).sem s) = none := by decide +kernel

theorem lv_stage (c : Dev nD) (q : DmaSem sig) (hq : sel q = none) : lv ((c : Thread nD τ), .dma q) () ≤ 0 := by
  dsimp only [lv]; rw [hq]
theorem Owe₀_lv {c : Dev nD} {g : GSem nD τ sig} {u : Unit} (h : 0 < Owe₀ c g u) : u ∈ L g ∧ 0 < lv g u := by
  rcases Owe₀_pos h with ⟨d, rfl⟩ | ⟨d, b, n, rfl⟩
  · exact ⟨Finset.mem_singleton_self _, Nat.one_pos⟩
  · exact ⟨Finset.mem_singleton_self _, by rw [lv_recv]; omega⟩

theorem arr_ne0 : ∀ w : Fin 8, w ≠ 7 → Pipeline.arrRef spec0 w ≠ main_v3 := by decide
theorem arr_ne1 : ∀ w : Fin 3, w ≠ 2 → Pipeline.arrRef spec1 w ≠ main_v4 := by decide
theorem out_in0 : ∀ w : Fin 8, w ≠ 7 → (spec0 w).isOut = false := by decide
theorem out_in1 : ∀ w : Fin 3, w ≠ 2 → (spec1 w).isOut = false := by decide

theorem exit0 (c : Dev nD) (w : Fin 8) : (Attend.adat m Owe₀ c).arrAt w cfg0.N = U2 m c (Pipeline.arrRef spec0 w) := by
  by_cases h : w = 7
  · subst h; exact (U2_v3 m c).symm
  · exact ((Attend.adat m Owe₀ c).arrAt_in w (out_in0 w h) _).trans (U2_ne m c _ (arr_ne0 w h)).symm
theorem exit1 (c : Dev nD) (w : Fin 3) : (xdat m c).arrAt w cfg1.N = U3 m c (Pipeline.arrRef spec1 w) := by
  by_cases h : w = 2
  · subst h; exact (U3_v4 m c).symm
  · exact ((xdat m c).arrAt_in w (out_in1 w h) _).trans (U3_ne m c _ (arr_ne1 w h)).symm

theorem kit0 : PLaunchFacts (nD := nD) (τ := τ) (pcfgs (F := F)) 0 := launch0.toP
theorem kit1 : PLaunchFacts (nD := nD) (τ := τ) (pcfgs (F := F)) 1 := launch1.toP

/-- A device's arrays that are no window's of either call. -/
abbrev off0 : Finset (DevRef τ sig) := ucRefs τ sig \ arrRefs (τ := τ) spec0
abbrev off1 : Finset (DevRef τ sig) := ucRefs τ sig \ arrRefs (τ := τ) spec1

/-- What waits on a device while the attention call runs. -/
def R0 (c : Dev nD) : sProp 𝕄 := iprop(StableHlo.held (c : Thread nD τ) off0 (V1 m c) ∗ before (xstg m) (wstg m) c)

set_option backward.isDefEq.respectTransparency.types false in
def reg0 : RegionSeg (pcfgs (F := F)) adm (pdats m) () defs₀ 𝒱₀ L lv 0 :=
  RegionSeg.ofHeld (pcfgs (F := F)) adm (pdats m) () defs₀ 𝒱₀ L lv 0 Owe₀ (fun c => gen c) (fun c => gen c) kit0 rfl
    (fun c => (Attend.body_obligation m Owe₀ c).loose) (fun _ _ => rfl) (fun _ => rfl)
    (fun c w => by show (Attend.adat m Owe₀ c).share w = fullShare; unfold Dat.share; split <;> rfl)
    (fun c => BI.Entails.refl _) (fun c => BI.Entails.refl _) (fun _ => 0)
    ⟨fun c w s => by rw [L_tc]; exact Finset.mem_singleton_self _, fun c w s => lv_stage c _ (stage_sel0 w s), fun c g i h => Owe₀_lv h⟩
    (R0 m) (V1 m) (U2 m) (fun c w => rfl) (fun c w => exit0 m c w)

/-! ## The exchange -/

theorem phi0_intro (c : Dev nD) : iprop(rest1 c ∗ gen c ∗ StableHlo.held (c.tc : Thread nD τ) ∅ (U2 m c) ∗ start (xstg m) (wstg m) c) ⊢ Φ₀ m c := by
  unfold Φ₀
  iintro ⟨Hr, Hg, -, Hs⟩
  isplitl [Hs]; · iexact Hs
  isplitl [Hr]; · iexact Hr
  iexact Hg

theorem phi1_exit (c : Dev nD) : (Φ₁ c : sProp 𝕄)
    ⊢ iprop(rest1 c ∗ gen c ∗ StableHlo.held (c.tc : Thread nD τ) ∅ (U3 m c) ∗ Pipeline.ownSems0 osem c ∗ semVal (barCell c) 0) := by
  rw [show (Pipeline.ownSems0 osem c : sProp 𝕄) = own0 c from rfl, own0_eq, bigSep_bool,
    show (StableHlo.held (c.tc : Thread nD τ) ∅ (U3 m c) : sProp 𝕄) = BI.emp from BI.bigSep_empty]
  unfold Φ₁
  iintro ⟨Hr, Hg, HzS, HzV, HzB⟩
  isplitl [Hr]; · iexact Hr
  isplitl [Hg]; · iexact Hg
  isplitr; · iempintro
  isplitl [HzS HzV]
  · isplitl [HzS]; · iexact HzS
    iexact HzV
  iexact HzB

theorem off1_eq (c : Dev nD) (b : DevRef τ sig) (hb : b ∈ off1) : U3 m c b = U2 m c b := by
  refine Function.update_of_ne ?_ _ _
  rintro rfl
  exact absurd hb (by decide)
theorem off0_eq (c : Dev nD) (b : DevRef τ sig) (hb : b ∈ off0) : V1 m c b = U2 m c b := by
  refine (Function.update_of_ne ?_ _ _).symm
  rintro rfl
  exact absurd hb (by decide)

set_option backward.isDefEq.respectTransparency.types false in
def reg1 : RegionSeg (pcfgs (F := F)) adm (pdats m) () defs₀ 𝒱₀ L lv 1 :=
  RegionSeg.ofTalk (pcfgs (F := F)) adm (pdats m) () defs₀ 𝒱₀ L lv 1 osem ownSemFacts
    ∅ off1 (Finset.empty_subset _) kit1 rfl (fun c => (body_obligation m c).loose)
    (fun _ => 0) Owe₀ (fun c => (zero_add (Owe₀ c)).symm) (fun _ => rfl) (fun _ => rfl) (fun c w => share_eq m c w)
    (U2 m) (U3 m) (fun c b hb => off1_eq m c b (Finset.mem_sdiff.mp hb).1)
    (before (xstg m) (wstg m)) (fun c => semVal (barCell c) 0) (start (xstg m) (wstg m)) (fun c => semVal (barCell c) 0)
    (enter (xstg m) (wstg m)) (fun c => phi0_intro m c) (fun c => phi1_exit m c)
    (fun c => by iintro H; imodintro; iexact H)
    (fun _ => 0)
    ⟨fun c w s => by rw [L_tc]; exact Finset.mem_singleton_self _, fun c w s => lv_stage c _ (stage_sel1 w s),
      fun c t g i h => by
        rcases t with ⟨_ | _, ht⟩
        · exact Owe₀_lv h
        · exact absurd h (Nat.lt_irrefl 0)⟩
    (fun _ => iprop(emp)) (fun c w => rfl) (fun c w => exit1 m c w)

/-! ## Between the calls -/

/-- What rides beside a device's arrays up to the exchange. -/
def E0 (c : Dev nD) : sProp 𝕄 := iprop(before (xstg m) (wstg m) c ∗ gen c ∗ ∃ W, owes (c : Thread nD τ) (Owe₀ c) W)

theorem sub0 : arrRefs (τ := τ) spec0 ⊆ ucRefs τ sig := arrRefs_sub_ucRefs _ winFacts0.arr_unscoped
theorem sub1 : arrRefs (τ := τ) spec1 ⊆ ucRefs τ sig := arrRefs_sub_ucRefs _ winFacts1.arr_unscoped

theorem pre0 (c : Dev nD) : iprop(StableHlo.held (c : Thread nD τ) (ucRefs τ sig) (V1 m c) ∗ E0 m c) ⊢ (reg0 m).pre c := by
  show _ ⊢ iprop(StableHlo.held (c.tc : Thread nD τ) (arrRefs (τ := τ) spec0) (V1 m c) ∗ gen c ∗ R0 m c ∗ ∃ Wd, owes (c : Thread nD τ) (Owe₀ c) Wd)
  rw [StableHlo.held_sub_split (c : Thread nD τ) sub0 (V1 m c)]
  unfold E0 R0
  iintro ⟨⟨Ha, Ho⟩, Hb, Hg, HO⟩
  isplitl [Ha]; · iexact Ha
  isplitl [Hg]; · iexact Hg
  isplitl [Ho Hb]
  · isplitl [Ho]; · iexact Ho
    iexact Hb
  iexact HO

theorem between (c : Dev nD) : (reg0 m).post c ⊢ (reg1 m).pre c := by
  show iprop(StableHlo.held (c.tc : Thread nD τ) (arrRefs (τ := τ) spec0) (U2 m c) ∗ gen c ∗ R0 m c ∗ ∃ Wd, owes (c : Thread nD τ) (Owe₀ c) Wd)
    ⊢ iprop(StableHlo.held (c.tc : Thread nD τ) (arrRefs (τ := τ) spec1) (U2 m c) ∗ gen c
      ∗ (StableHlo.held (c.tc : Thread nD τ) off1 (U2 m c) ∗ emp) ∗ before (xstg m) (wstg m) c ∗ ∃ Wd, owes (c : Thread nD τ) (0 + Owe₀ c) Wd)
  have hj : iprop(StableHlo.held (c.tc : Thread nD τ) (arrRefs (τ := τ) spec0) (U2 m c) ∗ StableHlo.held (c.tc : Thread nD τ) off0 (V1 m c))
      ⊢ (iprop(StableHlo.held (c.tc : Thread nD τ) (arrRefs (τ := τ) spec1) (U2 m c) ∗ StableHlo.held (c.tc : Thread nD τ) off1 (U2 m c)) : sProp 𝕄) := by
    rw [StableHlo.held_congr (c : Thread nD τ) (off0_eq m c), ← StableHlo.held_sub_split (c : Thread nD τ) sub0 (U2 m c),
      ← StableHlo.held_sub_split (c : Thread nD τ) sub1 (U2 m c)]
  rw [zero_add]
  unfold R0
  iintro ⟨Ha, Hg, ⟨Ho, Hb⟩, HO⟩
  ihave H := hj $$ [Ha Ho]
  · isplitl [Ha]; · iexact Ha
    iexact Ho
  icases H with ⟨Ha, Ho⟩
  isplitl [Ha]; · iexact Ha
  isplitl [Hg]; · iexact Hg
  isplitl [Ho]
  · isplitl [Ho]; · iexact Ho
    iempintro
  isplitl [Hb]; · iexact Hb
  iexact HO

def Tₙ (c : Dev nD) : sProp 𝕄 := iprop(StableHlo.held (c : Thread nD τ) (ucRefs τ sig) (U3 m c) ∗ semVal (barCell c) 0)

theorem post1 (c : Dev nD) : (reg1 m).post c ⊢ iprop(Tₙ m c ∗ ∃ W, owes (c : Thread nD τ) (0 : CellTallies nD τ sig Unit) W) := by
  show iprop(StableHlo.held (c.tc : Thread nD τ) (arrRefs (τ := τ) spec1) (U3 m c) ∗ gen c
      ∗ (StableHlo.held (c.tc : Thread nD τ) off1 (U3 m c) ∗ emp) ∗ semVal (barCell c) 0 ∗ ∃ Wd, owes (c : Thread nD τ) (0 : CellTallies nD τ sig Unit) Wd) ⊢ _
  unfold Tₙ
  rw [StableHlo.held_sub_split (c : Thread nD τ) sub1 (U3 m c)]
  iintro ⟨Ha, -, ⟨Ho, -⟩, Hb, HO⟩
  isplitr [HO]
  · isplitl [Ha Ho]
    · isplitl [Ha]; · iexact Ha
      iexact Ho
    iexact Hb
  · iexact HO

/-! ## The launch -/

abbrev T₀ (c : Dev nD) : sProp 𝕄 := iprop(StableHlo.held (c : Thread nD τ) (ucRefs τ sig) (V0 m c) ∗ E0 m c)

/-- What of a device's launch is not the exchange's ghost state. -/
def bundle (c : Dev nD) : sProp 𝕄 :=
  iprop(StableHlo.held (c : Thread nD τ) (ucRefs τ sig) (V0 m c) ∗ credit c ∗ owes (c : Thread nD τ) (Owe₀ c) ∅ ∗ gen c)

theorem T₀_intro (K : Dev nD × CK → ℕ) (c : Dev nD) : iprop(invs (xstg m) (wstg m) K ∗ iprop(kept c ∗ bundle m c)) ⊢ T₀ m c := by
  unfold bundle T₀ E0 before
  iintro ⟨#HI, Hk, Hh, Hc, HO, Hg⟩
  isplitl [Hh]; · iexact Hh
  isplitl [Hk Hc]
  · isplitl [Hk]
    · iexists K
      isplitr; · iexact HI
      iexact Hk
    iexact Hc
  isplitl [Hg]; · iexact Hg
  iexists ∅; iexact HO

theorem init :
    iprop((bigSep Finset.univ fun c : Dev nD => iprop(unscopedBufs c (fun b => m ((c : Thread nD τ).loc b)) ∗ unscopedSems0 c
          ∗ owes (c : Thread nD τ) (Owe₀ c) ∅ ∗ Pipeline.launchCred Owe₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (Owe₀ c) ∅ ∗ Pipeline.launchCred Owe₀ c ∗ prngReg c (ρ c) ∗ G c)
      ⊢ (iprop(bundle m c ∗ (semVal (barCell c) 0 ∗ G c)) : sProp 𝕄) := by
    have hc := creds (F := F) c
    rw [show unscopedBufs c (fun b => m ((c : Thread nD τ).loc b)) = StableHlo.held (c : Thread nD τ) (ucRefs τ sig) (V0 m c) from
      Pipeline.unscopedBufs_held (Ix := Unit) (Name := ℕ) (U := UU) (Lvl := ℕ) c (V0 m c), unscoped_eq]
    unfold bundle
    iintro ⟨Hh, Hus, HO, Hcr, Hp, HG⟩
    ihave Hc := hc $$ Hcr
    isplitl [Hh Hc HO Hp]
    · isplitl [Hh]; · iexact Hh
      isplitl [Hc]; · iexact Hc
      isplitl [HO]; · iexact HO
      iexists (ρ c); iexact Hp
    isplitl [Hus] <;> iassumption
  have hcores : (bigSep Finset.univ fun c : Dev nD => iprop(unscopedBufs c (fun b => m ((c : Thread nD τ).loc b)) ∗ unscopedSems0 c
        ∗ owes (c : Thread nD τ) (Owe₀ c) ∅ ∗ Pipeline.launchCred Owe₀ c ∗ prngReg c (ρ c) ∗ G c))
      ⊢ (iprop((bigSep Finset.univ fun c : Dev nD => bundle m c) ∗ (bigSep Finset.univ fun c : Dev nD => semVal (barCell c) 0) ∗ bigSep Finset.univ (G (F := F))) : sProp 𝕄) := by
    rw [← bigSep_sep', ← bigSep_sep']
    exact BI.bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep copyCells (fun g => (openTok ER g : sProp 𝕄))
      ⊢ bigSep Finset.univ (fun c : Dev nD => bigSep Finset.univ fun k : Bool × Fin 2 × Fin 14 => (openTok ER (kcell (c, some k)) : sProp 𝕄)) :=
    Entails.of_eq (by rw [bigSep_map, bigSep_univ_prod]; rfl)
  have hin (κ : GSem nD τ sig → ℕ) : bigSep (barCells ∪ copyCells) (fun g => (cellInv ER (Rd (xstg m) (wstg m)) (κ g) g : sProp 𝕄))
      ⊢ bigSep Finset.univ fun j : Dev nD × CK => cellInv ER (Rd (xstg m) (wstg m)) (κ (kcell j)) (kcell j) :=
    Entails.of_eq (by rw [cells_eq, bigSep_map]; rfl)
  have hG : bigSep Finset.univ (G (F := F)) ⊢ BI.own (ER (launchOf barCells copyCells tokens)) := Entails.of_eq (bigSep_onDev 0 _)
  have htk := toks_around (F := F)
  have hte := Entails.of_eq (toks_eq (F := F))
  iintro ⟨H, -⟩
  ihave H := hcores $$ H
  icases H with ⟨HB, Hv, HG⟩
  ihave Hu := hG $$ HG
  imod (Rounds.fund_launch ER (Rd (xstg m) (wstg m)) cells_disjoint (fun g _ h => h) tokens) $$ [Hv Hu] with ⟨%κ, -, Hinv, Hr, Hat, Hopen, Htok⟩
  · isplitl [Hv]
    · iapply hv; iexact Hv
    · iexact Hu
  imodintro
  have hT : ∀ c ∈ (Finset.univ : Finset (Dev nD)), iprop(invs (xstg m) (wstg m) (fun j => κ (kcell j)) ∗ iprop(kept c ∗ bundle m c)) ⊢ T₀ m c :=
    fun c _ => T₀_intro m _ c
  have hinκ := hin κ
  iapply (family_with hT)
  isplitl [Hinv Hr]
  · unfold invs
    isplitl [Hinv]
    · iapply hinκ; iexact Hinv
    · iapply hre; iexact Hr
  rw [bigSep_sep']
  isplitr [HB]
  · unfold kept
    rw [bigSep_sep', bigSep_sep']
    isplitl [Hat]; · iapply hat; iexact Hat
    isplitl [Hopen]; · iapply hop; iexact Hopen
    iapply htk
    iapply hte; iexact Htok
  · iexact HB

/-! ## The run -/

theorem unscoped_bar : ∀ sm : SemLoc sig, sm.isScoped .tc = false → sm = .reg barS := by decide +kernel

theorem read_end (c : Dev nD) (s' : Phys nD τ sig (Elt F)) : iprop(Tₙ m c ∗ SI s')
    ⊢ (|={Set.univ}=> iprop(⌜(∀ b ∈ ucRefs τ sig, s'.mem.mem ((c : Dev nD), b) = U3 m c b) ∧ s'.mem.sem (barCell c) = 0⌝ ∗ SI s') : sProp 𝕄) := by
  have hr := pointsTo_read_all (Ix := Unit) (Name := ℕ) (U := UU) (Lvl := ℕ) (ucRefs τ sig) (fun b => ((c : Dev nD), b)) (U3 m c) s'
  unfold Tₙ StableHlo.held
  iintro ⟨⟨Hh, Hb0⟩, HSI⟩
  icombine HSI Hb0 gives %hb
  ihave Hr := hr $$ [Hh HSI]
  · isplitl [Hh]; · iexact Hh
    iexact HSI
  icases Hr with ⟨%h, HSI⟩
  imodintro
  isplitr
  · ipureintro
    exact ⟨h, by simpa using hb⟩
  iexact HSI

set_option backward.isDefEq.respectTransparency.types false in
set_option maxRecDepth 8000 in
/-- Every execution ends, each device's arrays at `U3` and every counter at zero. -/
theorem run_main : θ_run defs (onTc (τ := τ) (main (F := F))) ⟨m, fun _ => 0, ρ⟩
    (fun r => (∀ c : Dev nD, ∀ b ∈ ucRefs τ sig, r.2.mem ((c : Dev nD), b) = U3 m c b) ∧ r.2.sem = fun _ => 0) :=
  Pipeline.θ_run_regions_kit_dev_sems (pcfgs (F := F)) adm (pdats m) () cellOf_inj EP defs₀ 𝒱₀ L lv m ρ main
    (Gen.segs m 𝒱₀ L lv (fun _ => E0 m) () (pdats m) (reg0 m) (reg1 m))
    (fun c Q => by
      rewrite [main_chain c, Seg.run_eq_chain,
        show (Gen.segs m 𝒱₀ L lv (fun _ => E0 m) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [Gen.segs, Seg.pipes_host, Seg.pipes_region, Seg.pipes_nil]; decide)
    Owe₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ m) (Tₙ m)
    (fun c => ⟨.rfl, pre0 m c, between m c, post1 m c⟩)
    (init m ρ)
    (fun c s => (∀ b ∈ ucRefs τ sig, s.mem ((c : Dev nD), b) = U3 m c b) ∧ s.sem (barCell c) = 0)
    (read_end m)
    (fun s h hs => ⟨fun c => (h c).1, sem_eq_zero hs fun c sm hsm => by
        obtain rfl := unscoped_bar sm hsm
        exact (h c).2⟩)

theorem uc_mem : ∀ r : Ref sig .tc, (Proc.devRef .tc r : DevRef τ sig).isScoped = false → (Proc.devRef .tc r : DevRef τ sig) ∈ ucRefs τ sig := fun r h =>
  Finset.mem_filter.mpr ⟨StableHlo.devRef_mem_tcRefs r, by rw [h]; decide⟩

end Cert.Exchange
-- ==== Proof.Value.lean ====
/-
# The values

Over the extended reals, where rounding is the identity: the three exchanges add up the eight devices' products, and
these, contracting 1024 positions each, are the one product contracting all 8192.
-/
module

public import proofs.«01_k».proof.Proof.Run
public import Idealize.ShloMosaic.Lib.Layout
public import Idealize.ShloMosaic.Lib.MatmulPlain
public import Idealize.ShloMosaic.Lib.StackMember
public import Idealize.ShloMosaic.Lib.ValueIdx
public import Idealize.ShloMosaic.Lib.Pipeline.Value

@[expose] public section

noncomputable section

namespace Cert.Exchange

open Cert.KernelIdeal Cert.KernelIdeal.Gen
open Idealize.ShloMosaic
open Idealize.ShloMosaic.TcCoe
open Idealize.ShloMosaic.ValueIdx
open Idealize.SL.Sem
open Idealize.ShloMosaic.Pipeline

section run

variable {F : FTy → Type} [FloatOps F]
variable (m : (ℓ : Loc nD τ sig) → Buf (Elt F) ℓ) (ρ : Dev nD → PrngReg)

/-! ## The arrays at the end -/

/-- The attention call's result on device `c`. -/
def context (c : Dev nD) : (main_v3 : Ref sig .tc).ty.Contents (Elt F) := (Attend.adat m Owe₀ c).arrAt 7 cfg0.N

theorem xstg_eq (c : Dev nD) : xstg m c = context m c :=
  (Memref.read_access_unit_zero (Elt F) main_v3 (off := fun a => win1_0.index (0 : Fin 1) a * main_v3.ty.shape.size a)
    (by funext a; fin_cases a <;> decide) _ _).trans (U2_v3 m c)
theorem wstg_eq (c : Dev nD) : wstg m c = m ((c : Thread nD τ).loc main_arg4) :=
  (Memref.read_access_unit_zero (Elt F) main_arg4 (off := fun a => win1_1.index (0 : Fin 1) a * main_arg4.ty.shape.size a)
    (by funext a; fin_cases a <;> decide) _ _).trans ((U2_ne m c main_arg4 (by decide)).trans ((V1_of m c main_arg4 (by decide)).trans rfl))

theorem final_o (c : Dev nD) : (xdat m c).arrAt 2 cfg1.N = res (xstg m) (wstg m) c :=
  (xdat m c).arrAt_eq_of_cover (2 : Fin 3) (res (xstg m) (wstg m) c)
    (fun t _ => by
      obtain rfl := fin_N1 t
      exact (Memref.read_access_unit_zero (Elt F) main_v4 (off := fun a => win1_2.index t1_0 a * main_v4.ty.shape.size a)
        (by funext a; fin_cases a <;> decide) _ _).symm)
    fun i => ⟨t1_0, flush1_2 t1_0, by
      show i ∈ ((View.whole main_v4).slice (win1_2.rect t1_0)).set
      rw [View.set_slice_whole, Rect.mem_set_unit]
      intro a
      have h := (i a).isLt
      fin_cases a
      · exact ⟨Nat.zero_le _, h⟩
      · exact ⟨Nat.zero_le _, h⟩
      · exact ⟨Nat.zero_le _, h⟩⟩

/-- The run, read: the result at `res` of the devices' attentions and output weights, the arguments unchanged, every
    counter at zero. -/
theorem run : θ_run defs (onTc (τ := τ) (main (F := F))) ⟨m, fun _ => 0, ρ⟩ fun r =>
    (∀ c : Dev nD, r.2.mem ((c : Thread nD τ).loc main_v4) = res (context m) (fun d : Dev nD => m ((d : Thread nD τ).loc main_arg4)) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0 := by
  have hx : xstg m = context m := funext fun c => xstg_eq m c
  have hw : wstg m = fun d : Dev nD => m ((d : Thread nD τ).loc main_arg4) := funext fun c => wstg_eq m c
  refine (θ_run defs _ _).mono (fun r h => ⟨fun c => ?_, h.2⟩) (run_main m ρ)
  have arg : ∀ a : Ref sig .tc, (Proc.devRef .tc a : DevRef τ sig).isScoped = false → a ∉ [main_cst, main_v1, main_v2, main_v3, main_v4] →
      r.2.mem ((c : Thread nD τ).loc a) = m ((c : Thread nD τ).loc a) := fun a hs ha => (h.1 c a (uc_mem a hs)).trans (U3_arg m c a ha)
  refine ⟨?_, arg _ (by decide) (by decide), arg _ (by decide) (by decide), arg _ (by decide) (by decide), arg _ (by decide) (by decide),
    arg _ (by decide) (by decide), arg _ (by decide) (by decide), arg _ (by decide) (by decide)⟩
  rw [← hx, ← hw]
  exact (h.1 c main_v4 (uc_mem main_v4 (by decide))).trans ((U3_v4 m c).trans (final_o m c))

end run

/-! ## The sum -/

section value

variable (Xs : Dev nD → (cc1_stg0_0 : Ref sig .tc).ty.Contents (Elt Ideal)) (Ws : Dev nD → (cc1_stg1_0 : Ref sig .tc).ty.Contents (Elt Ideal))

/-- Row `r` of chunk `k` of `X` times column `q` of `Y`. -/
def rowcol (X : S2048x1024.Idx → EReal) (Y : S1024x1024.Idx → EReal) (k : Fin 8) (r : Fin 256) (q : Fin 1024) : EReal :=
  ∑ t : Fin 1024, X (ValueIdx.ix2 (⟨256 * k.val + r.val, by omega⟩ : Fin 2048) t) * Y (ValueIdx.ix2 t q)

theorem prod_apply (c : Dev nD) (k : Fin 8) (r : Fin 256) (q : Fin 1024) : prod Xs Ws c k (ValueIdx.ix2 r q) = rowcol (Xs c) (Ws c) k r q := by
  unfold rowcol prod k1_pay7 k1_pay2
  show FloatOps.matmul (F := Ideal) (DotDims.plain 256 1024 1024) none _ _ _ (ValueIdx.ix2 r q) = _
  rw [Ideal.matmul_plain_apply, constant_apply, Ideal.ofBits_zero_f32, zero_add]
  refine Finset.sum_congr rfl fun t _ => ?_
  rw [truncf_apply, truncf_apply, shapeCast_self, shapeCast_self]
  congr 1
  show Xs c _ = Xs c _
  congr 1
  funext a
  refine Fin.ext ?_
  fin_cases a
  · show 256 * k.val + 1 * r.val = 256 * k.val + r.val
    omega
  · show 0 + 1 * t.val = t.val
    omega

/-- Three exchanges across the axes of the cube add up what the eight devices hold. -/
def fold (b : Fin 2) (f : Fin 8 → EReal) : ℕ → Fin 8 → EReal
  | 0, c => f c
  | l + 1, c => fold b f l c + fold b f l (across (axis b.val l) c)
theorem fold_three (b : Fin 2) (f : Fin 8 → EReal) (c : Fin 8) : fold b f 3 c = ∑ d, f d := by
  have h : ∀ (b : Fin 2) (c : Fin 8), ({c, across (axis b.val 0) c, across (axis b.val 1) c, across (axis b.val 0) (across (axis b.val 1) c),
      across (axis b.val 2) c, across (axis b.val 0) (across (axis b.val 2) c), across (axis b.val 1) (across (axis b.val 2) c),
      across (axis b.val 0) (across (axis b.val 1) (across (axis b.val 2) c))} : Multiset (Fin 8)) = Finset.univ.val := by decide +kernel
  show _ = (Finset.univ.val.map f).sum
  rw [← h b c]
  simp only [fold, Multiset.insert_eq_cons, Multiset.map_cons, Multiset.sum_cons, Multiset.map_singleton, Multiset.sum_singleton]
  abel

theorem part_fold (b : Fin 2) (k : Fin 8) (i : S256x512.Idx) : ∀ (l : ℕ) (c : Dev nD), (part Xs Ws b l c k i : EReal) = fold b (fun d => part Xs Ws b 0 d k i) l c
  | 0, c => rfl
  | l + 1, c => by
    show (part Xs Ws b l c k i : EReal) + part Xs Ws b l (across (axis b.val l) c) k i = _
    rw [part_fold b k i l, part_fold b k i l]; rfl

theorem part_zero (b : Fin 2) (c : Dev nD) (k : Fin 8) (i : S256x512.Idx) :
    part Xs Ws b 0 c k i = prod Xs Ws c k (ValueIdx.ix2 (i 0) (⟨512 * b.val + (i 1).val, by have : (i 1).val < 512 := (i 1).isLt; omega⟩ : Fin 1024)) := by
  show prod Xs Ws c k _ = _
  congr 1
  funext a
  refine Fin.ext ?_
  fin_cases a
  · show 0 + (i 0).val = (i 0).val
    omega
  · rfl

/-- An entry's row in its chunk, and its column. -/
def row (i : S8x256x1024.Idx) : Fin 256 := ⟨(i 1).val, (i 1).isLt⟩
def col (i : S8x256x1024.Idx) : Fin 1024 := ⟨(i 2).val, (i 2).isLt⟩

/-- Every device ends with the sum of the devices' products. -/
theorem res_apply (c : Dev nD) (i : S8x256x1024.Idx) :
    (res Xs Ws c i : EReal) = ∑ d : Dev nD, prod Xs Ws d (chunk i) (ValueIdx.ix2 (row i) (col i)) := by
  have h3 : ∀ d : Dev nD, (part Xs Ws (half i) 3 d (chunk i) (place i) : EReal) = ∑ d : Dev nD, prod Xs Ws d (chunk i) (ValueIdx.ix2 (row i) (col i)) := fun d => by
    rw [part_fold, fold_three]
    refine Finset.sum_congr rfl fun e _ => ?_
    rw [part_zero]
    congr 1
    funext a
    refine Fin.ext ?_
    fin_cases a
    · rfl
    · exact Nat.div_add_mod (i 2).val 512
  unfold res
  rw [lvl_end]
  split
  · exact h3 c
  · exact h3 (chunk i)

end value

/-- A sum over 8192 positions, 1024 at a time. -/
theorem sum_blocks (f : Fin 8192 → EReal) : ∑ t, f t = ∑ d : Fin 8, ∑ t : Fin 1024, f ⟨d.val * 1024 + t.val, by omega⟩ := by
  rw [← Fintype.sum_prod_type' (fun (d : Fin 8) (t : Fin 1024) => f ⟨d.val * 1024 + t.val, by omega⟩)]
  refine (Equiv.sum_comp (finProdFinEquiv : Fin 8 × Fin 1024 ≃ Fin (8 * 1024)) f).symm.trans (Finset.sum_congr rfl fun p _ => congrArg f (Fin.ext ?_))
  show p.2.val + 1024 * p.1.val = p.1.val * 1024 + p.2.val
  omega

end Cert.Exchange
-- ==== Proof.Softmax.lean ====
/-
# The mathematics of the attention

Over the extended reals. With real scores a softmax does not depend on the number subtracted from them, and its division
may come before or after the product with the values; the values may be anything.
-/
module

public import Idealize.ShloMosaic.Lib.Pointwise
public import Idealize.ShloMosaic.Lib.ReduceAll

@[expose] public section

noncomputable section

namespace Cert.Softmax

open Idealize.ShloMosaic

/-! ## Real numbers among the extended reals -/

/-- An extended real that is a real number. -/
def IsReal (e : EReal) : Prop := ∃ r : ℝ, e = (r : EReal)

theorem IsReal.add {a b : EReal} : IsReal a → IsReal b → IsReal (a + b) := by
  rintro ⟨r, rfl⟩ ⟨s, rfl⟩; exact ⟨r + s, (EReal.coe_add r s).symm⟩
theorem IsReal.mul {a b : EReal} : IsReal a → IsReal b → IsReal (a * b) := by
  rintro ⟨r, rfl⟩ ⟨s, rfl⟩; exact ⟨r * s, (EReal.coe_mul r s).symm⟩
theorem IsReal.neg {a : EReal} : IsReal a → IsReal (-a) := by
  rintro ⟨r, rfl⟩; exact ⟨-r, (EReal.coe_neg r).symm⟩
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]
theorem IsReal.sum {ι : Type} {t : Finset ι} {f : ι → EReal} (h : ∀ i, IsReal (f i)) : IsReal (∑ i ∈ t, f i) := by
  choose r hr using h
  exact ⟨∑ i ∈ t, r i, by rw [coe_sum]; exact Finset.sum_congr rfl fun i _ => hr i⟩
theorem IsReal.of_abs_lt {e : EReal} (h : max e (-e) < ⊤) : IsReal e := by
  refine ⟨e.toReal, (EReal.coe_toReal ?_ ?_).symm⟩
  · rintro rfl; simp at h
  · rintro rfl; simp at h

/-- A nonnegative real number distributes over a sum. -/
theorem sum_mul_coe {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.2 hc) (EReal.coe_ne_top c) _ _

/-- The largest of finitely many real numbers, at least one of them, is one. -/
theorem IsReal.fold_max {n : ℕ} (hn : 0 < n) {f : Fin n → EReal} (h : ∀ i, IsReal (f i)) : IsReal ((Finset.univ : Finset (Fin n)).fold max ⊥ f) := by
  have key : ∀ t : Finset (Fin n), t.fold max ⊥ f = ⊥ ∧ t = ∅ ∨ IsReal (t.fold max ⊥ f) := fun t => by
    classical
    induction t using Finset.induction_on with
    | empty => exact .inl ⟨rfl, rfl⟩
    | insert a t ha ih =>
      rw [Finset.fold_insert ha]
      refine .inr ?_
      rcases ih with ⟨hb, _⟩ | hr
      · rw [hb, max_eq_left bot_le]; exact h a
      · rcases max_choice (f a) (t.fold max ⊥ f) with hm | hm <;> rw [hm]
        · exact h a
        · exact hr
  rcases key Finset.univ with ⟨_, he⟩ | hr
  · exact absurd he (Finset.univ_nonempty_iff.2 ⟨⟨0, hn⟩⟩).ne_empty
  · exact hr

/-! ## The softmax -/

/-- The sum of the values weighted by the exponentials of real scores, over the sum of these, is the sum of the values
    weighted by the softmax of the scores less any real number. -/
theorem weighted {n : ℕ} (hn : 0 < n) {s : Fin n → EReal} (hs : ∀ j, IsReal (s j)) (v : Fin n → EReal) {μ : EReal} (hμ : IsReal μ) :
    Ideal.div (∑ j, Ideal.exp (s j) * v j) (∑ j, Ideal.exp (s j))
      = ∑ j, v j * Ideal.div (Ideal.exp (s j - μ)) (∑ k, Ideal.exp (s k - μ)) := by
  obtain ⟨u, rfl⟩ := hμ
  choose r hr using hs
  have he : ∀ j, Ideal.exp (s j) = ((Real.exp (r j) : ℝ) : EReal) := fun j => by rw [hr j, Ideal.exp_coe]
  have hd : ∀ j, Ideal.exp (s j - (u : EReal)) = ((Real.exp (r j) * Real.exp (-u) : ℝ) : EReal) := fun j => by
    rw [hr j, ← EReal.coe_sub, Ideal.exp_coe, sub_eq_add_neg, Real.exp_add]
  haveI : Nonempty (Fin n) := ⟨⟨0, hn⟩⟩
  have hz : 0 < ∑ j, Real.exp (r j) := Finset.sum_pos (fun j _ => Real.exp_pos _) Finset.univ_nonempty
  have hu : 0 < Real.exp (-u) := Real.exp_pos _
  simp only [he, hd, ← coe_sum, ← Finset.sum_mul]
  rw [Ideal.div_coe hz.ne', sum_mul_coe _ _ (by positivity)]
  refine Finset.sum_congr rfl fun j _ => ?_
  rw [Ideal.div_coe (mul_pos hz hu).ne', ← EReal.coe_mul, mul_comm _ (v j), mul_assoc, ← EReal.coe_mul]
  congr 2
  field_simp

/-! ## The rotary embedding -/

/-- A row turned by a quarter in each pair of neighbours. -/
def turn (t : Fin 128 → EReal) (d : Fin 128) : EReal :=
  if h : d.val % 2 = 0 then -(t ⟨d.val + 1, by omega⟩) else t ⟨d.val - 1, by omega⟩
def roped (t c s : Fin 128 → EReal) (d : Fin 128) : EReal := t d * c d + turn t d * s d

/-- The entries of the matrix that turns a row. -/
def rot (k d : Fin 128) : EReal :=
  if k.val = d.val + 1 ∧ d.val % 2 = 0 then -1 else if k.val + 1 = d.val ∧ d.val % 2 = 1 then 1 else 0

theorem sum_rot (t : Fin 128 → EReal) (d : Fin 128) : ∑ k, t k * rot k d = turn t d := by
  unfold turn
  split
  · rename_i h
    rw [Finset.sum_eq_single (⟨d.val + 1, by omega⟩ : Fin 128)]
    · unfold rot
      rw [if_pos ⟨rfl, h⟩, mul_neg, mul_one]
    · intro k _ hk
      unfold rot
      rw [if_neg fun hc => hk (Fin.ext hc.1), if_neg fun hc => by omega, mul_zero]
    · exact fun hc => absurd (Finset.mem_univ _) hc
  · rename_i h
    rw [Finset.sum_eq_single (⟨d.val - 1, by omega⟩ : Fin 128)]
    · unfold rot
      rw [if_neg fun hc => h hc.2, if_pos ⟨by show d.val - 1 + 1 = d.val; omega, by omega⟩, mul_one]
    · intro k _ hk
      unfold rot
      rw [if_neg fun hc => h hc.2, if_neg fun hc => hk (Fin.ext (by show k.val = d.val - 1; omega)), mul_zero]
    · exact fun hc => absurd (Finset.mem_univ _) hc

theorem IsReal.turn {t : Fin 128 → EReal} (ht : ∀ d, IsReal (t d)) (d : Fin 128) : IsReal (turn t d) := by
  unfold Softmax.turn
  split
  · exact (ht _).neg
  · exact ht _
theorem IsReal.roped {t c s : Fin 128 → EReal} (ht : ∀ d, IsReal (t d)) (hc : ∀ d, IsReal (c d)) (hs : ∀ d, IsReal (s d)) (d : Fin 128) :
    IsReal (roped t c s d) := ((ht d).mul (hc d)).add ((IsReal.turn ht d).mul (hs d))

/-! ## One head -/

/-- The scale of the scores: the nearest word to one over the square root of 128. -/
def scale : EReal := Ideal.ofBits .f32 0x3DB504F3#32

section head

variable (x : Fin 2048 → Fin 1024 → EReal) (wq wk wv : Fin 1024 → Fin 128 → EReal) (c s : Fin 2048 → Fin 128 → EReal)

def proj (w : Fin 1024 → Fin 128 → EReal) (i : Fin 2048) (d : Fin 128) : EReal := ∑ t, x i t * w t d
def score (i j : Fin 2048) : EReal :=
  (∑ d, roped (proj x wq i) (c i) (s i) d * roped (proj x wk j) (c j) (s j) d) * scale
/-- Row `i` of a head's result: the values weighted by the exponentials of the scores, over the sum of these. -/
def head (i : Fin 2048) (d : Fin 128) : EReal :=
  Ideal.div (∑ j, Ideal.exp (score x wq wk c s i j) * proj x wv j d) (∑ j, Ideal.exp (score x wq wk c s i j))

theorem scale_real : IsReal scale := ⟨_, by
  unfold scale Ideal.ofBits Ideal.ieee
  simp
  rfl⟩

theorem score_real (hx : ∀ i t, IsReal (x i t)) (hq : ∀ t d, IsReal (wq t d)) (hk : ∀ t d, IsReal (wk t d))
    (hc : ∀ i d, IsReal (c i d)) (hs : ∀ i d, IsReal (s i d)) (i j : Fin 2048) : IsReal (score x wq wk c s i j) :=
  (IsReal.sum fun d => (IsReal.roped (fun d => IsReal.sum fun t => (hx i t).mul (hq t d)) (hc i) (hs i) d).mul
    (IsReal.roped (fun d => IsReal.sum fun t => (hx j t).mul (hk t d)) (hc j) (hs j) d)).mul scale_real

/-- The same with the softmax first, as the reference has it. -/
theorem head_eq (hx : ∀ i t, IsReal (x i t)) (hq : ∀ t d, IsReal (wq t d)) (hk : ∀ t d, IsReal (wk t d))
    (hc : ∀ i d, IsReal (c i d)) (hs : ∀ i d, IsReal (s i d)) (i : Fin 2048) (d : Fin 128) :
    head x wq wk wv c s i d = ∑ j, proj x wv j d *
      Ideal.div (Ideal.exp (score x wq wk c s i j - (Finset.univ : Finset (Fin 2048)).fold max ⊥ (score x wq wk c s i)))
        (∑ k, Ideal.exp (score x wq wk c s i k - (Finset.univ : Finset (Fin 2048)).fold max ⊥ (score x wq wk c s i))) :=
  weighted (by norm_num) (fun j => score_real x wq wk c s hx hq hk hc hs i j) _
    (IsReal.fold_max (by norm_num) fun j => score_real x wq wk c s hx hq hk hc hs i j)

end head

end Cert.Softmax
-- ==== Proof.Turning.lean ====
/-
# The matrix that turns a row

The kernel turns the rows of its queries and keys by a product with a constant matrix, whose entries are found here.
-/
module

public import proofs.«01_k».proof.Proof.Softmax
public import proofs.«01_k».proof.KernelIdeal

@[expose] public section

noncomputable section

namespace Cert.AttentionKernel

open Cert.KernelIdeal
open Idealize.ShloMosaic
open Cert.Softmax

theorem word_eq : ∀ k d : Fin 128, lit0t (k.val * 128 + d.val)
    = if k.val = d.val + 1 ∧ d.val % 2 = 0 then 0xBF800000#32 else if k.val + 1 = d.val ∧ d.val % 2 = 1 then 0x3F800000#32 else 0#32 := by
  decide +kernel

end Cert.AttentionKernel
-- ==== Proof.AttentionKernel.lean ====
/-
# The attention's kernel, read at an index

At grid point `h` the kernel computes head `h`'s block of 128 columns, its rows in four pieces of 512.
-/
module

public import proofs.«01_k».proof.Proof.Turning
public import proofs.«01_k».proof.Proof.AttentionRegion
public import Idealize.ShloMosaic.Lib.ValueIdx
public import Idealize.ShloMosaic.Lib.Pipeline.Value
public import Idealize.ShloMosaic.Lib.Pipeline.ValueKit.Tiles
public import Idealize.ShloMosaic.Lib.Pipeline.ValueKit.Basic
public import Idealize.ShloMosaic.Lib.StableHlo.ReadAt

@[expose] public section

noncomputable section

namespace Cert.AttentionKernel

open Cert.KernelIdeal Cert.KernelIdeal.Gen Cert.KernelIdeal.Facts Cert.Attend
open Idealize.ShloMosaic
open Idealize.ShloMosaic.TcCoe
open Cert.Softmax

/-! ## One point -/

section point

variable (x0 : Vec Ideal S2048x1024 .bf16) (x1 x2 x3 w : Vec Ideal S1024x128 .f32) (x4 x5 : Vec Ideal S2048x128 .f32) (x6 : Vec Ideal S128x128 .f32)
variable (i : Fin 2048) (r : Fin 512) (d : Fin 128)

theorem q_apply (h6 : ∀ k d, x6 (ix2 k d) = rot k d) :
    k0_pay6 x0 x6 x4 x5 w (ix2 i d) = roped (proj (fun i t => x0 (ix2 i t)) (fun t d => w (ix2 t d)) i) (fun d => x4 (ix2 i d)) (fun d => x5 (ix2 i d)) d := by
  pointwise [k0_pay6, k0_pay2, k0_pay3, k0_pay4, k0_pay5]
  simp only [h6, sum_rot]
  rfl

theorem k_apply (h6 : ∀ k d, x6 (ix2 k d) = rot k d) :
    k0_pay7 x0 x6 x4 x5 w (ix2 i d) = roped (proj (fun i t => x0 (ix2 i t)) (fun t d => w (ix2 t d)) i) (fun d => x4 (ix2 i d)) (fun d => x5 (ix2 i d)) d := by
  pointwise [k0_pay7, k0_pay2, k0_pay3, k0_pay4, k0_pay5]
  simp only [h6, sum_rot]
  rfl

theorem v_apply : k0_pay8 x0 w (ix2 i d) = proj (fun i t => x0 (ix2 i t)) (fun t d => w (ix2 t d)) i d := by
  pointwise [k0_pay8, k0_pay2]
  rfl

/-- Rows of a head's result, from the head's queries, keys and values. -/
def rows (Q K V : FVec Ideal S2048x128 .bf16) (i : Fin 2048) (d : Fin 128) : EReal :=
  Ideal.div (∑ j : Fin 2048, Ideal.exp ((∑ e : Fin 128, Q (ix2 i e) * K (ix2 j e)) * scale) * V (ix2 j d))
    (∑ j : Fin 2048, Ideal.exp ((∑ e : Fin 128, Q (ix2 i e) * K (ix2 j e)) * scale))

variable (Q K V : FVec Ideal S2048x128 .bf16)

theorem rows0_apply : k0_pay10 V (k0_pay9 x0 x6 x4 x5 x1 x2) (ix2 r d)
    = rows (k0_pay6 x0 x6 x4 x5 x1) (k0_pay7 x0 x6 x4 x5 x2) V ⟨r.val, by omega⟩ d := by
  pointwise [k0_pay10, k0_pay9]
  rfl
theorem rows1_apply : k0_pay11 Q K V (ix2 r d) = rows Q K V ⟨512 + r.val, by omega⟩ d := by
  pointwise [k0_pay11]
  rfl
theorem rows2_apply : k0_pay12 Q K V (ix2 r d) = rows Q K V ⟨1024 + r.val, by omega⟩ d := by
  pointwise [k0_pay12]
  rfl
theorem rows3_apply : k0_pay1 V (k0_pay13 Q K) (k0_pay14 Q K) (ix2 r d) = rows Q K V ⟨1536 + r.val, by omega⟩ d := by
  pointwise [k0_pay1, k0_pay14, k0_pay13]
  rfl

theorem rows_eq (h6 : ∀ k d, x6 (ix2 k d) = rot k d) : rows (k0_pay6 x0 x6 x4 x5 x1) (k0_pay7 x0 x6 x4 x5 x2) (k0_pay8 x0 x3) i d
    = head (fun i t => x0 (ix2 i t)) (fun t d => x1 (ix2 t d)) (fun t d => x2 (ix2 t d)) (fun t d => x3 (ix2 t d)) (fun i d => x4 (ix2 i d)) (fun i d => x5 (ix2 i d)) i d := by
  unfold rows
  simp only [q_apply x0 _ x4 x5 x6 _ _ h6, k_apply x0 _ x4 x5 x6 _ _ h6, v_apply]
  rfl

theorem out_apply (h6 : ∀ k d, x6 (ix2 k d) = rot k d) : out0_7 x0 x1 x2 x3 x4 x5 x6 (ix2 i d)
    = head (fun i t => x0 (ix2 i t)) (fun t d => x1 (ix2 t d)) (fun t d => x2 (ix2 t d)) (fun t d => x3 (ix2 t d)) (fun i d => x4 (ix2 i d)) (fun i d => x5 (ix2 i d)) i d := by
  have l0 : View.ld x0 r0_0 = x0 := View.ld_unit_lit _ x0 (by decide)
  have l1 : View.ld x1 r0_3 = x1 := View.ld_unit_lit _ x1 (by decide)
  have l2 : View.ld x2 r0_3 = x2 := View.ld_unit_lit _ x2 (by decide)
  have l3 : View.ld x3 r0_3 = x3 := View.ld_unit_lit _ x3 (by decide)
  have l4 : View.ld x4 r0_2 = x4 := View.ld_unit_lit _ x4 (by decide)
  have l5 : View.ld x5 r0_2 = x5 := View.ld_unit_lit _ x5 (by decide)
  have l6 : View.ld x6 r0_1 = x6 := View.ld_unit_lit _ x6 (by decide)
  rw [← rows_eq x0 x1 x2 x3 x4 x5 x6 i d h6]
  unfold out0_7 pay13 pay14 pay15
  rw [l0, l1, l2, l3, l4, l5, l6]
  have at2 : ∀ x : S512x128.Idx, ∃ (r : Fin 512) (e : Fin 128), x = ix2 r e := fun x => ⟨⟨(x 0).val, (x 0).isLt⟩, ⟨(x 1).val, (x 1).isLt⟩, by
    funext a; fin_cases a <;> rfl⟩
  refine View.canon_eq_of_allAt _ _ _ (cover0_7 _ _ _ _ _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    obtain ⟨r, e, rfl⟩ := at2 x
    have h0 := hx 0
    have h1 := hx 1
  · obtain rfl : d = e := Fin.ext (h1.trans (Nat.zero_add _))
    rw [rows3_apply]
    congr 1
    exact Fin.ext h0.symm
  · obtain rfl : d = e := Fin.ext (h1.trans (Nat.zero_add _))
    rw [rows2_apply]
    congr 1
    exact Fin.ext h0.symm
  · obtain rfl : d = e := Fin.ext (h1.trans (Nat.zero_add _))
    rw [rows1_apply]
    congr 1
    exact Fin.ext h0.symm
  · obtain rfl : d = e := Fin.ext (h1.trans (Nat.zero_add _))
    rw [rows0_apply]
    congr 1
    exact Fin.ext (h0.trans (Nat.zero_add _)).symm

end point

/-! ## The matrix that turns a row -/

theorem lit_eq (k d : Fin 128) : Ideal.ofBits .f32 (lit0 (S128x128.rowMajor (ix2 k d))) = rot k d := by
  have h : lit0 (S128x128.rowMajor (ix2 k d)) = lit0t (k.val * 128 + d.val) := by
    show lit0t (S128x128.rowMajor (ix2 k d)).val = _
    rw [Shape.rowMajor_val_two (d := ![128, 128])]
    rfl
  rw [h, word_eq]
  unfold rot
  split
  · rw [show (-1 : EReal) = ((-(1 : ℝ) : ℝ) : EReal) by rw [EReal.coe_neg, EReal.coe_one]]
    simp [Ideal.ofBits, Ideal.ieee, -EReal.coe_mul, -EReal.coe_neg]; norm_num
  · split
    · exact Ideal.ofBits_one_f32
    · exact Ideal.ofBits_zero_f32

/-! ## The blocks of the arguments -/

section blocks

variable (m : (ℓ : Loc nD τ sig) → Buf (Elt Ideal) ℓ) (D : Dev nD → Idealize.ShloMosaic.CellTallies nD τ sig Unit) (c : Dev nD) (t : Fin cfg0.N)

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel
theorem index3 : ∀ t : Fin grid0.N, win0_3.index t = ![0, t.val] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, t.val] := by decide +kernel

/-- Point `t` computes head `t`; its coordinate `d` is this column. -/
def col (t : Fin cfg0.N) (d : Fin 128) : Fin 1024 := ⟨t.val * 128 + d.val, by have : t.val < 8 := t.isLt; omega⟩

/-- An argument's array is as launched when the call finds it. -/
theorem V_arg (r : Ref sig .tc) (h : r ∉ hostOps0_W) : V1 m c r = m ((c : Thread nD τ).loc r) := (V1_of m c r h).trans rfl

theorem block1 (k : Fin 1024) (d : Fin 128) : iblk m c 1 t (ix2 k d) = m ((c : Thread nD τ).loc main_arg1) (ix2 k (col t d)) := by
  rw [← V_arg m c main_arg1 (by decide)]
  show V1 m c main_arg1 _ = V1 m c main_arg1 _
  refine congrArg (V1 m c main_arg1) (funext fun a => Fin.ext ?_)
  fin_cases a
  · show win0_1.index t 0 * 1024 + 1 * k.val = k.val
    rw [index1]; show 0 * 1024 + 1 * k.val = k.val; omega
  · show win0_1.index t 1 * 128 + 1 * d.val = t.val * 128 + d.val
    rw [index1]; show t.val * 128 + 1 * d.val = t.val * 128 + d.val; omega
theorem block2 (k : Fin 1024) (d : Fin 128) : iblk m c 2 t (ix2 k d) = m ((c : Thread nD τ).loc main_arg2) (ix2 k (col t d)) := by
  rw [← V_arg m c main_arg2 (by decide)]
  show V1 m c main_arg2 _ = V1 m c main_arg2 _
  refine congrArg (V1 m c main_arg2) (funext fun a => Fin.ext ?_)
  fin_cases a
  · show win0_2.index t 0 * 1024 + 1 * k.val = k.val
    rw [index2]; show 0 * 1024 + 1 * k.val = k.val; omega
  · show win0_2.index t 1 * 128 + 1 * d.val = t.val * 128 + d.val
    rw [index2]; show t.val * 128 + 1 * d.val = t.val * 128 + d.val; omega
theorem block3 (k : Fin 1024) (d : Fin 128) : iblk m c 3 t (ix2 k d) = m ((c : Thread nD τ).loc main_arg3) (ix2 k (col t d)) := by
  rw [← V_arg m c main_arg3 (by decide)]
  show V1 m c main_arg3 _ = V1 m c main_arg3 _
  refine congrArg (V1 m c main_arg3) (funext fun a => Fin.ext ?_)
  fin_cases a
  · show win0_3.index t 0 * 1024 + 1 * k.val = k.val
    rw [index3]; show 0 * 1024 + 1 * k.val = k.val; omega
  · show win0_3.index t 1 * 128 + 1 * d.val = t.val * 128 + d.val
    rw [index3]; show t.val * 128 + 1 * d.val = t.val * 128 + d.val; omega
theorem block4 (i : Fin 2048) (d : Fin 128) : iblk m c 4 t (ix2 i d) = m ((c : Thread nD τ).loc main_arg5) (ix2 i d) := by
  rw [← V_arg m c main_arg5 (by decide)]
  show V1 m c main_arg5 _ = V1 m c main_arg5 _
  refine congrArg (V1 m c main_arg5) (funext fun a => Fin.ext ?_)
  fin_cases a
  · show win0_4.index t 0 * 2048 + 1 * i.val = i.val
    rw [index4]; show 0 * 2048 + 1 * i.val = i.val; omega
  · show win0_4.index t 1 * 128 + 1 * d.val = d.val
    rw [index4]; show 0 * 128 + 1 * d.val = d.val; omega
theorem block5 (i : Fin 2048) (d : Fin 128) : iblk m c 5 t (ix2 i d) = m ((c : Thread nD τ).loc main_arg6) (ix2 i d) := by
  rw [← V_arg m c main_arg6 (by decide)]
  show V1 m c main_arg6 _ = V1 m c main_arg6 _
  refine congrArg (V1 m c main_arg6) (funext fun a => Fin.ext ?_)
  fin_cases a
  · show win0_5.index t 0 * 2048 + 1 * i.val = i.val
    rw [index5]; show 0 * 2048 + 1 * i.val = i.val; omega
  · show win0_5.index t 1 * 128 + 1 * d.val = d.val
    rw [index5]; show 0 * 128 + 1 * d.val = d.val; omega

theorem V_x (i : Fin 2048) (k : Fin 1024) : V1 m c main_v2 (ix2 i k) = m ((c : Thread nD τ).loc main_arg0) (ix3 0 i k) := by
  unfold V1
  after_reads_at
theorem V_rot (k d : Fin 128) : V1 m c main_cst (ix2 k d) = rot k d := by
  unfold V1
  after_reads_simp
  exact lit_eq k d

theorem block0 (i : Fin 2048) (k : Fin 1024) : iblk m c 0 t (ix2 i k) = m ((c : Thread nD τ).loc main_arg0) (ix3 0 i k) := by
  rw [← V_x m c]
  show V1 m c main_v2 _ = V1 m c main_v2 _
  refine congrArg (V1 m c main_v2) (funext fun a => Fin.ext ?_)
  fin_cases a
  · show win0_0.index t 0 * 2048 + 1 * i.val = i.val
    rw [index0]; show 0 * 2048 + 1 * i.val = i.val; omega
  · show win0_0.index t 1 * 1024 + 1 * k.val = k.val
    rw [index0]; show 0 * 1024 + 1 * k.val = k.val; omega
theorem block6 (k d : Fin 128) : iblk m c 6 t (ix2 k d) = rot k d := by
  rw [← V_rot m c]
  show V1 m c main_cst _ = V1 m c main_cst _
  refine congrArg (V1 m c main_cst) (funext fun a => Fin.ext ?_)
  fin_cases a
  · show win0_6.index t 0 * 128 + 1 * k.val = k.val
    rw [index6]; show 0 * 128 + 1 * k.val = k.val; omega
  · show win0_6.index t 1 * 128 + 1 * d.val = d.val
    rw [index6]; show 0 * 128 + 1 * d.val = d.val; omega

/-! ## The result's blocks -/

/-- What point `t` writes back is the body's result of the operands' blocks, -/
theorem flushed7 : (adat m D c).flushed 7 t
    = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((adat m D c).after 7 t) = _
  rw [after0_7]
/-- and no two points write one place. -/
theorem idx_inj7 : ∀ t t' : Fin cfg0.N, win0_7.index t = win0_7.index t' → t = t' :=
  (by decide +kernel : ∀ t t' : Fin grid0.N, win0_7.index t = win0_7.index t' → t = t')
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)
theorem blocks7 (hf : (cfg0.win 7).flush t = true) :
    ((cfg0.win 7).blk t).view.read (Elt Ideal) ((adat m D c).arrAt 7 cfg0.N) = (adat m D c).flushed 7 t :=
  (adat m D c).read_blk_arrAt_eq_flushed 7 disjoint7 cfg0.N t t.isLt hf

/-- The result, head by head. -/
theorem final_apply (i : Fin 2048) (d : Fin 128) : (adat m D c).arrAt 7 cfg0.N (ix2 i (col t d))
    = head (fun i k => m ((c : Thread nD τ).loc main_arg0) (ix3 0 i k)) (fun k d => m ((c : Thread nD τ).loc main_arg1) (ix2 k (col t d)))
        (fun k d => m ((c : Thread nD τ).loc main_arg2) (ix2 k (col t d))) (fun k d => m ((c : Thread nD τ).loc main_arg3) (ix2 k (col t d)))
        (fun i d => m ((c : Thread nD τ).loc main_arg5) (ix2 i d)) (fun i d => m ((c : Thread nD τ).loc main_arg6) (ix2 i d)) i d := by
  have hb := congrFun (blocks7 m D c t (flush0_7 t)) (ix2 i d)
  rw [flushed7 m D c t] at hb
  have ho := out_apply (iblk m c 0 t) (iblk m c 1 t) (iblk m c 2 t) (iblk m c 3 t) (iblk m c 4 t) (iblk m c 5 t) (iblk m c 6 t) i d (block6 m c t)
  simp only [block0, block1, block2, block3, block4, block5] at ho
  refine Eq.trans (Eq.trans ?_ hb) ho
  show (adat m D c).arrAt 7 cfg0.N _ = (adat m D c).arrAt 7 cfg0.N _
  refine congrArg ((adat m D c).arrAt 7 cfg0.N) (funext fun a => Fin.ext ?_)
  fin_cases a
  · show i.val = win0_7.index t 0 * 2048 + 1 * i.val
    rw [index7]; show i.val = 0 * 2048 + 1 * i.val; omega
  · show t.val * 128 + d.val = win0_7.index t 1 * 128 + 1 * d.val
    rw [index7]; show t.val * 128 + d.val = t.val * 128 + 1 * d.val; omega

end blocks

end Cert.AttentionKernel
-- ==== Proof.AttentionReference.lean ====
/-
# The reference, read at an index

Its operations in order, each read at an index: the projections cut into sixty-four heads, the rotary embedding, the scores
and their softmax, the weighted sum of the values, and the product with the output weights.
-/
module

public import proofs.«01_k».proof.Proof.Softmax
public import proofs.«01_k».proof.Proof.Gen.ReferenceIdeal.Run
public import Idealize.ShloMosaic.Lib.ValueIdx

@[expose] public section

noncomputable section

namespace Cert.AttentionReference

open Cert.ReferenceIdeal Cert.ReferenceIdeal.Gen Cert.ReferenceIdeal.Facts
open Idealize.ShloMosaic
open Cert.Softmax

variable (X : FVec Ideal S1x2048x1024 .f32) (Wq Wk Wv W : FVec Ideal S1024x8192 .f32) (C S : FVec Ideal S2048x128 .f32)

/-- A projection, cut into heads. -/
def projected : FVec Ideal S1x2048x64x128 .f32 :=
  shapeCast _ (Host.dotGeneral dot_S1x2048x1024_S1024x8192_S1x2048x8192_2_0_01_1_n_n none X W) shapeCasts_S1x2048x8192_S1x2048x64x128
def pairs (T : FVec Ideal S1x2048x64x128 .f32) : FVec Ideal S1x2048x64x64x2 .f32 := shapeCast _ T shapeCasts_S1x2048x64x128_S1x2048x64x64x2
def odds (T : FVec Ideal S1x2048x64x64x2 .f32) : FVec Ideal S1x2048x64x64 .f32 :=
  shapeCast _ (extractStridedSlice S1x2048x64x64x1 ![0, 0, 0, 0, 1] T slices_S1x2048x64x64x2_S1x2048x64x64x1_0_0_0_0_1) shapeCasts_S1x2048x64x64x1_S1x2048x64x64
def evens (T : FVec Ideal S1x2048x64x64x2 .f32) : FVec Ideal S1x2048x64x64 .f32 :=
  shapeCast _ (extractStridedSlice S1x2048x64x64x1 ![0, 0, 0, 0, 0] T slices_S1x2048x64x64x2_S1x2048x64x64x1_0_0_0_0_0) shapeCasts_S1x2048x64x64x1_S1x2048x64x64
def turned (T : FVec Ideal S1x2048x64x128 .f32) : FVec Ideal S1x2048x64x128 .f32 :=
  shapeCast _ (concatenate S1x2048x64x64x2 4 [⟨S1x2048x64x64x1, (broadcastInDim S1x2048x64x64x1 ![0, 1, 2, 3] bcast_S1x2048x64x64_S1x2048x64x64x1_0_1_2_3 (Host.negf (odds (pairs T))))⟩,
    ⟨S1x2048x64x64x1, (broadcastInDim S1x2048x64x64x1 ![0, 1, 2, 3] bcast_S1x2048x64x64_S1x2048x64x64x1_0_1_2_3 (evens (pairs T)))⟩]
    concatenates_S1x2048x64x64x1_S1x2048x64x64x1_S1x2048x64x64x2_d4) shapeCasts_S1x2048x64x64x2_S1x2048x64x128
def table (C : FVec Ideal S2048x128 .f32) : FVec Ideal S1x2048x64x128 .f32 :=
  broadcastInDim S1x2048x64x128 ![0, 1, 2, 3] bcast_S1x2048x1x128_S1x2048x64x128_0_1_2_3 (broadcastInDim S1x2048x1x128 ![1, 3] bcast_S2048x128_S1x2048x1x128_1_3 C)
def rotated (T : FVec Ideal S1x2048x64x128 .f32) : FVec Ideal S1x2048x64x128 .f32 := addf (mulf T (table C)) (mulf (turned T) (table S))
def scores (Q K : FVec Ideal S1x2048x64x128 .f32) : FVec Ideal S1x64x2048x2048 .f32 :=
  mulf (Host.dotGeneral dot_S1x2048x64x128_S1x2048x64x128_S1x64x2048x2048_3_3_1_1_02_02 none Q K) (broadcastInDim S1x64x2048x2048 ![] bcast_S_S1x64x2048x2048 (constant S_ .f32 0x3DB504F3#32))
def widened (T : FVec Ideal S1x64x2048 .f32) : FVec Ideal S1x64x2048x2048 .f32 :=
  broadcastInDim S1x64x2048x2048 ![0, 1, 2, 3] bcast_S1x64x2048x1_S1x64x2048x2048_0_1_2_3 (broadcastInDim S1x64x2048x1 ![0, 1, 2] bcast_S1x64x2048_S1x64x2048x1_0_1_2 T)
def exps (T : FVec Ideal S1x64x2048x2048 .f32) : FVec Ideal S1x64x2048x2048 .f32 :=
  Host.exp (subf T (widened (Host.reduce FloatOps.maximumf T (constant S_ .f32 0xFF800000#32) reducesTo_S1x64x2048x2048_S1x64x2048_d3 h_S_)))
def weights (E : FVec Ideal S1x64x2048x2048 .f32) : FVec Ideal S1x64x2048x2048 .f32 :=
  Host.divf E (widened (Host.reduceAdd E (constant S_ .f32 0x00000000#32) reducesTo_S1x64x2048x2048_S1x64x2048_d3 h_S_))
def gathered (V : FVec Ideal S1x2048x64x128 .f32) (A : FVec Ideal S1x64x2048x2048 .f32) : FVec Ideal S1x2048x8192 .f32 :=
  shapeCast _ (transpose S1x2048x64x128 [0, 3, 1, 2] (Host.dotGeneral dot_S1x2048x64x128_S1x64x2048x2048_S1x64x128x2048_1_3_3_2_02_01 none V A) transposes_S1x64x128x2048_S1x2048x64x128_0_3_1_2) shapeCasts_S1x2048x64x128_S1x2048x8192

/-- The reference's attention, of its arguments. -/
def result : FVec Ideal S1x2048x8192 .f32 :=
  gathered (projected X Wv) (weights (exps (scores (rotated C S (projected X Wq)) (rotated C S (projected X Wk)))))

/-- The product with the output weights, its rows cut into eight chunks. -/
def projectedOut (T : FVec Ideal S1x2048x8192 .f32) (O : FVec Ideal S8192x1024 .f32) : FVec Ideal S8x256x1024 .f32 :=
  shapeCast _ (Host.dotGeneral dot_S1x2048x8192_S8192x1024_S1x2048x1024_2_0_01_1_n_n none T O) shapeCasts_S1x2048x1024_S8x256x1024

theorem res_eq (m : (ℓ : Loc nD τ sig) → Buf (Elt Ideal) ℓ) (c : Dev nD) :
    Value.res_main_v56 m c = projectedOut (result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) (m ((c.tc : Thread nD τ).loc main_arg6))) (m ((c.tc : Thread nD τ).loc main_arg4)) := rfl

/-! ## At an index -/

variable (i j : Fin 2048) (h : Fin 64) (d : Fin 128)

/-- The column of head `h`'s coordinate `d`. -/
def col (h : Fin 64) (d : Fin 128) : Fin 8192 := ⟨h.val * 128 + d.val, by omega⟩

theorem projected_apply : projected X W (ix4 0 i h d) = ∑ t : Fin 1024, X (ix3 0 i t) * W (ix2 t (col h d)) := by
  pointwise [projected]
  rfl

theorem table_apply : table C (ix4 0 i h d) = C (ix2 i d) := by
  pointwise [table]

theorem turned_apply (T : FVec Ideal S1x2048x64x128 .f32) : turned T (ix4 0 i h d) = turn (fun e => T (ix4 0 i h e)) d := by
  pointwise [turned, odds, evens, pairs]
  unfold turn
  by_cases h0 : d.val % 2 = 0
  · have h1 : d.val % 2 < 1 := by omega
    rw [dif_pos h1, dif_pos h0]
    refine congrArg (fun e => -(T (ix4 0 i h e))) (Fin.ext ?_)
    show d.val / 2 * 2 + 1 = d.val + 1
    omega
  · have h1 : ¬ d.val % 2 < 1 := by omega
    rw [dif_neg h1, dif_neg h0]
    refine congrArg (fun e => T (ix4 0 i h e)) (Fin.ext ?_)
    show d.val / 2 * 2 = d.val - 1
    omega

theorem rotated_apply (T : FVec Ideal S1x2048x64x128 .f32) :
    rotated C S T (ix4 0 i h d) = roped (fun e => T (ix4 0 i h e)) (fun e => C (ix2 i e)) (fun e => S (ix2 i e)) d := by
  show (T (ix4 0 i h d) : EReal) * table C (ix4 0 i h d) + turned T (ix4 0 i h d) * table S (ix4 0 i h d) = _
  rw [table_apply, table_apply, turned_apply]
  rfl

theorem scores_apply (Q K : FVec Ideal S1x2048x64x128 .f32) : scores Q K (ix4 0 h i j) = (∑ d : Fin 128, Q (ix4 0 i h d) * K (ix4 0 j h d)) * scale := by
  pointwise [scores]
  rfl

theorem exps_apply (T : FVec Ideal S1x64x2048x2048 .f32) :
    exps T (ix4 0 h i j) = Ideal.exp (T (ix4 0 h i j) - (Finset.univ : Finset (Fin 2048)).fold max ⊥ fun k => T (ix4 0 h i k)) := by
  pointwise [exps, widened]
  rw [show Ideal.ofBits .f32 4286578688#32 = ⊥ by simp [Ideal.ofBits, Ideal.ieee]]

theorem weights_apply (T : FVec Ideal S1x64x2048x2048 .f32) : weights T (ix4 0 h i j) = Ideal.div (T (ix4 0 h i j)) (∑ k : Fin 2048, T (ix4 0 h i k)) := by
  pointwise [weights, widened]

theorem gathered_apply (V : FVec Ideal S1x2048x64x128 .f32) (A : FVec Ideal S1x64x2048x2048 .f32) :
    gathered V A (ix3 0 i (col h d)) = ∑ j : Fin 2048, V (ix4 0 j h d) * A (ix4 0 h i j) := by
  pointwise [gathered]
  have h1 : (⟨(col h d).val / 128, by have := (col h d).isLt; omega⟩ : Fin 64) = h := Fin.ext (by show (h.val * 128 + d.val) / 128 = h.val; omega)
  have h2 : (⟨(col h d).val % 128, by omega⟩ : Fin 128) = d := Fin.ext (by show (h.val * 128 + d.val) % 128 = d.val; omega)
  simp only [h1, h2]

theorem projectedOut_apply (T : FVec Ideal S1x2048x8192 .f32) (O : FVec Ideal S8192x1024 .f32) (k : Fin 8) (r : Fin 256) (q : Fin 1024) :
    projectedOut T O (ix3 k r q) = ∑ t : Fin 8192, T (ix3 0 (⟨256 * k.val + r.val, by omega⟩ : Fin 2048) t) * O (ix2 t q) := by
  have hz : Shape.reshapeEquiv shapeCasts_S1x2048x1024_S8x256x1024 (ix3 k r q) = ix3 0 (⟨256 * k.val + r.val, by omega⟩ : Fin 2048) q :=
    Shape.reshapeEquiv_eq_of_rowMajor _ (by
      refine (Shape.rowMajor_val_three (d := ![1, 2048, 1024]) _).trans (Eq.trans ?_ (Shape.rowMajor_val_three (d := ![8, 256, 1024]) _).symm)
      show (0 * 2048 + (256 * k.val + r.val)) * 1024 + q.val = (k.val * 256 + r.val) * 1024 + q.val
      omega)
  show Host.dotGeneral dot_S1x2048x8192_S8192x1024_S1x2048x1024_2_0_01_1_n_n none T O (Shape.reshapeEquiv shapeCasts_S1x2048x1024_S8x256x1024 (ix3 k r q)) = _
  rw [hz]
  pointwise []

/-! ## The attention, head by head -/

section result

variable (hX : ∀ i, IsReal (X i)) (hq : ∀ t d, IsReal (Wq (ix2 t (col h d)))) (hk : ∀ t d, IsReal (Wk (ix2 t (col h d)))) (hC : ∀ i, IsReal (C i)) (hS : ∀ i, IsReal (S i))
include hX hq hk hC hS

theorem result_apply : result X Wq Wk Wv C S (ix3 0 i (col h d))
    = head (fun i t => X (ix3 0 i t)) (fun t d => Wq (ix2 t (col h d))) (fun t d => Wk (ix2 t (col h d))) (fun t d => Wv (ix2 t (col h d)))
        (fun i d => C (ix2 i d)) (fun i d => S (ix2 i d)) i d := by
  rw [head_eq _ _ _ _ _ _ (fun i t => hX _) hq hk (fun i d => hC _) (fun i d => hS _)]
  unfold result
  rw [gathered_apply]
  refine Finset.sum_congr rfl fun j _ => ?_
  have hs : ∀ i j : Fin 2048, scores (rotated C S (projected X Wq)) (rotated C S (projected X Wk)) (ix4 0 h i j)
      = score (fun i t => X (ix3 0 i t)) (fun t d => Wq (ix2 t (col h d))) (fun t d => Wk (ix2 t (col h d)))
        (fun i d => C (ix2 i d)) (fun i d => S (ix2 i d)) i j := fun i j => by
    rw [scores_apply]
    unfold score
    refine congrArg (· * scale) (Finset.sum_congr rfl fun d _ => ?_)
    rw [rotated_apply, rotated_apply]
    simp only [projected_apply]
    rfl
  rw [weights_apply, projected_apply]
  simp only [exps_apply, hs]
  rfl

end result

end Cert.AttentionReference
-- ==== Proof.AttentionValue.lean ====
/-
# Kernel against reference

The precondition read as what it says of each array; then each device's attention is its block of the reference's columns,
so the sum of the devices' products is the reference's result.
-/
module

public import proofs.«01_k».proof.Proof.AttentionKernel
public import proofs.«01_k».proof.Proof.AttentionReference
public import proofs.«01_k».proof.Proof.Value
public import proofs.«01_k».proof.Proof.Gen.Pre_tables_and_inputs_finite_KernelIdeal

@[expose] public section

noncomputable section

namespace Cert.AttentionValue

open Idealize.ShloMosaic
open Cert.Softmax

/-! ## The precondition -/

theorem andi_split {s : Shape} (a b : IVec s 1) (i : s.Idx) (h : andi a b i = 1#1) : a i = 1#1 ∧ b i = 1#1 :=
  IntOp.andi_eq_one.1 h

theorem infinity : Ideal.ofBits .f32 0x7F800000#32 = ⊤ := by simp [Ideal.ofBits, Ideal.ieee]

/-- An element whose magnitude lies below the infinity is a real number. -/
theorem isReal_of_lt {u s : Shape} {dims : Fin u.rank → Fin s.rank} (hb : u.BroadcastsInDim s dims) (x : FVec Ideal s .f32) (i : s.Idx)
    (h : cmpf .olt (Host.absf x) (broadcastInDim s dims hb (constant u .f32 0x7F800000#32)) i = 1#1) : IsReal (x i) := by
  refine IsReal.of_abs_lt ?_
  have h' : BitVec.ofBool (decide (max (x i) (-(x i)) < Ideal.ofBits .f32 0x7F800000#32)) = 1#1 := h
  rw [infinity] at h'
  by_contra hn
  rw [decide_eq_false hn] at h'
  exact absurd h' (by decide)

open Cert.Pre_tables_and_inputs_finite_KernelIdeal in
theorem finite (x : FVec Ideal S1x2048x1024 .f32) (q k v o : FVec Ideal S1024x1024 .f32) (C S : FVec Ideal S2048x128 .f32)
    (h : fn (F := Ideal) x q k v o C S = fun _ => 1#1) :
    (∀ i, IsReal (x i)) ∧ (∀ i, IsReal (q i)) ∧ (∀ i, IsReal (k i)) ∧ (∀ i, IsReal (C i)) ∧ ∀ i, IsReal (S i) := by
  haveI : Subsingleton S_.Idx := ⟨fun a b => funext fun t => t.elim0⟩
  have h0 := congrFun h (Shape.Idx.first Facts.h_S_)
  unfold fn fn_part1 at h0
  obtain ⟨h0, h5⟩ := andi_split _ _ _ h0
  obtain ⟨h0, h4⟩ := andi_split _ _ _ h0
  obtain ⟨h0, h2⟩ := andi_split _ _ _ h0
  obtain ⟨h0, h1⟩ := andi_split _ _ _ h0
  exact ⟨fun i => isReal_of_lt _ x i (Host.reduce_andi_all _ _ _ _ _ h0 i), fun i => isReal_of_lt _ q i (Host.reduce_andi_all _ _ _ _ _ h1 i),
    fun i => isReal_of_lt _ k i (Host.reduce_andi_all _ _ _ _ _ h2 i), fun i => isReal_of_lt _ C i (Host.reduce_andi_all _ _ _ _ _ h4 i),
    fun i => isReal_of_lt _ S i (Host.reduce_andi_all _ _ _ _ _ h5 i)⟩

/-! ## The result -/

section result

open Cert.KernelIdeal Cert.KernelIdeal.Gen Cert.Exchange

variable (m : (ℓ : Loc nD τ sig) → Buf (Elt Ideal) ℓ)
variable (X : FVec Ideal S1x2048x1024 .f32) (Wq Wk Wv : FVec Ideal ⟨2, ![1024, 8192]⟩ .f32) (O : FVec Ideal ⟨2, ![8192, 1024]⟩ .f32)
variable (C S : FVec Ideal S2048x128 .f32)

/-- A device's column among the whole array's. -/
def wide (c : Dev nD) (n : Fin 1024) : Fin 8192 := ⟨c.val * 1024 + n.val, by have : c.val < 8 := c.isLt; omega⟩

theorem cols_apply (c : Dev nD) (W : FVec Ideal ⟨2, ![1024, 8192]⟩ .f32) (k n : Fin 1024) :
    Layout.block ⟨2, ![1024, 1024]⟩ ⟨2, ![1024, 8192]⟩ 1 8 c W (by decide) (ix2 k n) = W (ix2 k (wide c n)) := by
  rw [Layout.block_apply]
  refine congrArg W (funext fun a => Fin.ext ?_)
  fin_cases a <;> rfl
theorem rows_apply (c : Dev nD) (W : FVec Ideal ⟨2, ![8192, 1024]⟩ .f32) (n k : Fin 1024) :
    Layout.block ⟨2, ![1024, 1024]⟩ ⟨2, ![8192, 1024]⟩ 0 8 c W (by decide) (ix2 n k) = W (ix2 (wide c n) k) := by
  rw [Layout.block_apply]
  refine congrArg W (funext fun a => Fin.ext ?_)
  fin_cases a <;> rfl

/-- With the precondition a device's attention is its columns of the reference's. -/
theorem context_apply (c : Dev nD)
    (h : Cert.Pre_tables_and_inputs_finite_KernelIdeal.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1)
    (h0 : m ((c.tc : Thread nD τ).loc main_arg0) = X)
    (h1 : m ((c.tc : Thread nD τ).loc main_arg1) = Layout.block ⟨2, ![1024, 1024]⟩ ⟨2, ![1024, 8192]⟩ 1 8 c Wq)
    (h2 : m ((c.tc : Thread nD τ).loc main_arg2) = Layout.block ⟨2, ![1024, 1024]⟩ ⟨2, ![1024, 8192]⟩ 1 8 c Wk)
    (h3 : m ((c.tc : Thread nD τ).loc main_arg3) = Layout.block ⟨2, ![1024, 1024]⟩ ⟨2, ![1024, 8192]⟩ 1 8 c Wv)
    (h5 : m ((c.tc : Thread nD τ).loc main_arg5) = C) (h6 : m ((c.tc : Thread nD τ).loc main_arg6) = S) (i : Fin 2048) (n : Fin 1024) :
    (context m c (ix2 i n) : EReal) = Cert.AttentionReference.result X Wq Wk Wv C S (ix3 0 i (wide c n)) := by
  obtain ⟨hX, hq, hk, hC, hS⟩ := finite _ _ _ _ _ _ _ h
  have hc : c.val < 8 := c.isLt
  let t : Fin 8 := ⟨n.val / 128, by omega⟩
  let d : Fin 128 := ⟨n.val % 128, Nat.mod_lt _ (by norm_num)⟩
  let g : Fin 64 := ⟨c.val * 8 + n.val / 128, by omega⟩
  have hn : n = Cert.AttentionKernel.col t d := Fin.ext (by show n.val = n.val / 128 * 128 + n.val % 128; omega)
  have hg : ∀ e, wide c (Cert.AttentionKernel.col t e) = Cert.AttentionReference.col g e := fun e =>
    Fin.ext (by show c.val * 1024 + (n.val / 128 * 128 + e.val) = (c.val * 8 + n.val / 128) * 128 + e.val; omega)
  have q1 : ∀ k e, m ((c.tc : Thread nD τ).loc main_arg1) (ix2 k (Cert.AttentionKernel.col t e)) = Wq (ix2 k (Cert.AttentionReference.col g e)) := fun k e => by
    rw [h1, ← hg]; exact cols_apply c Wq k _
  have q2 : ∀ k e, m ((c.tc : Thread nD τ).loc main_arg2) (ix2 k (Cert.AttentionKernel.col t e)) = Wk (ix2 k (Cert.AttentionReference.col g e)) := fun k e => by
    rw [h2, ← hg]; exact cols_apply c Wk k _
  have q3 : ∀ k e, m ((c.tc : Thread nD τ).loc main_arg3) (ix2 k (Cert.AttentionKernel.col t e)) = Wv (ix2 k (Cert.AttentionReference.col g e)) := fun k e => by
    rw [h3, ← hg]; exact cols_apply c Wv k _
  have hw : wide c n = Cert.AttentionReference.col g d := (congrArg (wide c) hn).trans (hg d)
  rw [hw, Cert.AttentionReference.result_apply X Wq Wk Wv C S i g d (h0 ▸ hX) (fun k e => (q1 k e) ▸ hq _) (fun k e => (q2 k e) ▸ hk _) (h5 ▸ hC) (h6 ▸ hS)]
  refine (congrArg (fun n => (context m c (ix2 i n) : EReal)) hn).trans ((Cert.AttentionKernel.final_apply m Owe₀ c t i d).trans ?_)
  simp only [q1, q2, q3]
  subst h0 h5 h6
  rfl

/-- What every device ends with is the reference's result. -/
theorem res_eq (c : Dev nD)
    (hx : ∀ (d : Dev nD) (i : Fin 2048) (n : Fin 1024), (context m d (ix2 i n) : EReal) = Cert.AttentionReference.result X Wq Wk Wv C S (ix3 0 i (wide d n)))
    (h4 : ∀ d : Dev nD, m ((d.tc : Thread nD τ).loc main_arg4) = Layout.block ⟨2, ![1024, 1024]⟩ ⟨2, ![8192, 1024]⟩ 0 8 d O) :
    res (context m) (fun d : Dev nD => m ((d.tc : Thread nD τ).loc main_arg4)) c
      = Cert.AttentionReference.projectedOut (Cert.AttentionReference.result X Wq Wk Wv C S) O := by
  refine funext fun i : S8x256x1024.Idx => ?_
  have hi : i = ix3 (chunk i) (row i) (col i) := by funext a; fin_cases a <;> rfl
  refine (res_apply _ _ c i).trans (Eq.trans ?_ (congrArg (Cert.AttentionReference.projectedOut (Cert.AttentionReference.result X Wq Wk Wv C S) O) hi).symm)
  rw [Cert.AttentionReference.projectedOut_apply, sum_blocks]
  refine Finset.sum_congr (M := EReal) rfl fun d _ => (prod_apply _ _ d (chunk i) (row i) (col i)).trans ?_
  unfold rowcol
  refine Finset.sum_congr (M := EReal) rfl fun t _ => congrArg₂ (fun a b : EReal => a * b) ?_ ?_
  · refine Eq.trans ?_ (hx d _ t)
    exact congrArg (context m d) (funext fun a => by fin_cases a <;> rfl)
  · rw [h4 d]
    refine Eq.trans ?_ (rows_apply d O t (col i))
    exact congrArg _ (funext fun a => by fin_cases a <;> rfl)

end result

end Cert.AttentionValue
-- ==== Proof.OneDeviceKernel.lean ====
/-
# The attention alone, its kernel read at an index

The attention on one device, without the exchange after it: what a grid point computes and where its blocks come from.
Its rows and its turning matrix are the whole kernel's.
-/
module

public import proofs.«01_k».proof.Proof.AttentionKernel
public import proofs.«01_k».proof.Proof.Gen.AttentionIdeal.Value
public import Idealize.ShloMosaic.Lib.StableHlo.ReadAt

@[expose] public section

noncomputable section

namespace Cert.OneDeviceKernel

open Cert.AttentionIdeal Cert.AttentionIdeal.Gen Cert.AttentionIdeal.Facts
open Idealize.ShloMosaic
open Idealize.ShloMosaic.TcCoe
open Cert.Softmax
open Cert.AttentionKernel (rows)

/-! ## One point -/

section point

variable (x0 : Vec Ideal S2048x1024 .bf16) (x1 x2 x3 w : Vec Ideal S1024x128 .f32) (x4 x5 : Vec Ideal S2048x128 .f32) (x6 : Vec Ideal S128x128 .f32)
variable (i : Fin 2048) (r : Fin 512) (d : Fin 128)

theorem q_apply (h6 : ∀ k d, x6 (ix2 k d) = rot k d) :
    k0_pay3 x0 x6 x4 x5 w (ix2 i d) = roped (proj (fun i t => x0 (ix2 i t)) (fun t d => w (ix2 t d)) i) (fun d => x4 (ix2 i d)) (fun d => x5 (ix2 i d)) d := by
  pointwise [k0_pay3, k0_pay1, k0_pay2]
  simp only [h6, sum_rot]
  rfl

theorem k_apply (h6 : ∀ k d, x6 (ix2 k d) = rot k d) :
    k0_pay4 x0 x6 x4 x5 w (ix2 i d) = roped (proj (fun i t => x0 (ix2 i t)) (fun t d => w (ix2 t d)) i) (fun d => x4 (ix2 i d)) (fun d => x5 (ix2 i d)) d := by
  pointwise [k0_pay4, k0_pay1, k0_pay2]
  simp only [h6, sum_rot]
  rfl

theorem v_apply : k0_pay5 x0 w (ix2 i d) = proj (fun i t => x0 (ix2 i t)) (fun t d => w (ix2 t d)) i d := by
  pointwise [k0_pay5, k0_pay1]
  rfl

variable (Q K V : FVec Ideal S2048x128 .bf16)

theorem rows0_apply : k0_pay9 V (k0_pay7 x0 x6 x4 x5 x1 x2) (k0_pay8 x0 x6 x4 x5 x1 x2) (constant S512x128 .f32 0x00000000#32) (ix2 r d)
    = rows (k0_pay3 x0 x6 x4 x5 x1) (k0_pay4 x0 x6 x4 x5 x2) V ⟨r.val, by omega⟩ d := by
  pointwise [k0_pay9, k0_pay7, k0_pay8, k0_pay6]
  rfl
theorem rows1_apply : k0_pay10 Q K V (ix2 r d) = rows Q K V ⟨512 + r.val, by omega⟩ d := by
  pointwise [k0_pay10]
  rfl
theorem rows2_apply : k0_pay11 Q K V (ix2 r d) = rows Q K V ⟨1024 + r.val, by omega⟩ d := by
  pointwise [k0_pay11]
  rfl
theorem rows3_apply : k0_pay12 Q K V (ix2 r d) = rows Q K V ⟨1536 + r.val, by omega⟩ d := by
  pointwise [k0_pay12]
  rfl

theorem rows_eq (h6 : ∀ k d, x6 (ix2 k d) = rot k d) : rows (k0_pay3 x0 x6 x4 x5 x1) (k0_pay4 x0 x6 x4 x5 x2) (k0_pay5 x0 x3) i d
    = head (fun i t => x0 (ix2 i t)) (fun t d => x1 (ix2 t d)) (fun t d => x2 (ix2 t d)) (fun t d => x3 (ix2 t d)) (fun i d => x4 (ix2 i d)) (fun i d => x5 (ix2 i d)) i d := by
  unfold rows
  simp only [q_apply x0 _ x4 x5 x6 _ _ h6, k_apply x0 _ x4 x5 x6 _ _ h6, v_apply]
  rfl

theorem out_apply (h6 : ∀ k d, x6 (ix2 k d) = rot k d) : out0_7 x0 x1 x2 x3 x4 x5 x6 (ix2 i d)
    = head (fun i t => x0 (ix2 i t)) (fun t d => x1 (ix2 t d)) (fun t d => x2 (ix2 t d)) (fun t d => x3 (ix2 t d)) (fun i d => x4 (ix2 i d)) (fun i d => x5 (ix2 i d)) i d := by
  have l0 : View.ld x0 r0_0 = x0 := View.ld_unit_lit _ x0 (by decide)
  have l1 : View.ld x1 r0_3 = x1 := View.ld_unit_lit _ x1 (by decide)
  have l2 : View.ld x2 r0_3 = x2 := View.ld_unit_lit _ x2 (by decide)
  have l3 : View.ld x3 r0_3 = x3 := View.ld_unit_lit _ x3 (by decide)
  have l4 : View.ld x4 r0_2 = x4 := View.ld_unit_lit _ x4 (by decide)
  have l5 : View.ld x5 r0_2 = x5 := View.ld_unit_lit _ x5 (by decide)
  have l6 : View.ld x6 r0_1 = x6 := View.ld_unit_lit _ x6 (by decide)
  rw [← rows_eq x0 x1 x2 x3 x4 x5 x6 i d h6]
  unfold out0_7 k0_pay13 k0_pay14 k0_pay15
  rw [l0, l1, l2, l3, l4, l5, l6]
  have at2 : ∀ x : S512x128.Idx, ∃ (r : Fin 512) (e : Fin 128), x = ix2 r e := fun x => ⟨⟨(x 0).val, (x 0).isLt⟩, ⟨(x 1).val, (x 1).isLt⟩, by
    funext a; fin_cases a <;> rfl⟩
  refine View.canon_eq_of_allAt _ _ _ (cover0_7 _ _ _ _ _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    obtain ⟨r, e, rfl⟩ := at2 x
    have h0 := hx 0
    have h1 := hx 1
  · obtain rfl : d = e := Fin.ext (h1.trans (Nat.zero_add _))
    rw [rows3_apply]
    congr 1
    exact Fin.ext h0.symm
  · obtain rfl : d = e := Fin.ext (h1.trans (Nat.zero_add _))
    rw [rows2_apply]
    congr 1
    exact Fin.ext h0.symm
  · obtain rfl : d = e := Fin.ext (h1.trans (Nat.zero_add _))
    rw [rows1_apply]
    congr 1
    exact Fin.ext h0.symm
  · obtain rfl : d = e := Fin.ext (h1.trans (Nat.zero_add _))
    rw [rows0_apply]
    congr 1
    exact Fin.ext (h0.trans (Nat.zero_add _)).symm

end point

/-- The two programs' turning matrices are one. -/
theorem lit_eq (k d : Fin 128) : Ideal.ofBits .f32 (lit0 (S128x128.rowMajor (ix2 k d))) = rot k d := Cert.AttentionKernel.lit_eq k d

/-! ## The blocks of the arguments -/

section blocks

variable (m : (ℓ : Loc nD τ sig) → Buf (Elt Ideal) ℓ) (ρ : Dev nD → PrngReg) (c : Dev nD) (t : Fin cfg0.N)

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel
theorem index3 : ∀ t : Fin grid0.N, win0_3.index t = ![0, t.val] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, t.val] := by decide +kernel

/-- Point `t` computes head `t`; its coordinate `d` is this column. -/
def col (t : Fin cfg0.N) (d : Fin 128) : Fin 1024 := ⟨t.val * 128 + d.val, by have : t.val < 8 := t.isLt; omega⟩

theorem block1 (k : Fin 1024) (d : Fin 128) : iblk m c 1 t (ix2 k d) = m ((c : Thread nD τ).loc main_arg1) (ix2 k (col t d)) := by
  rw [← V_main_arg1 m c]
  show V m c main_arg1 _ = V m c main_arg1 _
  refine congrArg (V m c main_arg1) (funext fun a => Fin.ext ?_)
  fin_cases a
  · show win0_1.index t 0 * 1024 + 1 * k.val = k.val
    rw [index1]; show 0 * 1024 + 1 * k.val = k.val; omega
  · show win0_1.index t 1 * 128 + 1 * d.val = t.val * 128 + d.val
    rw [index1]; show t.val * 128 + 1 * d.val = t.val * 128 + d.val; omega
theorem block2 (k : Fin 1024) (d : Fin 128) : iblk m c 2 t (ix2 k d) = m ((c : Thread nD τ).loc main_arg2) (ix2 k (col t d)) := by
  rw [← V_main_arg2 m c]
  show V m c main_arg2 _ = V m c main_arg2 _
  refine congrArg (V m c main_arg2) (funext fun a => Fin.ext ?_)
  fin_cases a
  · show win0_2.index t 0 * 1024 + 1 * k.val = k.val
    rw [index2]; show 0 * 1024 + 1 * k.val = k.val; omega
  · show win0_2.index t 1 * 128 + 1 * d.val = t.val * 128 + d.val
    rw [index2]; show t.val * 128 + 1 * d.val = t.val * 128 + d.val; omega
theorem block3 (k : Fin 1024) (d : Fin 128) : iblk m c 3 t (ix2 k d) = m ((c : Thread nD τ).loc main_arg3) (ix2 k (col t d)) := by
  rw [← V_main_arg3 m c]
  show V m c main_arg3 _ = V m c main_arg3 _
  refine congrArg (V m c main_arg3) (funext fun a => Fin.ext ?_)
  fin_cases a
  · show win0_3.index t 0 * 1024 + 1 * k.val = k.val
    rw [index3]; show 0 * 1024 + 1 * k.val = k.val; omega
  · show win0_3.index t 1 * 128 + 1 * d.val = t.val * 128 + d.val
    rw [index3]; show t.val * 128 + 1 * d.val = t.val * 128 + d.val; omega
theorem block4 (i : Fin 2048) (d : Fin 128) : iblk m c 4 t (ix2 i d) = m ((c : Thread nD τ).loc main_arg4) (ix2 i d) := by
  rw [← V_main_arg4 m c]
  show V m c main_arg4 _ = V m c main_arg4 _
  refine congrArg (V m c main_arg4) (funext fun a => Fin.ext ?_)
  fin_cases a
  · show win0_4.index t 0 * 2048 + 1 * i.val = i.val
    rw [index4]; show 0 * 2048 + 1 * i.val = i.val; omega
  · show win0_4.index t 1 * 128 + 1 * d.val = d.val
    rw [index4]; show 0 * 128 + 1 * d.val = d.val; omega
theorem block5 (i : Fin 2048) (d : Fin 128) : iblk m c 5 t (ix2 i d) = m ((c : Thread nD τ).loc main_arg5) (ix2 i d) := by
  rw [← V_main_arg5 m c]
  show V m c main_arg5 _ = V m c main_arg5 _
  refine congrArg (V m c main_arg5) (funext fun a => Fin.ext ?_)
  fin_cases a
  · show win0_5.index t 0 * 2048 + 1 * i.val = i.val
    rw [index5]; show 0 * 2048 + 1 * i.val = i.val; omega
  · show win0_5.index t 1 * 128 + 1 * d.val = d.val
    rw [index5]; show 0 * 128 + 1 * d.val = d.val; omega

theorem V_x (i : Fin 2048) (k : Fin 1024) : V m c main_v1 (ix2 i k) = m ((c : Thread nD τ).loc main_arg0) (ix3 0 i k) := by
  unfold V
  after_reads_at
theorem V_rot (k d : Fin 128) : V m c main_cst (ix2 k d) = rot k d := by
  unfold V
  after_reads_simp
  exact lit_eq k d

theorem block0 (i : Fin 2048) (k : Fin 1024) : iblk m c 0 t (ix2 i k) = m ((c : Thread nD τ).loc main_arg0) (ix3 0 i k) := by
  rw [← V_x m c]
  show V m c main_v1 _ = V m c main_v1 _
  refine congrArg (V m c main_v1) (funext fun a => Fin.ext ?_)
  fin_cases a
  · show win0_0.index t 0 * 2048 + 1 * i.val = i.val
    rw [index0]; show 0 * 2048 + 1 * i.val = i.val; omega
  · show win0_0.index t 1 * 1024 + 1 * k.val = k.val
    rw [index0]; show 0 * 1024 + 1 * k.val = k.val; omega
theorem block6 (k d : Fin 128) : iblk m c 6 t (ix2 k d) = rot k d := by
  rw [← V_rot m c]
  show V m c main_cst _ = V m c main_cst _
  refine congrArg (V m c main_cst) (funext fun a => Fin.ext ?_)
  fin_cases a
  · show win0_6.index t 0 * 128 + 1 * k.val = k.val
    rw [index6]; show 0 * 128 + 1 * k.val = k.val; omega
  · show win0_6.index t 1 * 128 + 1 * d.val = d.val
    rw [index6]; show 0 * 128 + 1 * d.val = d.val; omega

/-- The result, head by head. -/
theorem final_apply (i : Fin 2048) (d : Fin 128) : (dats m 0 c).arrAt 7 cfg0.N (ix2 i (col t d))
    = head (fun i k => m ((c : Thread nD τ).loc main_arg0) (ix3 0 i k)) (fun k d => m ((c : Thread nD τ).loc main_arg1) (ix2 k (col t d)))
        (fun k d => m ((c : Thread nD τ).loc main_arg2) (ix2 k (col t d))) (fun k d => m ((c : Thread nD τ).loc main_arg3) (ix2 k (col t d)))
        (fun i d => m ((c : Thread nD τ).loc main_arg4) (ix2 i d)) (fun i d => m ((c : Thread nD τ).loc main_arg5) (ix2 i d)) i d := by
  have hb := congrFun (Value.blocks7 m c t (flush0_7 t)) (ix2 i d)
  rw [Value.flushed7 m c t] at hb
  have ho := out_apply (iblk m c 0 t) (iblk m c 1 t) (iblk m c 2 t) (iblk m c 3 t) (iblk m c 4 t) (iblk m c 5 t) (iblk m c 6 t) i d (block6 m c t)
  simp only [block0, block1, block2, block3, block4, block5] at ho
  refine Eq.trans (Eq.trans ?_ hb) ho
  show (dats m 0 c).arrAt 7 cfg0.N _ = (dats m 0 c).arrAt 7 cfg0.N _
  refine congrArg ((dats m 0 c).arrAt 7 cfg0.N) (funext fun a => Fin.ext ?_)
  fin_cases a
  · show i.val = win0_7.index t 0 * 2048 + 1 * i.val
    rw [index7]; show i.val = 0 * 2048 + 1 * i.val; omega
  · show t.val * 128 + d.val = win0_7.index t 1 * 128 + 1 * d.val
    rw [index7]; show t.val * 128 + d.val = t.val * 128 + 1 * d.val; omega

end blocks

end Cert.OneDeviceKernel
-- ==== Proof.OneDeviceReference.lean ====
/-
# The attention alone, its reference read at an index

Its operations in order, each read at an index: the projections cut into eight heads, the rotary embedding, the scores
and their softmax, and the weighted sum of the values.
-/
module

public import proofs.«01_k».proof.Proof.Softmax
public import proofs.«01_k».proof.Proof.Gen.AttentionReferenceIdeal.Run
public import Idealize.ShloMosaic.Lib.ValueIdx

@[expose] public section

noncomputable section

namespace Cert.OneDeviceReference

open Cert.AttentionReferenceIdeal Cert.AttentionReferenceIdeal.Gen Cert.AttentionReferenceIdeal.Facts
open Idealize.ShloMosaic
open Cert.Softmax

variable (X : FVec Ideal S1x2048x1024 .f32) (Wq Wk Wv W : FVec Ideal S1024x1024 .f32) (C S : FVec Ideal S2048x128 .f32)

/-- A projection, cut into heads. -/
def projected : FVec Ideal S1x2048x8x128 .f32 :=
  shapeCast _ (Host.dotGeneral dot_S1x2048x1024_S1024x1024_S1x2048x1024_2_0_01_1_n_n none X W) shapeCasts_S1x2048x1024_S1x2048x8x128
def pairs (T : FVec Ideal S1x2048x8x128 .f32) : FVec Ideal S1x2048x8x64x2 .f32 := shapeCast _ T shapeCasts_S1x2048x8x128_S1x2048x8x64x2
def odds (T : FVec Ideal S1x2048x8x64x2 .f32) : FVec Ideal S1x2048x8x64 .f32 :=
  shapeCast _ (extractStridedSlice S1x2048x8x64x1 ![0, 0, 0, 0, 1] T slices_S1x2048x8x64x2_S1x2048x8x64x1_0_0_0_0_1) shapeCasts_S1x2048x8x64x1_S1x2048x8x64
def evens (T : FVec Ideal S1x2048x8x64x2 .f32) : FVec Ideal S1x2048x8x64 .f32 :=
  shapeCast _ (extractStridedSlice S1x2048x8x64x1 ![0, 0, 0, 0, 0] T slices_S1x2048x8x64x2_S1x2048x8x64x1_0_0_0_0_0) shapeCasts_S1x2048x8x64x1_S1x2048x8x64
def turned (T : FVec Ideal S1x2048x8x128 .f32) : FVec Ideal S1x2048x8x128 .f32 :=
  shapeCast _ (concatenate S1x2048x8x64x2 4 [⟨S1x2048x8x64x1, (broadcastInDim S1x2048x8x64x1 ![0, 1, 2, 3] bcast_S1x2048x8x64_S1x2048x8x64x1_0_1_2_3 (Host.negf (odds (pairs T))))⟩,
    ⟨S1x2048x8x64x1, (broadcastInDim S1x2048x8x64x1 ![0, 1, 2, 3] bcast_S1x2048x8x64_S1x2048x8x64x1_0_1_2_3 (evens (pairs T)))⟩]
    concatenates_S1x2048x8x64x1_S1x2048x8x64x1_S1x2048x8x64x2_d4) shapeCasts_S1x2048x8x64x2_S1x2048x8x128
def table (C : FVec Ideal S2048x128 .f32) : FVec Ideal S1x2048x8x128 .f32 :=
  broadcastInDim S1x2048x8x128 ![0, 1, 2, 3] bcast_S1x2048x1x128_S1x2048x8x128_0_1_2_3 (broadcastInDim S1x2048x1x128 ![1, 3] bcast_S2048x128_S1x2048x1x128_1_3 C)
def rotated (T : FVec Ideal S1x2048x8x128 .f32) : FVec Ideal S1x2048x8x128 .f32 := addf (mulf T (table C)) (mulf (turned T) (table S))
def scores (Q K : FVec Ideal S1x2048x8x128 .f32) : FVec Ideal S1x8x2048x2048 .f32 :=
  mulf (Host.dotGeneral dot_S1x2048x8x128_S1x2048x8x128_S1x8x2048x2048_3_3_1_1_02_02 none Q K) (broadcastInDim S1x8x2048x2048 ![] bcast_S_S1x8x2048x2048 (constant S_ .f32 0x3DB504F3#32))
def widened (T : FVec Ideal S1x8x2048 .f32) : FVec Ideal S1x8x2048x2048 .f32 :=
  broadcastInDim S1x8x2048x2048 ![0, 1, 2, 3] bcast_S1x8x2048x1_S1x8x2048x2048_0_1_2_3 (broadcastInDim S1x8x2048x1 ![0, 1, 2] bcast_S1x8x2048_S1x8x2048x1_0_1_2 T)
def exps (T : FVec Ideal S1x8x2048x2048 .f32) : FVec Ideal S1x8x2048x2048 .f32 :=
  Host.exp (subf T (widened (Host.reduce FloatOps.maximumf T (constant S_ .f32 0xFF800000#32) reducesTo_S1x8x2048x2048_S1x8x2048_d3 h_S_)))
def weights (E : FVec Ideal S1x8x2048x2048 .f32) : FVec Ideal S1x8x2048x2048 .f32 :=
  Host.divf E (widened (Host.reduceAdd E (constant S_ .f32 0x00000000#32) reducesTo_S1x8x2048x2048_S1x8x2048_d3 h_S_))
def gathered (V : FVec Ideal S1x2048x8x128 .f32) (A : FVec Ideal S1x8x2048x2048 .f32) : FVec Ideal S2048x1024 .f32 :=
  shapeCast _ (transpose S1x2048x8x128 [0, 3, 1, 2] (Host.dotGeneral dot_S1x2048x8x128_S1x8x2048x2048_S1x8x128x2048_1_3_3_2_02_01 none V A) transposes_S1x8x128x2048_S1x2048x8x128_0_3_1_2) shapeCasts_S1x2048x8x128_S2048x1024

/-- The reference's result, of its arguments. -/
def result : FVec Ideal S2048x1024 .f32 :=
  gathered (projected X Wv) (weights (exps (scores (rotated C S (projected X Wq)) (rotated C S (projected X Wk)))))

theorem res_eq (m : (ℓ : Loc nD τ sig) → Buf (Elt Ideal) ℓ) (c : Dev nD) :
    Value.res_main_v54 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

/-! ## At an index -/

variable (i j : Fin 2048) (h : Fin 8) (d : Fin 128)

/-- The column of head `h`'s coordinate `d`. -/
def col (h : Fin 8) (d : Fin 128) : Fin 1024 := ⟨h.val * 128 + d.val, by omega⟩

theorem projected_apply : projected X W (ix4 0 i h d) = ∑ t : Fin 1024, X (ix3 0 i t) * W (ix2 t (col h d)) := by
  pointwise [projected]
  rfl

theorem table_apply : table C (ix4 0 i h d) = C (ix2 i d) := by
  pointwise [table]

theorem turned_apply (T : FVec Ideal S1x2048x8x128 .f32) : turned T (ix4 0 i h d) = turn (fun e => T (ix4 0 i h e)) d := by
  pointwise [turned, odds, evens, pairs]
  unfold turn
  by_cases h0 : d.val % 2 = 0
  · have h1 : d.val % 2 < 1 := by omega
    rw [dif_pos h1, dif_pos h0]
    refine congrArg (fun e => -(T (ix4 0 i h e))) (Fin.ext ?_)
    show d.val / 2 * 2 + 1 = d.val + 1
    omega
  · have h1 : ¬ d.val % 2 < 1 := by omega
    rw [dif_neg h1, dif_neg h0]
    refine congrArg (fun e => T (ix4 0 i h e)) (Fin.ext ?_)
    show d.val / 2 * 2 = d.val - 1
    omega

theorem rotated_apply (T : FVec Ideal S1x2048x8x128 .f32) :
    rotated C S T (ix4 0 i h d) = roped (fun e => T (ix4 0 i h e)) (fun e => C (ix2 i e)) (fun e => S (ix2 i e)) d := by
  show (T (ix4 0 i h d) : EReal) * table C (ix4 0 i h d) + turned T (ix4 0 i h d) * table S (ix4 0 i h d) = _
  rw [table_apply, table_apply, turned_apply]
  rfl

theorem scores_apply (Q K : FVec Ideal S1x2048x8x128 .f32) : scores Q K (ix4 0 h i j) = (∑ d : Fin 128, Q (ix4 0 i h d) * K (ix4 0 j h d)) * scale := by
  pointwise [scores]
  rfl

theorem exps_apply (T : FVec Ideal S1x8x2048x2048 .f32) :
    exps T (ix4 0 h i j) = Ideal.exp (T (ix4 0 h i j) - (Finset.univ : Finset (Fin 2048)).fold max ⊥ fun k => T (ix4 0 h i k)) := by
  pointwise [exps, widened]
  rw [show Ideal.ofBits .f32 4286578688#32 = ⊥ by simp [Ideal.ofBits, Ideal.ieee]]

theorem weights_apply (T : FVec Ideal S1x8x2048x2048 .f32) : weights T (ix4 0 h i j) = Ideal.div (T (ix4 0 h i j)) (∑ k : Fin 2048, T (ix4 0 h i k)) := by
  pointwise [weights, widened]

theorem gathered_apply (V : FVec Ideal S1x2048x8x128 .f32) (A : FVec Ideal S1x8x2048x2048 .f32) :
    gathered V A (ix2 i (col h d)) = ∑ j : Fin 2048, V (ix4 0 j h d) * A (ix4 0 h i j) := by
  pointwise [gathered]
  have h1 : (⟨(col h d).val / 128, by have := (col h d).isLt; omega⟩ : Fin 8) = h := Fin.ext (by show (h.val * 128 + d.val) / 128 = h.val; omega)
  have h2 : (⟨(col h d).val % 128, by omega⟩ : Fin 128) = d := Fin.ext (by show (h.val * 128 + d.val) % 128 = d.val; omega)
  simp only [h1, h2]

/-! ## The result, head by head -/

section result

variable (hX : ∀ i, IsReal (X i)) (hq : ∀ i, IsReal (Wq i)) (hk : ∀ i, IsReal (Wk i)) (hC : ∀ i, IsReal (C i)) (hS : ∀ i, IsReal (S i))
include hX hq hk hC hS

theorem result_apply : result X Wq Wk Wv C S (ix2 i (col h d))
    = head (fun i t => X (ix3 0 i t)) (fun t d => Wq (ix2 t (col h d))) (fun t d => Wk (ix2 t (col h d))) (fun t d => Wv (ix2 t (col h d)))
        (fun i d => C (ix2 i d)) (fun i d => S (ix2 i d)) i d := by
  rw [head_eq _ _ _ _ _ _ (fun i t => hX _) (fun t d => hq _) (fun t d => hk _) (fun i d => hC _) (fun i d => hS _)]
  unfold result
  rw [gathered_apply]
  refine Finset.sum_congr rfl fun j _ => ?_
  have hs : ∀ i j : Fin 2048, scores (rotated C S (projected X Wq)) (rotated C S (projected X Wk)) (ix4 0 h i j)
      = score (fun i t => X (ix3 0 i t)) (fun t d => Wq (ix2 t (col h d))) (fun t d => Wk (ix2 t (col h d)))
        (fun i d => C (ix2 i d)) (fun i d => S (ix2 i d)) i j := fun i j => by
    rw [scores_apply]
    unfold score
    refine congrArg (· * scale) (Finset.sum_congr rfl fun d _ => ?_)
    rw [rotated_apply, rotated_apply]
    simp only [projected_apply]
    rfl
  rw [weights_apply, projected_apply]
  simp only [exps_apply, hs]
  rfl

end result

end Cert.OneDeviceReference
-- ==== Proof.OneDeviceValue.lean ====
/-
# The attention alone, kernel against reference

What the precondition says of each array, and the two results equal, every row and every one of the eight heads.
-/
module

public import proofs.«01_k».proof.Proof.AttentionValue
public import proofs.«01_k».proof.Proof.OneDeviceKernel
public import proofs.«01_k».proof.Proof.OneDeviceReference
public import proofs.«01_k».proof.Proof.Gen.Pre_attention_inputs_finite

@[expose] public section

noncomputable section

namespace Cert.OneDeviceValue

open Idealize.ShloMosaic
open Cert.Softmax Cert.AttentionValue

/-! ## The precondition -/

open Cert.Pre_attention_inputs_finite in
theorem finite (x : FVec Ideal S1x2048x1024 .f32) (q k v : FVec Ideal S1024x1024 .f32) (C S : FVec Ideal S2048x128 .f32)
    (h : fn (F := Ideal) x q k v C S = fun _ => 1#1) :
    (∀ i, IsReal (x i)) ∧ (∀ i, IsReal (q i)) ∧ (∀ i, IsReal (k i)) ∧ (∀ i, IsReal (C i)) ∧ ∀ i, IsReal (S i) := by
  haveI : Subsingleton S_.Idx := ⟨fun a b => funext fun t => t.elim0⟩
  have h0 := congrFun h (Shape.Idx.first Facts.h_S_)
  unfold fn fn_part1 at h0
  obtain ⟨h0, h5⟩ := andi_split _ _ _ h0
  obtain ⟨h0, h4⟩ := andi_split _ _ _ h0
  obtain ⟨h0, h2⟩ := andi_split _ _ _ h0
  obtain ⟨h0, h1⟩ := andi_split _ _ _ h0
  exact ⟨fun i => isReal_of_lt _ x i (Host.reduce_andi_all _ _ _ _ _ h0 i), fun i => isReal_of_lt _ q i (Host.reduce_andi_all _ _ _ _ _ h1 i),
    fun i => isReal_of_lt _ k i (Host.reduce_andi_all _ _ _ _ _ h2 i), fun i => isReal_of_lt _ C i (Host.reduce_andi_all _ _ _ _ _ h4 i),
    fun i => isReal_of_lt _ S i (Host.reduce_andi_all _ _ _ _ _ h5 i)⟩

/-! ## The result -/

section result

open Cert.AttentionIdeal Cert.AttentionIdeal.Gen

variable (m : (ℓ : Loc nD τ sig) → Buf (Elt Ideal) ℓ) (c : Dev nD)

/-- With the precondition the kernel's result is the reference's. -/
theorem final_eq
    (h : Cert.Pre_attention_inputs_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    (dats m 0 c).arrAt 7 cfg0.N = Cert.OneDeviceReference.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  obtain ⟨hX, hq, hk, hC, hS⟩ := Cert.OneDeviceValue.finite _ _ _ _ _ _ h
  funext j
  have h1 : (j 1).val < 1024 := (j 1).isLt
  let t : Fin 8 := ⟨(j 1).val / 128, by omega⟩
  let d : Fin 128 := ⟨(j 1).val % 128, Nat.mod_lt _ (by norm_num)⟩
  have hj : j = ix2 (j 0) (Cert.OneDeviceReference.col t d) := by
    funext a
    match a with
    | 0 => rfl
    | 1 => exact Fin.ext (by show (j 1).val = (j 1).val / 128 * 128 + (j 1).val % 128; omega)
  rw [hj]
  exact (Cert.OneDeviceKernel.final_apply m c t (j 0) d).trans (Cert.OneDeviceReference.result_apply _ _ _ _ _ _ (j 0) t d hX hq hk hC hS).symm

end result

end Cert.OneDeviceValue
-- ==== Proof.lean ====
/-
# The claims, put together

The frames of the kernel, its idealization and the reference, and the equality of the last two over the reals, where the
inputs that enter the scores are finite. Then the same of the attention alone, on one device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tables_and_inputs_finite_KernelIdeal
public import proofs.«01_k».proof.Proof.Gen.Pre_tables_and_inputs_finite_ReferenceIdeal
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.Pre_attention_inputs_finite
public import proofs.«01_k».proof.Proof.Value
public import proofs.«01_k».proof.Proof.AttentionValue
public import proofs.«01_k».proof.Proof.OneDeviceValue
public import Idealize.ShloMosaic.Adequacy
public import Idealize.ShloMosaic.Init

@[expose] public section

noncomputable section

namespace Cert.Proof

open Idealize.ShloMosaic Idealize.SL.Sem

/-- The two printed kernels are one text: their body tables agree, label by label, -/
theorem bodies_eq : (Cert.Kernel.defs₀ (F := Bits)) = Cert.KernelIdeal.defs₀ (F := Bits) := by
  unfold Cert.Kernel.defs₀ Cert.KernelIdeal.defs₀
  refine congrArg Defs.onTc (funext fun l => funext fun x => ?_)
  match l, x with
  | 0, (_, _) => rfl
  | 1, (_, _) => rfl
  | ⟨_ + 2, h⟩, _ => exact absurd h (Nat.not_lt.2 (Nat.le_add_left _ _))
theorem defs_eq : (Cert.Kernel.defs (F := Bits)) = Cert.KernelIdeal.defs (F := Bits) := by
  unfold Cert.Kernel.defs Cert.KernelIdeal.defs
  rw [bodies_eq]; rfl

section frames

open Cert.KernelIdeal

/-- Whatever the floats are, the run ends with the arguments as they were and every semaphore at zero. -/
theorem run_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (Cert.Exchange.run (F := F) m g)

end frames

/-- The run read at the machine's words is the first frame, -/
theorem frame_kernel : Cert.quiescent_Kernel := fun m g _ => by
  rw [defs_eq]; exact run_frame (F := Bits) m g
/-- read at the extended reals the second. -/
theorem frame_ideal : Cert.quiescent_KernelIdeal := fun m g _ => run_frame (F := Ideal) m g
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On every device the kernel ends with the reference's result. -/
theorem algebraic : Cert.algebraic_KernelIdeal_ReferenceIdeal_pre_tables_and_inputs_finite_KernelIdeal := fun m g m' g' hpre hm =>
  ⟨_, (θ_run Cert.KernelIdeal.defs _ _).mono (fun _ h c => ⟨(h.1 c).1.trans
        (Cert.AttentionValue.res_eq m _ _ _ _ _ _ _ c (fun d => Cert.AttentionValue.context_apply m _ _ _ _ _ _ d (hpre d) (hm d).1 (hm d).2.1
          (hm d).2.2.1 (hm d).2.2.2.1 (hm d).2.2.2.2.2.1 (hm d).2.2.2.2.2.2) (fun d => (hm d).2.2.2.2.1)), (h.1 c).2⟩)
      (Cert.Exchange.run (F := Ideal) m g),
    (θ_run Cert.ReferenceIdeal.defs _ _).mono (fun _ h => ⟨(h 0).1.trans (Cert.AttentionReference.res_eq m' 0), (h 0).2⟩)
      (Cert.ReferenceIdeal.Value.run (F := Ideal) m' g')⟩

/-! ## The attention on one device -/

theorem frame_attention_reference : Cert.quiescent_AttentionReferenceIdeal := fun m g _ =>
  (θ_run Cert.AttentionReferenceIdeal.defs _ _).mono (fun r h => ⟨fun c => (h c).2, sem_eq_zero_of_no_sems (by decide) r.2⟩)
    (Cert.AttentionReferenceIdeal.Value.run (F := Ideal) m g)

/-- The attention ends with its reference's, all eight heads of it. -/
theorem algebraic_attention : Cert.algebraic_AttentionIdeal_AttentionReferenceIdeal_pre_attention_inputs_finite := fun m g m' g' hpre hm =>
  ⟨fun c => Cert.OneDeviceReference.result _ _ _ _ _ _,
    (θ_run Cert.AttentionIdeal.defs _ _).mono (fun _ h c => ⟨(h c).1.trans (Cert.OneDeviceValue.final_eq m c (hpre c)), (h c).2⟩)
      (Cert.AttentionIdeal.Value.run_blocks m g),
    (θ_run Cert.AttentionReferenceIdeal.defs _ _).mono (fun _ h c => ⟨(h c).1.trans (by
        rw [Cert.OneDeviceReference.res_eq, (hm c).1, (hm c).2.1, (hm c).2.2.1, (hm c).2.2.2.1, (hm c).2.2.2.2.1, (hm c).2.2.2.2.2]), (h c).2⟩)
      (Cert.AttentionReferenceIdeal.Value.run (F := Ideal) m' g')⟩

theorem claim : Cert.Claim := ⟨Cert.Kernel.Gen.facts, Cert.KernelIdeal.Gen.facts, Cert.ReferenceIdeal.Gen.facts,
  Cert.Attention.Gen.facts, Cert.AttentionIdeal.Gen.facts, Cert.AttentionReferenceIdeal.Gen.facts,
  Cert.Pre_tables_and_inputs_finite_KernelIdeal.Gen.facts, Cert.Pre_tables_and_inputs_finite_ReferenceIdeal.Gen.facts,
  Cert.Pre_attention_inputs_finite.Gen.facts,
  frame_kernel, frame_ideal, fun m g _ => frame_ideal m g trivial, frame_reference, fun m g _ => frame_reference m g trivial,
  fun m g _ => Cert.Attention.Gen.frame m g, fun m g _ => Cert.AttentionIdeal.Gen.frame m g, fun m g _ => Cert.AttentionIdeal.Gen.frame m g,
  frame_attention_reference, fun m g _ => frame_attention_reference m g trivial,
  trivial, algebraic, trivial, algebraic_attention⟩

end Cert.Proof

end
